-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_order [hPre_in_order : Cert.Pre_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_order [hPre_in_order : Cert.Pre_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_QaProj (m : (ℓ : Loc Cert.QaProj.nD Cert.QaProj.τ Cert.QaProj.sig) → Buf (Elt Bits) ℓ) : Prop :=
  True

def Pre_QaProjIdeal (m : (ℓ : Loc Cert.QaProjIdeal.nD Cert.QaProjIdeal.τ Cert.QaProjIdeal.sig) → Buf (Elt Ideal) ℓ) : Prop :=
  True

def Pre_QaProjIdeal_counts_up_qa [hPre_counts_up_qa : Cert.Pre_counts_up_qa.Facts] (m : (ℓ : Loc Cert.QaProjIdeal.nD Cert.QaProjIdeal.τ Cert.QaProjIdeal.sig) → Buf (Elt Ideal) ℓ) : Prop :=
  ∀ c : Dev Cert.QaProjIdeal.nD,
    (Cert.Pre_counts_up_qa.fn (F := Ideal) (m ((c.tc : Thread Cert.QaProjIdeal.nD Cert.QaProjIdeal.τ).loc Cert.QaProjIdeal.main_arg0)) (m ((c.tc : Thread Cert.QaProjIdeal.nD Cert.QaProjIdeal.τ).loc Cert.QaProjIdeal.main_arg1)) (m ((c.tc : Thread Cert.QaProjIdeal.nD Cert.QaProjIdeal.τ).loc Cert.QaProjIdeal.main_arg2)) (m ((c.tc : Thread Cert.QaProjIdeal.nD Cert.QaProjIdeal.τ).loc Cert.QaProjIdeal.main_arg3)) (m ((c.tc : Thread Cert.QaProjIdeal.nD Cert.QaProjIdeal.τ).loc Cert.QaProjIdeal.main_arg4)) (m ((c.tc : Thread Cert.QaProjIdeal.nD Cert.QaProjIdeal.τ).loc Cert.QaProjIdeal.main_arg5))) = (fun _ => 1#1)

def Pre_QaProjRefIdeal (m : (ℓ : Loc Cert.QaProjRefIdeal.nD Cert.QaProjRefIdeal.τ Cert.QaProjRefIdeal.sig) → Buf (Elt Ideal) ℓ) : Prop :=
  True

def Pre_QaProjRefIdeal_counts_up_qa [hPre_counts_up_qa : Cert.Pre_counts_up_qa.Facts] (m : (ℓ : Loc Cert.QaProjRefIdeal.nD Cert.QaProjRefIdeal.τ Cert.QaProjRefIdeal.sig) → Buf (Elt Ideal) ℓ) : Prop :=
  ∀ c : Dev Cert.QaProjRefIdeal.nD,
    (Cert.Pre_counts_up_qa.fn (F := Ideal) (m ((c.tc : Thread Cert.QaProjRefIdeal.nD Cert.QaProjRefIdeal.τ).loc Cert.QaProjRefIdeal.main_arg0)) (m ((c.tc : Thread Cert.QaProjRefIdeal.nD Cert.QaProjRefIdeal.τ).loc Cert.QaProjRefIdeal.main_arg1)) (m ((c.tc : Thread Cert.QaProjRefIdeal.nD Cert.QaProjRefIdeal.τ).loc Cert.QaProjRefIdeal.main_arg2)) (m ((c.tc : Thread Cert.QaProjRefIdeal.nD Cert.QaProjRefIdeal.τ).loc Cert.QaProjRefIdeal.main_arg3)) (m ((c.tc : Thread Cert.QaProjRefIdeal.nD Cert.QaProjRefIdeal.τ).loc Cert.QaProjRefIdeal.main_arg4)) (m ((c.tc : Thread Cert.QaProjRefIdeal.nD Cert.QaProjRefIdeal.τ).loc Cert.QaProjRefIdeal.main_arg5))) = (fun _ => 1#1)

def Pre_KvaProj (m : (ℓ : Loc Cert.KvaProj.nD Cert.KvaProj.τ Cert.KvaProj.sig) → Buf (Elt Bits) ℓ) : Prop :=
  True

def Pre_KvaProjIdeal (m : (ℓ : Loc Cert.KvaProjIdeal.nD Cert.KvaProjIdeal.τ Cert.KvaProjIdeal.sig) → Buf (Elt Ideal) ℓ) : Prop :=
  True

def Pre_KvaProjIdeal_counts_up_kva [hPre_counts_up_kva : Cert.Pre_counts_up_kva.Facts] (m : (ℓ : Loc Cert.KvaProjIdeal.nD Cert.KvaProjIdeal.τ Cert.KvaProjIdeal.sig) → Buf (Elt Ideal) ℓ) : Prop :=
  ∀ c : Dev Cert.KvaProjIdeal.nD,
    (Cert.Pre_counts_up_kva.fn (F := Ideal) (m ((c.tc : Thread Cert.KvaProjIdeal.nD Cert.KvaProjIdeal.τ).loc Cert.KvaProjIdeal.main_arg0)) (m ((c.tc : Thread Cert.KvaProjIdeal.nD Cert.KvaProjIdeal.τ).loc Cert.KvaProjIdeal.main_arg1)) (m ((c.tc : Thread Cert.KvaProjIdeal.nD Cert.KvaProjIdeal.τ).loc Cert.KvaProjIdeal.main_arg2)) (m ((c.tc : Thread Cert.KvaProjIdeal.nD Cert.KvaProjIdeal.τ).loc Cert.KvaProjIdeal.main_arg3)) (m ((c.tc : Thread Cert.KvaProjIdeal.nD Cert.KvaProjIdeal.τ).loc Cert.KvaProjIdeal.main_arg4)) (m ((c.tc : Thread Cert.KvaProjIdeal.nD Cert.KvaProjIdeal.τ).loc Cert.KvaProjIdeal.main_arg5))) = (fun _ => 1#1)

def Pre_KvaProjRefIdeal (m : (ℓ : Loc Cert.KvaProjRefIdeal.nD Cert.KvaProjRefIdeal.τ Cert.KvaProjRefIdeal.sig) → Buf (Elt Ideal) ℓ) : Prop :=
  True

def Pre_KvaProjRefIdeal_counts_up_kva [hPre_counts_up_kva : Cert.Pre_counts_up_kva.Facts] (m : (ℓ : Loc Cert.KvaProjRefIdeal.nD Cert.KvaProjRefIdeal.τ Cert.KvaProjRefIdeal.sig) → Buf (Elt Ideal) ℓ) : Prop :=
  ∀ c : Dev Cert.KvaProjRefIdeal.nD,
    (Cert.Pre_counts_up_kva.fn (F := Ideal) (m ((c.tc : Thread Cert.KvaProjRefIdeal.nD Cert.KvaProjRefIdeal.τ).loc Cert.KvaProjRefIdeal.main_arg0)) (m ((c.tc : Thread Cert.KvaProjRefIdeal.nD Cert.KvaProjRefIdeal.τ).loc Cert.KvaProjRefIdeal.main_arg1)) (m ((c.tc : Thread Cert.KvaProjRefIdeal.nD Cert.KvaProjRefIdeal.τ).loc Cert.KvaProjRefIdeal.main_arg2)) (m ((c.tc : Thread Cert.KvaProjRefIdeal.nD Cert.KvaProjRefIdeal.τ).loc Cert.KvaProjRefIdeal.main_arg3)) (m ((c.tc : Thread Cert.KvaProjRefIdeal.nD Cert.KvaProjRefIdeal.τ).loc Cert.KvaProjRefIdeal.main_arg4)) (m ((c.tc : Thread Cert.KvaProjRefIdeal.nD Cert.KvaProjRefIdeal.τ).loc Cert.KvaProjRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_order [hKernelIdeal : Cert.KernelIdeal.Facts] [hPre_in_order : Cert.Pre_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_order [hReferenceIdeal : Cert.ReferenceIdeal.Facts] [hPre_in_order : Cert.Pre_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_QaProj [hQaProj : Cert.QaProj.Facts] : Prop :=
  ∀ (m : (ℓ : Loc Cert.QaProj.nD Cert.QaProj.τ Cert.QaProj.sig) → Buf (Elt Bits) ℓ) (g : Dev Cert.QaProj.nD → PrngReg), Pre_QaProj m →
    θ_run (Cert.QaProj.defs (F := Bits)) (onTc (τ := Cert.QaProj.τ) (Cert.QaProj.main (F := Bits))) ⟨m, fun _ => 0, g⟩ (fun r => (∀ c : Dev Cert.QaProj.nD,
      r.2.mem ((c.tc : Thread Cert.QaProj.nD Cert.QaProj.τ).loc Cert.QaProj.main_arg0) = m ((c.tc : Thread Cert.QaProj.nD Cert.QaProj.τ).loc Cert.QaProj.main_arg0)
      ∧ r.2.mem ((c.tc : Thread Cert.QaProj.nD Cert.QaProj.τ).loc Cert.QaProj.main_arg1) = m ((c.tc : Thread Cert.QaProj.nD Cert.QaProj.τ).loc Cert.QaProj.main_arg1)
      ∧ r.2.mem ((c.tc : Thread Cert.QaProj.nD Cert.QaProj.τ).loc Cert.QaProj.main_arg2) = m ((c.tc : Thread Cert.QaProj.nD Cert.QaProj.τ).loc Cert.QaProj.main_arg2)
      ∧ r.2.mem ((c.tc : Thread Cert.QaProj.nD Cert.QaProj.τ).loc Cert.QaProj.main_arg3) = m ((c.tc : Thread Cert.QaProj.nD Cert.QaProj.τ).loc Cert.QaProj.main_arg3)
      ∧ r.2.mem ((c.tc : Thread Cert.QaProj.nD Cert.QaProj.τ).loc Cert.QaProj.main_arg4) = m ((c.tc : Thread Cert.QaProj.nD Cert.QaProj.τ).loc Cert.QaProj.main_arg4)
      ∧ r.2.mem ((c.tc : Thread Cert.QaProj.nD Cert.QaProj.τ).loc Cert.QaProj.main_arg5) = m ((c.tc : Thread Cert.QaProj.nD Cert.QaProj.τ).loc Cert.QaProj.main_arg5))
      ∧ r.2.sem = fun _ => 0)

def quiescent_QaProjIdeal [hQaProjIdeal : Cert.QaProjIdeal.Facts] : Prop :=
  ∀ (m : (ℓ : Loc Cert.QaProjIdeal.nD Cert.QaProjIdeal.τ Cert.QaProjIdeal.sig) → Buf (Elt Ideal) ℓ) (g : Dev Cert.QaProjIdeal.nD → PrngReg), Pre_QaProjIdeal m →
    θ_run (Cert.QaProjIdeal.defs (F := Ideal)) (onTc (τ := Cert.QaProjIdeal.τ) (Cert.QaProjIdeal.main (F := Ideal))) ⟨m, fun _ => 0, g⟩ (fun r => (∀ c : Dev Cert.QaProjIdeal.nD,
      r.2.mem ((c.tc : Thread Cert.QaProjIdeal.nD Cert.QaProjIdeal.τ).loc Cert.QaProjIdeal.main_arg0) = m ((c.tc : Thread Cert.QaProjIdeal.nD Cert.QaProjIdeal.τ).loc Cert.QaProjIdeal.main_arg0)
      ∧ r.2.mem ((c.tc : Thread Cert.QaProjIdeal.nD Cert.QaProjIdeal.τ).loc Cert.QaProjIdeal.main_arg1) = m ((c.tc : Thread Cert.QaProjIdeal.nD Cert.QaProjIdeal.τ).loc Cert.QaProjIdeal.main_arg1)
      ∧ r.2.mem ((c.tc : Thread Cert.QaProjIdeal.nD Cert.QaProjIdeal.τ).loc Cert.QaProjIdeal.main_arg2) = m ((c.tc : Thread Cert.QaProjIdeal.nD Cert.QaProjIdeal.τ).loc Cert.QaProjIdeal.main_arg2)
      ∧ r.2.mem ((c.tc : Thread Cert.QaProjIdeal.nD Cert.QaProjIdeal.τ).loc Cert.QaProjIdeal.main_arg3) = m ((c.tc : Thread Cert.QaProjIdeal.nD Cert.QaProjIdeal.τ).loc Cert.QaProjIdeal.main_arg3)
      ∧ r.2.mem ((c.tc : Thread Cert.QaProjIdeal.nD Cert.QaProjIdeal.τ).loc Cert.QaProjIdeal.main_arg4) = m ((c.tc : Thread Cert.QaProjIdeal.nD Cert.QaProjIdeal.τ).loc Cert.QaProjIdeal.main_arg4)
      ∧ r.2.mem ((c.tc : Thread Cert.QaProjIdeal.nD Cert.QaProjIdeal.τ).loc Cert.QaProjIdeal.main_arg5) = m ((c.tc : Thread Cert.QaProjIdeal.nD Cert.QaProjIdeal.τ).loc Cert.QaProjIdeal.main_arg5))
      ∧ r.2.sem = fun _ => 0)

def quiescent_QaProjIdeal_pre_counts_up_qa [hQaProjIdeal : Cert.QaProjIdeal.Facts] [hPre_counts_up_qa : Cert.Pre_counts_up_qa.Facts] : Prop :=
  ∀ (m : (ℓ : Loc Cert.QaProjIdeal.nD Cert.QaProjIdeal.τ Cert.QaProjIdeal.sig) → Buf (Elt Ideal) ℓ) (g : Dev Cert.QaProjIdeal.nD → PrngReg), Pre_QaProjIdeal_counts_up_qa m →
    θ_run (Cert.QaProjIdeal.defs (F := Ideal)) (onTc (τ := Cert.QaProjIdeal.τ) (Cert.QaProjIdeal.main (F := Ideal))) ⟨m, fun _ => 0, g⟩ (fun r => (∀ c : Dev Cert.QaProjIdeal.nD,
      r.2.mem ((c.tc : Thread Cert.QaProjIdeal.nD Cert.QaProjIdeal.τ).loc Cert.QaProjIdeal.main_arg0) = m ((c.tc : Thread Cert.QaProjIdeal.nD Cert.QaProjIdeal.τ).loc Cert.QaProjIdeal.main_arg0)
      ∧ r.2.mem ((c.tc : Thread Cert.QaProjIdeal.nD Cert.QaProjIdeal.τ).loc Cert.QaProjIdeal.main_arg1) = m ((c.tc : Thread Cert.QaProjIdeal.nD Cert.QaProjIdeal.τ).loc Cert.QaProjIdeal.main_arg1)
      ∧ r.2.mem ((c.tc : Thread Cert.QaProjIdeal.nD Cert.QaProjIdeal.τ).loc Cert.QaProjIdeal.main_arg2) = m ((c.tc : Thread Cert.QaProjIdeal.nD Cert.QaProjIdeal.τ).loc Cert.QaProjIdeal.main_arg2)
      ∧ r.2.mem ((c.tc : Thread Cert.QaProjIdeal.nD Cert.QaProjIdeal.τ).loc Cert.QaProjIdeal.main_arg3) = m ((c.tc : Thread Cert.QaProjIdeal.nD Cert.QaProjIdeal.τ).loc Cert.QaProjIdeal.main_arg3)
      ∧ r.2.mem ((c.tc : Thread Cert.QaProjIdeal.nD Cert.QaProjIdeal.τ).loc Cert.QaProjIdeal.main_arg4) = m ((c.tc : Thread Cert.QaProjIdeal.nD Cert.QaProjIdeal.τ).loc Cert.QaProjIdeal.main_arg4)
      ∧ r.2.mem ((c.tc : Thread Cert.QaProjIdeal.nD Cert.QaProjIdeal.τ).loc Cert.QaProjIdeal.main_arg5) = m ((c.tc : Thread Cert.QaProjIdeal.nD Cert.QaProjIdeal.τ).loc Cert.QaProjIdeal.main_arg5))
      ∧ r.2.sem = fun _ => 0)

def quiescent_QaProjRefIdeal [hQaProjRefIdeal : Cert.QaProjRefIdeal.Facts] : Prop :=
  ∀ (m : (ℓ : Loc Cert.QaProjRefIdeal.nD Cert.QaProjRefIdeal.τ Cert.QaProjRefIdeal.sig) → Buf (Elt Ideal) ℓ) (g : Dev Cert.QaProjRefIdeal.nD → PrngReg), Pre_QaProjRefIdeal m →
    θ_run (Cert.QaProjRefIdeal.defs (F := Ideal)) (onTc (τ := Cert.QaProjRefIdeal.τ) (Cert.QaProjRefIdeal.main (F := Ideal))) ⟨m, fun _ => 0, g⟩ (fun r => (∀ c : Dev Cert.QaProjRefIdeal.nD,
      r.2.mem ((c.tc : Thread Cert.QaProjRefIdeal.nD Cert.QaProjRefIdeal.τ).loc Cert.QaProjRefIdeal.main_arg0) = m ((c.tc : Thread Cert.QaProjRefIdeal.nD Cert.QaProjRefIdeal.τ).loc Cert.QaProjRefIdeal.main_arg0)
      ∧ r.2.mem ((c.tc : Thread Cert.QaProjRefIdeal.nD Cert.QaProjRefIdeal.τ).loc Cert.QaProjRefIdeal.main_arg1) = m ((c.tc : Thread Cert.QaProjRefIdeal.nD Cert.QaProjRefIdeal.τ).loc Cert.QaProjRefIdeal.main_arg1)
      ∧ r.2.mem ((c.tc : Thread Cert.QaProjRefIdeal.nD Cert.QaProjRefIdeal.τ).loc Cert.QaProjRefIdeal.main_arg2) = m ((c.tc : Thread Cert.QaProjRefIdeal.nD Cert.QaProjRefIdeal.τ).loc Cert.QaProjRefIdeal.main_arg2)
      ∧ r.2.mem ((c.tc : Thread Cert.QaProjRefIdeal.nD Cert.QaProjRefIdeal.τ).loc Cert.QaProjRefIdeal.main_arg3) = m ((c.tc : Thread Cert.QaProjRefIdeal.nD Cert.QaProjRefIdeal.τ).loc Cert.QaProjRefIdeal.main_arg3)
      ∧ r.2.mem ((c.tc : Thread Cert.QaProjRefIdeal.nD Cert.QaProjRefIdeal.τ).loc Cert.QaProjRefIdeal.main_arg4) = m ((c.tc : Thread Cert.QaProjRefIdeal.nD Cert.QaProjRefIdeal.τ).loc Cert.QaProjRefIdeal.main_arg4)
      ∧ r.2.mem ((c.tc : Thread Cert.QaProjRefIdeal.nD Cert.QaProjRefIdeal.τ).loc Cert.QaProjRefIdeal.main_arg5) = m ((c.tc : Thread Cert.QaProjRefIdeal.nD Cert.QaProjRefIdeal.τ).loc Cert.QaProjRefIdeal.main_arg5))
      ∧ r.2.sem = fun _ => 0)

def quiescent_QaProjRefIdeal_pre_counts_up_qa [hQaProjRefIdeal : Cert.QaProjRefIdeal.Facts] [hPre_counts_up_qa : Cert.Pre_counts_up_qa.Facts] : Prop :=
  ∀ (m : (ℓ : Loc Cert.QaProjRefIdeal.nD Cert.QaProjRefIdeal.τ Cert.QaProjRefIdeal.sig) → Buf (Elt Ideal) ℓ) (g : Dev Cert.QaProjRefIdeal.nD → PrngReg), Pre_QaProjRefIdeal_counts_up_qa m →
    θ_run (Cert.QaProjRefIdeal.defs (F := Ideal)) (onTc (τ := Cert.QaProjRefIdeal.τ) (Cert.QaProjRefIdeal.main (F := Ideal))) ⟨m, fun _ => 0, g⟩ (fun r => (∀ c : Dev Cert.QaProjRefIdeal.nD,
      r.2.mem ((c.tc : Thread Cert.QaProjRefIdeal.nD Cert.QaProjRefIdeal.τ).loc Cert.QaProjRefIdeal.main_arg0) = m ((c.tc : Thread Cert.QaProjRefIdeal.nD Cert.QaProjRefIdeal.τ).loc Cert.QaProjRefIdeal.main_arg0)
      ∧ r.2.mem ((c.tc : Thread Cert.QaProjRefIdeal.nD Cert.QaProjRefIdeal.τ).loc Cert.QaProjRefIdeal.main_arg1) = m ((c.tc : Thread Cert.QaProjRefIdeal.nD Cert.QaProjRefIdeal.τ).loc Cert.QaProjRefIdeal.main_arg1)
      ∧ r.2.mem ((c.tc : Thread Cert.QaProjRefIdeal.nD Cert.QaProjRefIdeal.τ).loc Cert.QaProjRefIdeal.main_arg2) = m ((c.tc : Thread Cert.QaProjRefIdeal.nD Cert.QaProjRefIdeal.τ).loc Cert.QaProjRefIdeal.main_arg2)
      ∧ r.2.mem ((c.tc : Thread Cert.QaProjRefIdeal.nD Cert.QaProjRefIdeal.τ).loc Cert.QaProjRefIdeal.main_arg3) = m ((c.tc : Thread Cert.QaProjRefIdeal.nD Cert.QaProjRefIdeal.τ).loc Cert.QaProjRefIdeal.main_arg3)
      ∧ r.2.mem ((c.tc : Thread Cert.QaProjRefIdeal.nD Cert.QaProjRefIdeal.τ).loc Cert.QaProjRefIdeal.main_arg4) = m ((c.tc : Thread Cert.QaProjRefIdeal.nD Cert.QaProjRefIdeal.τ).loc Cert.QaProjRefIdeal.main_arg4)
      ∧ r.2.mem ((c.tc : Thread Cert.QaProjRefIdeal.nD Cert.QaProjRefIdeal.τ).loc Cert.QaProjRefIdeal.main_arg5) = m ((c.tc : Thread Cert.QaProjRefIdeal.nD Cert.QaProjRefIdeal.τ).loc Cert.QaProjRefIdeal.main_arg5))
      ∧ r.2.sem = fun _ => 0)

def quiescent_KvaProj [hKvaProj : Cert.KvaProj.Facts] : Prop :=
  ∀ (m : (ℓ : Loc Cert.KvaProj.nD Cert.KvaProj.τ Cert.KvaProj.sig) → Buf (Elt Bits) ℓ) (g : Dev Cert.KvaProj.nD → PrngReg), Pre_KvaProj m →
    θ_run (Cert.KvaProj.defs (F := Bits)) (onTc (τ := Cert.KvaProj.τ) (Cert.KvaProj.main (F := Bits))) ⟨m, fun _ => 0, g⟩ (fun r => (∀ c : Dev Cert.KvaProj.nD,
      r.2.mem ((c.tc : Thread Cert.KvaProj.nD Cert.KvaProj.τ).loc Cert.KvaProj.main_arg0) = m ((c.tc : Thread Cert.KvaProj.nD Cert.KvaProj.τ).loc Cert.KvaProj.main_arg0)
      ∧ r.2.mem ((c.tc : Thread Cert.KvaProj.nD Cert.KvaProj.τ).loc Cert.KvaProj.main_arg1) = m ((c.tc : Thread Cert.KvaProj.nD Cert.KvaProj.τ).loc Cert.KvaProj.main_arg1)
      ∧ r.2.mem ((c.tc : Thread Cert.KvaProj.nD Cert.KvaProj.τ).loc Cert.KvaProj.main_arg2) = m ((c.tc : Thread Cert.KvaProj.nD Cert.KvaProj.τ).loc Cert.KvaProj.main_arg2)
      ∧ r.2.mem ((c.tc : Thread Cert.KvaProj.nD Cert.KvaProj.τ).loc Cert.KvaProj.main_arg3) = m ((c.tc : Thread Cert.KvaProj.nD Cert.KvaProj.τ).loc Cert.KvaProj.main_arg3)
      ∧ r.2.mem ((c.tc : Thread Cert.KvaProj.nD Cert.KvaProj.τ).loc Cert.KvaProj.main_arg4) = m ((c.tc : Thread Cert.KvaProj.nD Cert.KvaProj.τ).loc Cert.KvaProj.main_arg4)
      ∧ r.2.mem ((c.tc : Thread Cert.KvaProj.nD Cert.KvaProj.τ).loc Cert.KvaProj.main_arg5) = m ((c.tc : Thread Cert.KvaProj.nD Cert.KvaProj.τ).loc Cert.KvaProj.main_arg5))
      ∧ r.2.sem = fun _ => 0)

def quiescent_KvaProjIdeal [hKvaProjIdeal : Cert.KvaProjIdeal.Facts] : Prop :=
  ∀ (m : (ℓ : Loc Cert.KvaProjIdeal.nD Cert.KvaProjIdeal.τ Cert.KvaProjIdeal.sig) → Buf (Elt Ideal) ℓ) (g : Dev Cert.KvaProjIdeal.nD → PrngReg), Pre_KvaProjIdeal m →
    θ_run (Cert.KvaProjIdeal.defs (F := Ideal)) (onTc (τ := Cert.KvaProjIdeal.τ) (Cert.KvaProjIdeal.main (F := Ideal))) ⟨m, fun _ => 0, g⟩ (fun r => (∀ c : Dev Cert.KvaProjIdeal.nD,
      r.2.mem ((c.tc : Thread Cert.KvaProjIdeal.nD Cert.KvaProjIdeal.τ).loc Cert.KvaProjIdeal.main_arg0) = m ((c.tc : Thread Cert.KvaProjIdeal.nD Cert.KvaProjIdeal.τ).loc Cert.KvaProjIdeal.main_arg0)
      ∧ r.2.mem ((c.tc : Thread Cert.KvaProjIdeal.nD Cert.KvaProjIdeal.τ).loc Cert.KvaProjIdeal.main_arg1) = m ((c.tc : Thread Cert.KvaProjIdeal.nD Cert.KvaProjIdeal.τ).loc Cert.KvaProjIdeal.main_arg1)
      ∧ r.2.mem ((c.tc : Thread Cert.KvaProjIdeal.nD Cert.KvaProjIdeal.τ).loc Cert.KvaProjIdeal.main_arg2) = m ((c.tc : Thread Cert.KvaProjIdeal.nD Cert.KvaProjIdeal.τ).loc Cert.KvaProjIdeal.main_arg2)
      ∧ r.2.mem ((c.tc : Thread Cert.KvaProjIdeal.nD Cert.KvaProjIdeal.τ).loc Cert.KvaProjIdeal.main_arg3) = m ((c.tc : Thread Cert.KvaProjIdeal.nD Cert.KvaProjIdeal.τ).loc Cert.KvaProjIdeal.main_arg3)
      ∧ r.2.mem ((c.tc : Thread Cert.KvaProjIdeal.nD Cert.KvaProjIdeal.τ).loc Cert.KvaProjIdeal.main_arg4) = m ((c.tc : Thread Cert.KvaProjIdeal.nD Cert.KvaProjIdeal.τ).loc Cert.KvaProjIdeal.main_arg4)
      ∧ r.2.mem ((c.tc : Thread Cert.KvaProjIdeal.nD Cert.KvaProjIdeal.τ).loc Cert.KvaProjIdeal.main_arg5) = m ((c.tc : Thread Cert.KvaProjIdeal.nD Cert.KvaProjIdeal.τ).loc Cert.KvaProjIdeal.main_arg5))
      ∧ r.2.sem = fun _ => 0)

def quiescent_KvaProjIdeal_pre_counts_up_kva [hKvaProjIdeal : Cert.KvaProjIdeal.Facts] [hPre_counts_up_kva : Cert.Pre_counts_up_kva.Facts] : Prop :=
  ∀ (m : (ℓ : Loc Cert.KvaProjIdeal.nD Cert.KvaProjIdeal.τ Cert.KvaProjIdeal.sig) → Buf (Elt Ideal) ℓ) (g : Dev Cert.KvaProjIdeal.nD → PrngReg), Pre_KvaProjIdeal_counts_up_kva m →
    θ_run (Cert.KvaProjIdeal.defs (F := Ideal)) (onTc (τ := Cert.KvaProjIdeal.τ) (Cert.KvaProjIdeal.main (F := Ideal))) ⟨m, fun _ => 0, g⟩ (fun r => (∀ c : Dev Cert.KvaProjIdeal.nD,
      r.2.mem ((c.tc : Thread Cert.KvaProjIdeal.nD Cert.KvaProjIdeal.τ).loc Cert.KvaProjIdeal.main_arg0) = m ((c.tc : Thread Cert.KvaProjIdeal.nD Cert.KvaProjIdeal.τ).loc Cert.KvaProjIdeal.main_arg0)
      ∧ r.2.mem ((c.tc : Thread Cert.KvaProjIdeal.nD Cert.KvaProjIdeal.τ).loc Cert.KvaProjIdeal.main_arg1) = m ((c.tc : Thread Cert.KvaProjIdeal.nD Cert.KvaProjIdeal.τ).loc Cert.KvaProjIdeal.main_arg1)
      ∧ r.2.mem ((c.tc : Thread Cert.KvaProjIdeal.nD Cert.KvaProjIdeal.τ).loc Cert.KvaProjIdeal.main_arg2) = m ((c.tc : Thread Cert.KvaProjIdeal.nD Cert.KvaProjIdeal.τ).loc Cert.KvaProjIdeal.main_arg2)
      ∧ r.2.mem ((c.tc : Thread Cert.KvaProjIdeal.nD Cert.KvaProjIdeal.τ).loc Cert.KvaProjIdeal.main_arg3) = m ((c.tc : Thread Cert.KvaProjIdeal.nD Cert.KvaProjIdeal.τ).loc Cert.KvaProjIdeal.main_arg3)
      ∧ r.2.mem ((c.tc : Thread Cert.KvaProjIdeal.nD Cert.KvaProjIdeal.τ).loc Cert.KvaProjIdeal.main_arg4) = m ((c.tc : Thread Cert.KvaProjIdeal.nD Cert.KvaProjIdeal.τ).loc Cert.KvaProjIdeal.main_arg4)
      ∧ r.2.mem ((c.tc : Thread Cert.KvaProjIdeal.nD Cert.KvaProjIdeal.τ).loc Cert.KvaProjIdeal.main_arg5) = m ((c.tc : Thread Cert.KvaProjIdeal.nD Cert.KvaProjIdeal.τ).loc Cert.KvaProjIdeal.main_arg5))
      ∧ r.2.sem = fun _ => 0)

def quiescent_KvaProjRefIdeal [hKvaProjRefIdeal : Cert.KvaProjRefIdeal.Facts] : Prop :=
  ∀ (m : (ℓ : Loc Cert.KvaProjRefIdeal.nD Cert.KvaProjRefIdeal.τ Cert.KvaProjRefIdeal.sig) → Buf (Elt Ideal) ℓ) (g : Dev Cert.KvaProjRefIdeal.nD → PrngReg), Pre_KvaProjRefIdeal m →
    θ_run (Cert.KvaProjRefIdeal.defs (F := Ideal)) (onTc (τ := Cert.KvaProjRefIdeal.τ) (Cert.KvaProjRefIdeal.main (F := Ideal))) ⟨m, fun _ => 0, g⟩ (fun r => (∀ c : Dev Cert.KvaProjRefIdeal.nD,
      r.2.mem ((c.tc : Thread Cert.KvaProjRefIdeal.nD Cert.KvaProjRefIdeal.τ).loc Cert.KvaProjRefIdeal.main_arg0) = m ((c.tc : Thread Cert.KvaProjRefIdeal.nD Cert.KvaProjRefIdeal.τ).loc Cert.KvaProjRefIdeal.main_arg0)
      ∧ r.2.mem ((c.tc : Thread Cert.KvaProjRefIdeal.nD Cert.KvaProjRefIdeal.τ).loc Cert.KvaProjRefIdeal.main_arg1) = m ((c.tc : Thread Cert.KvaProjRefIdeal.nD Cert.KvaProjRefIdeal.τ).loc Cert.KvaProjRefIdeal.main_arg1)
      ∧ r.2.mem ((c.tc : Thread Cert.KvaProjRefIdeal.nD Cert.KvaProjRefIdeal.τ).loc Cert.KvaProjRefIdeal.main_arg2) = m ((c.tc : Thread Cert.KvaProjRefIdeal.nD Cert.KvaProjRefIdeal.τ).loc Cert.KvaProjRefIdeal.main_arg2)
      ∧ r.2.mem ((c.tc : Thread Cert.KvaProjRefIdeal.nD Cert.KvaProjRefIdeal.τ).loc Cert.KvaProjRefIdeal.main_arg3) = m ((c.tc : Thread Cert.KvaProjRefIdeal.nD Cert.KvaProjRefIdeal.τ).loc Cert.KvaProjRefIdeal.main_arg3)
      ∧ r.2.mem ((c.tc : Thread Cert.KvaProjRefIdeal.nD Cert.KvaProjRefIdeal.τ).loc Cert.KvaProjRefIdeal.main_arg4) = m ((c.tc : Thread Cert.KvaProjRefIdeal.nD Cert.KvaProjRefIdeal.τ).loc Cert.KvaProjRefIdeal.main_arg4)
      ∧ r.2.mem ((c.tc : Thread Cert.KvaProjRefIdeal.nD Cert.KvaProjRefIdeal.τ).loc Cert.KvaProjRefIdeal.main_arg5) = m ((c.tc : Thread Cert.KvaProjRefIdeal.nD Cert.KvaProjRefIdeal.τ).loc Cert.KvaProjRefIdeal.main_arg5))
      ∧ r.2.sem = fun _ => 0)

def quiescent_KvaProjRefIdeal_pre_counts_up_kva [hKvaProjRefIdeal : Cert.KvaProjRefIdeal.Facts] [hPre_counts_up_kva : Cert.Pre_counts_up_kva.Facts] : Prop :=
  ∀ (m : (ℓ : Loc Cert.KvaProjRefIdeal.nD Cert.KvaProjRefIdeal.τ Cert.KvaProjRefIdeal.sig) → Buf (Elt Ideal) ℓ) (g : Dev Cert.KvaProjRefIdeal.nD → PrngReg), Pre_KvaProjRefIdeal_counts_up_kva m →
    θ_run (Cert.KvaProjRefIdeal.defs (F := Ideal)) (onTc (τ := Cert.KvaProjRefIdeal.τ) (Cert.KvaProjRefIdeal.main (F := Ideal))) ⟨m, fun _ => 0, g⟩ (fun r => (∀ c : Dev Cert.KvaProjRefIdeal.nD,
      r.2.mem ((c.tc : Thread Cert.KvaProjRefIdeal.nD Cert.KvaProjRefIdeal.τ).loc Cert.KvaProjRefIdeal.main_arg0) = m ((c.tc : Thread Cert.KvaProjRefIdeal.nD Cert.KvaProjRefIdeal.τ).loc Cert.KvaProjRefIdeal.main_arg0)
      ∧ r.2.mem ((c.tc : Thread Cert.KvaProjRefIdeal.nD Cert.KvaProjRefIdeal.τ).loc Cert.KvaProjRefIdeal.main_arg1) = m ((c.tc : Thread Cert.KvaProjRefIdeal.nD Cert.KvaProjRefIdeal.τ).loc Cert.KvaProjRefIdeal.main_arg1)
      ∧ r.2.mem ((c.tc : Thread Cert.KvaProjRefIdeal.nD Cert.KvaProjRefIdeal.τ).loc Cert.KvaProjRefIdeal.main_arg2) = m ((c.tc : Thread Cert.KvaProjRefIdeal.nD Cert.KvaProjRefIdeal.τ).loc Cert.KvaProjRefIdeal.main_arg2)
      ∧ r.2.mem ((c.tc : Thread Cert.KvaProjRefIdeal.nD Cert.KvaProjRefIdeal.τ).loc Cert.KvaProjRefIdeal.main_arg3) = m ((c.tc : Thread Cert.KvaProjRefIdeal.nD Cert.KvaProjRefIdeal.τ).loc Cert.KvaProjRefIdeal.main_arg3)
      ∧ r.2.mem ((c.tc : Thread Cert.KvaProjRefIdeal.nD Cert.KvaProjRefIdeal.τ).loc Cert.KvaProjRefIdeal.main_arg4) = m ((c.tc : Thread Cert.KvaProjRefIdeal.nD Cert.KvaProjRefIdeal.τ).loc Cert.KvaProjRefIdeal.main_arg4)
      ∧ r.2.mem ((c.tc : Thread Cert.KvaProjRefIdeal.nD Cert.KvaProjRefIdeal.τ).loc Cert.KvaProjRefIdeal.main_arg5) = m ((c.tc : Thread Cert.KvaProjRefIdeal.nD Cert.KvaProjRefIdeal.τ).loc Cert.KvaProjRefIdeal.main_arg5))
      ∧ r.2.sem = fun _ => 0)

def preserves_Kernel_KernelIdeal : Prop :=
  True

def algebraic_KernelIdeal_ReferenceIdeal_pre_in_order [hKernelIdeal : Cert.KernelIdeal.Facts] [hReferenceIdeal : Cert.ReferenceIdeal.Facts] [hPre_in_order : Cert.Pre_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v18) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v16) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_QaProj_QaProjIdeal : Prop :=
  IdealRules.named_const.Statement Cert.QaProjIdeal.κ "inv_qk_dim" .f32 0x3BAAAAAB#32 ((1 / 192 : ℝ) : EReal)

def algebraic_QaProjIdeal_QaProjRefIdeal_pre_counts_up_qa [hQaProjIdeal : Cert.QaProjIdeal.Facts] [hQaProjRefIdeal : Cert.QaProjRefIdeal.Facts] [hPre_counts_up_qa : Cert.Pre_counts_up_qa.Facts] : Prop :=
  ∀ (m : (ℓ : Loc Cert.QaProjIdeal.nD Cert.QaProjIdeal.τ Cert.QaProjIdeal.sig) → Buf (Elt Ideal) ℓ) (g : Dev Cert.QaProjIdeal.nD → PrngReg)
    (m' : (ℓ : Loc Cert.QaProjRefIdeal.nD Cert.QaProjRefIdeal.τ Cert.QaProjRefIdeal.sig) → Buf (Elt Ideal) ℓ) (g' : Dev Cert.QaProjRefIdeal.nD → PrngReg), Pre_QaProjIdeal_counts_up_qa m →
    (∀ c : Dev Cert.QaProjIdeal.nD,
      m' ((c.tc : Thread Cert.QaProjRefIdeal.nD Cert.QaProjRefIdeal.τ).loc Cert.QaProjRefIdeal.main_arg0) = m ((c.tc : Thread Cert.QaProjIdeal.nD Cert.QaProjIdeal.τ).loc Cert.QaProjIdeal.main_arg0)
      ∧ m' ((c.tc : Thread Cert.QaProjRefIdeal.nD Cert.QaProjRefIdeal.τ).loc Cert.QaProjRefIdeal.main_arg1) = m ((c.tc : Thread Cert.QaProjIdeal.nD Cert.QaProjIdeal.τ).loc Cert.QaProjIdeal.main_arg1)
      ∧ m' ((c.tc : Thread Cert.QaProjRefIdeal.nD Cert.QaProjRefIdeal.τ).loc Cert.QaProjRefIdeal.main_arg2) = m ((c.tc : Thread Cert.QaProjIdeal.nD Cert.QaProjIdeal.τ).loc Cert.QaProjIdeal.main_arg2)
      ∧ m' ((c.tc : Thread Cert.QaProjRefIdeal.nD Cert.QaProjRefIdeal.τ).loc Cert.QaProjRefIdeal.main_arg3) = m ((c.tc : Thread Cert.QaProjIdeal.nD Cert.QaProjIdeal.τ).loc Cert.QaProjIdeal.main_arg3)
      ∧ m' ((c.tc : Thread Cert.QaProjRefIdeal.nD Cert.QaProjRefIdeal.τ).loc Cert.QaProjRefIdeal.main_arg4) = m ((c.tc : Thread Cert.QaProjIdeal.nD Cert.QaProjIdeal.τ).loc Cert.QaProjIdeal.main_arg4)
      ∧ m' ((c.tc : Thread Cert.QaProjRefIdeal.nD Cert.QaProjRefIdeal.τ).loc Cert.QaProjRefIdeal.main_arg5) = m ((c.tc : Thread Cert.QaProjIdeal.nD Cert.QaProjIdeal.τ).loc Cert.QaProjIdeal.main_arg5)) →
    ∃ (v0 : (c : Dev Cert.QaProjIdeal.nD) → Buf (Elt Ideal) ((c.tc : Thread Cert.QaProjIdeal.nD Cert.QaProjIdeal.τ).loc Cert.QaProjIdeal.main_v103)),
      θ_run (Cert.QaProjIdeal.defs (F := Ideal)) (onTc (τ := Cert.QaProjIdeal.τ) (Cert.QaProjIdeal.main (F := Ideal))) ⟨m, fun _ => 0, g⟩ (fun r => ∀ c : Dev Cert.QaProjIdeal.nD,
          r.2.mem ((c.tc : Thread Cert.QaProjIdeal.nD Cert.QaProjIdeal.τ).loc Cert.QaProjIdeal.main_v103) = v0 c
          ∧ r.2.mem ((c.tc : Thread Cert.QaProjIdeal.nD Cert.QaProjIdeal.τ).loc Cert.QaProjIdeal.main_arg0) = m ((c.tc : Thread Cert.QaProjIdeal.nD Cert.QaProjIdeal.τ).loc Cert.QaProjIdeal.main_arg0)
          ∧ r.2.mem ((c.tc : Thread Cert.QaProjIdeal.nD Cert.QaProjIdeal.τ).loc Cert.QaProjIdeal.main_arg1) = m ((c.tc : Thread Cert.QaProjIdeal.nD Cert.QaProjIdeal.τ).loc Cert.QaProjIdeal.main_arg1)
          ∧ r.2.mem ((c.tc : Thread Cert.QaProjIdeal.nD Cert.QaProjIdeal.τ).loc Cert.QaProjIdeal.main_arg2) = m ((c.tc : Thread Cert.QaProjIdeal.nD Cert.QaProjIdeal.τ).loc Cert.QaProjIdeal.main_arg2)
          ∧ r.2.mem ((c.tc : Thread Cert.QaProjIdeal.nD Cert.QaProjIdeal.τ).loc Cert.QaProjIdeal.main_arg3) = m ((c.tc : Thread Cert.QaProjIdeal.nD Cert.QaProjIdeal.τ).loc Cert.QaProjIdeal.main_arg3)
          ∧ r.2.mem ((c.tc : Thread Cert.QaProjIdeal.nD Cert.QaProjIdeal.τ).loc Cert.QaProjIdeal.main_arg4) = m ((c.tc : Thread Cert.QaProjIdeal.nD Cert.QaProjIdeal.τ).loc Cert.QaProjIdeal.main_arg4)
          ∧ r.2.mem ((c.tc : Thread Cert.QaProjIdeal.nD Cert.QaProjIdeal.τ).loc Cert.QaProjIdeal.main_arg5) = m ((c.tc : Thread Cert.QaProjIdeal.nD Cert.QaProjIdeal.τ).loc Cert.QaProjIdeal.main_arg5))
      ∧ θ_run (Cert.QaProjRefIdeal.defs (F := Ideal)) (onTc (τ := Cert.QaProjRefIdeal.τ) (Cert.QaProjRefIdeal.main (F := Ideal))) ⟨m', fun _ => 0, g'⟩ (fun r => ∀ c : Dev Cert.QaProjRefIdeal.nD,
          r.2.mem ((c.tc : Thread Cert.QaProjRefIdeal.nD Cert.QaProjRefIdeal.τ).loc Cert.QaProjRefIdeal.main_v57) = v0 c
          ∧ r.2.mem ((c.tc : Thread Cert.QaProjRefIdeal.nD Cert.QaProjRefIdeal.τ).loc Cert.QaProjRefIdeal.main_arg0) = m' ((c.tc : Thread Cert.QaProjRefIdeal.nD Cert.QaProjRefIdeal.τ).loc Cert.QaProjRefIdeal.main_arg0)
          ∧ r.2.mem ((c.tc : Thread Cert.QaProjRefIdeal.nD Cert.QaProjRefIdeal.τ).loc Cert.QaProjRefIdeal.main_arg1) = m' ((c.tc : Thread Cert.QaProjRefIdeal.nD Cert.QaProjRefIdeal.τ).loc Cert.QaProjRefIdeal.main_arg1)
          ∧ r.2.mem ((c.tc : Thread Cert.QaProjRefIdeal.nD Cert.QaProjRefIdeal.τ).loc Cert.QaProjRefIdeal.main_arg2) = m' ((c.tc : Thread Cert.QaProjRefIdeal.nD Cert.QaProjRefIdeal.τ).loc Cert.QaProjRefIdeal.main_arg2)
          ∧ r.2.mem ((c.tc : Thread Cert.QaProjRefIdeal.nD Cert.QaProjRefIdeal.τ).loc Cert.QaProjRefIdeal.main_arg3) = m' ((c.tc : Thread Cert.QaProjRefIdeal.nD Cert.QaProjRefIdeal.τ).loc Cert.QaProjRefIdeal.main_arg3)
          ∧ r.2.mem ((c.tc : Thread Cert.QaProjRefIdeal.nD Cert.QaProjRefIdeal.τ).loc Cert.QaProjRefIdeal.main_arg4) = m' ((c.tc : Thread Cert.QaProjRefIdeal.nD Cert.QaProjRefIdeal.τ).loc Cert.QaProjRefIdeal.main_arg4)
          ∧ r.2.mem ((c.tc : Thread Cert.QaProjRefIdeal.nD Cert.QaProjRefIdeal.τ).loc Cert.QaProjRefIdeal.main_arg5) = m' ((c.tc : Thread Cert.QaProjRefIdeal.nD Cert.QaProjRefIdeal.τ).loc Cert.QaProjRefIdeal.main_arg5))

def preserves_KvaProj_KvaProjIdeal : Prop :=
  IdealRules.named_const.Statement Cert.KvaProjIdeal.κ "inv_qk_dim" .f32 0x3BAAAAAB#32 ((1 / 192 : ℝ) : EReal)

def algebraic_KvaProjIdeal_KvaProjRefIdeal_pre_counts_up_kva [hKvaProjIdeal : Cert.KvaProjIdeal.Facts] [hKvaProjRefIdeal : Cert.KvaProjRefIdeal.Facts] [hPre_counts_up_kva : Cert.Pre_counts_up_kva.Facts] : Prop :=
  ∀ (m : (ℓ : Loc Cert.KvaProjIdeal.nD Cert.KvaProjIdeal.τ Cert.KvaProjIdeal.sig) → Buf (Elt Ideal) ℓ) (g : Dev Cert.KvaProjIdeal.nD → PrngReg)
    (m' : (ℓ : Loc Cert.KvaProjRefIdeal.nD Cert.KvaProjRefIdeal.τ Cert.KvaProjRefIdeal.sig) → Buf (Elt Ideal) ℓ) (g' : Dev Cert.KvaProjRefIdeal.nD → PrngReg), Pre_KvaProjIdeal_counts_up_kva m →
    (∀ c : Dev Cert.KvaProjIdeal.nD,
      m' ((c.tc : Thread Cert.KvaProjRefIdeal.nD Cert.KvaProjRefIdeal.τ).loc Cert.KvaProjRefIdeal.main_arg0) = m ((c.tc : Thread Cert.KvaProjIdeal.nD Cert.KvaProjIdeal.τ).loc Cert.KvaProjIdeal.main_arg0)
      ∧ m' ((c.tc : Thread Cert.KvaProjRefIdeal.nD Cert.KvaProjRefIdeal.τ).loc Cert.KvaProjRefIdeal.main_arg1) = m ((c.tc : Thread Cert.KvaProjIdeal.nD Cert.KvaProjIdeal.τ).loc Cert.KvaProjIdeal.main_arg1)
      ∧ m' ((c.tc : Thread Cert.KvaProjRefIdeal.nD Cert.KvaProjRefIdeal.τ).loc Cert.KvaProjRefIdeal.main_arg2) = m ((c.tc : Thread Cert.KvaProjIdeal.nD Cert.KvaProjIdeal.τ).loc Cert.KvaProjIdeal.main_arg2)
      ∧ m' ((c.tc : Thread Cert.KvaProjRefIdeal.nD Cert.KvaProjRefIdeal.τ).loc Cert.KvaProjRefIdeal.main_arg3) = m ((c.tc : Thread Cert.KvaProjIdeal.nD Cert.KvaProjIdeal.τ).loc Cert.KvaProjIdeal.main_arg3)
      ∧ m' ((c.tc : Thread Cert.KvaProjRefIdeal.nD Cert.KvaProjRefIdeal.τ).loc Cert.KvaProjRefIdeal.main_arg4) = m ((c.tc : Thread Cert.KvaProjIdeal.nD Cert.KvaProjIdeal.τ).loc Cert.KvaProjIdeal.main_arg4)
      ∧ m' ((c.tc : Thread Cert.KvaProjRefIdeal.nD Cert.KvaProjRefIdeal.τ).loc Cert.KvaProjRefIdeal.main_arg5) = m ((c.tc : Thread Cert.KvaProjIdeal.nD Cert.KvaProjIdeal.τ).loc Cert.KvaProjIdeal.main_arg5)) →
    ∃ (v0 : (c : Dev Cert.KvaProjIdeal.nD) → Buf (Elt Ideal) ((c.tc : Thread Cert.KvaProjIdeal.nD Cert.KvaProjIdeal.τ).loc Cert.KvaProjIdeal.main_v78)) (v1 : (c : Dev Cert.KvaProjIdeal.nD) → Buf (Elt Ideal) ((c.tc : Thread Cert.KvaProjIdeal.nD Cert.KvaProjIdeal.τ).loc Cert.KvaProjIdeal.main_v73_1)),
      θ_run (Cert.KvaProjIdeal.defs (F := Ideal)) (onTc (τ := Cert.KvaProjIdeal.τ) (Cert.KvaProjIdeal.main (F := Ideal))) ⟨m, fun _ => 0, g⟩ (fun r => ∀ c : Dev Cert.KvaProjIdeal.nD,
          r.2.mem ((c.tc : Thread Cert.KvaProjIdeal.nD Cert.KvaProjIdeal.τ).loc Cert.KvaProjIdeal.main_v78) = v0 c
          ∧ r.2.mem ((c.tc : Thread Cert.KvaProjIdeal.nD Cert.KvaProjIdeal.τ).loc Cert.KvaProjIdeal.main_v73_1) = v1 c
          ∧ r.2.mem ((c.tc : Thread Cert.KvaProjIdeal.nD Cert.KvaProjIdeal.τ).loc Cert.KvaProjIdeal.main_arg0) = m ((c.tc : Thread Cert.KvaProjIdeal.nD Cert.KvaProjIdeal.τ).loc Cert.KvaProjIdeal.main_arg0)
          ∧ r.2.mem ((c.tc : Thread Cert.KvaProjIdeal.nD Cert.KvaProjIdeal.τ).loc Cert.KvaProjIdeal.main_arg1) = m ((c.tc : Thread Cert.KvaProjIdeal.nD Cert.KvaProjIdeal.τ).loc Cert.KvaProjIdeal.main_arg1)
          ∧ r.2.mem ((c.tc : Thread Cert.KvaProjIdeal.nD Cert.KvaProjIdeal.τ).loc Cert.KvaProjIdeal.main_arg2) = m ((c.tc : Thread Cert.KvaProjIdeal.nD Cert.KvaProjIdeal.τ).loc Cert.KvaProjIdeal.main_arg2)
          ∧ r.2.mem ((c.tc : Thread Cert.KvaProjIdeal.nD Cert.KvaProjIdeal.τ).loc Cert.KvaProjIdeal.main_arg3) = m ((c.tc : Thread Cert.KvaProjIdeal.nD Cert.KvaProjIdeal.τ).loc Cert.KvaProjIdeal.main_arg3)
          ∧ r.2.mem ((c.tc : Thread Cert.KvaProjIdeal.nD Cert.KvaProjIdeal.τ).loc Cert.KvaProjIdeal.main_arg4) = m ((c.tc : Thread Cert.KvaProjIdeal.nD Cert.KvaProjIdeal.τ).loc Cert.KvaProjIdeal.main_arg4)
          ∧ r.2.mem ((c.tc : Thread Cert.KvaProjIdeal.nD Cert.KvaProjIdeal.τ).loc Cert.KvaProjIdeal.main_arg5) = m ((c.tc : Thread Cert.KvaProjIdeal.nD Cert.KvaProjIdeal.τ).loc Cert.KvaProjIdeal.main_arg5))
      ∧ θ_run (Cert.KvaProjRefIdeal.defs (F := Ideal)) (onTc (τ := Cert.KvaProjRefIdeal.τ) (Cert.KvaProjRefIdeal.main (F := Ideal))) ⟨m', fun _ => 0, g'⟩ (fun r => ∀ c : Dev Cert.KvaProjRefIdeal.nD,
          r.2.mem ((c.tc : Thread Cert.KvaProjRefIdeal.nD Cert.KvaProjRefIdeal.τ).loc Cert.KvaProjRefIdeal.main_v63) = v0 c
          ∧ r.2.mem ((c.tc : Thread Cert.KvaProjRefIdeal.nD Cert.KvaProjRefIdeal.τ).loc Cert.KvaProjRefIdeal.main_v65) = v1 c
          ∧ r.2.mem ((c.tc : Thread Cert.KvaProjRefIdeal.nD Cert.KvaProjRefIdeal.τ).loc Cert.KvaProjRefIdeal.main_arg0) = m' ((c.tc : Thread Cert.KvaProjRefIdeal.nD Cert.KvaProjRefIdeal.τ).loc Cert.KvaProjRefIdeal.main_arg0)
          ∧ r.2.mem ((c.tc : Thread Cert.KvaProjRefIdeal.nD Cert.KvaProjRefIdeal.τ).loc Cert.KvaProjRefIdeal.main_arg1) = m' ((c.tc : Thread Cert.KvaProjRefIdeal.nD Cert.KvaProjRefIdeal.τ).loc Cert.KvaProjRefIdeal.main_arg1)
          ∧ r.2.mem ((c.tc : Thread Cert.KvaProjRefIdeal.nD Cert.KvaProjRefIdeal.τ).loc Cert.KvaProjRefIdeal.main_arg2) = m' ((c.tc : Thread Cert.KvaProjRefIdeal.nD Cert.KvaProjRefIdeal.τ).loc Cert.KvaProjRefIdeal.main_arg2)
          ∧ r.2.mem ((c.tc : Thread Cert.KvaProjRefIdeal.nD Cert.KvaProjRefIdeal.τ).loc Cert.KvaProjRefIdeal.main_arg3) = m' ((c.tc : Thread Cert.KvaProjRefIdeal.nD Cert.KvaProjRefIdeal.τ).loc Cert.KvaProjRefIdeal.main_arg3)
          ∧ r.2.mem ((c.tc : Thread Cert.KvaProjRefIdeal.nD Cert.KvaProjRefIdeal.τ).loc Cert.KvaProjRefIdeal.main_arg4) = m' ((c.tc : Thread Cert.KvaProjRefIdeal.nD Cert.KvaProjRefIdeal.τ).loc Cert.KvaProjRefIdeal.main_arg4)
          ∧ r.2.mem ((c.tc : Thread Cert.KvaProjRefIdeal.nD Cert.KvaProjRefIdeal.τ).loc Cert.KvaProjRefIdeal.main_arg5) = m' ((c.tc : Thread Cert.KvaProjRefIdeal.nD Cert.KvaProjRefIdeal.τ).loc Cert.KvaProjRefIdeal.main_arg5))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutProjRefIdeal : Cert.OutProjRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hQaProj : Cert.QaProj.Facts) (hQaProjIdeal : Cert.QaProjIdeal.Facts) (hQaProjRefIdeal : Cert.QaProjRefIdeal.Facts) (hKvaProj : Cert.KvaProj.Facts) (hKvaProjIdeal : Cert.KvaProjIdeal.Facts) (hKvaProjRefIdeal : Cert.KvaProjRefIdeal.Facts) (hPre_in_order : Cert.Pre_in_order.Facts) (hPre_counts_up_qa : Cert.Pre_counts_up_qa.Facts) (hPre_counts_up_kva : Cert.Pre_counts_up_kva.Facts),
    quiescent_Kernel (hKernel := hKernel)
    ∧ quiescent_KernelIdeal (hKernelIdeal := hKernelIdeal)
    ∧ quiescent_KernelIdeal_pre_in_order (hKernelIdeal := hKernelIdeal) (hPre_in_order := hPre_in_order)
    ∧ quiescent_ReferenceIdeal (hReferenceIdeal := hReferenceIdeal)
    ∧ quiescent_ReferenceIdeal_pre_in_order (hReferenceIdeal := hReferenceIdeal) (hPre_in_order := hPre_in_order)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_QaProj (hQaProj := hQaProj)
    ∧ quiescent_QaProjIdeal (hQaProjIdeal := hQaProjIdeal)
    ∧ quiescent_QaProjIdeal_pre_counts_up_qa (hQaProjIdeal := hQaProjIdeal) (hPre_counts_up_qa := hPre_counts_up_qa)
    ∧ quiescent_QaProjRefIdeal (hQaProjRefIdeal := hQaProjRefIdeal)
    ∧ quiescent_QaProjRefIdeal_pre_counts_up_qa (hQaProjRefIdeal := hQaProjRefIdeal) (hPre_counts_up_qa := hPre_counts_up_qa)
    ∧ quiescent_KvaProj (hKvaProj := hKvaProj)
    ∧ quiescent_KvaProjIdeal (hKvaProjIdeal := hKvaProjIdeal)
    ∧ quiescent_KvaProjIdeal_pre_counts_up_kva (hKvaProjIdeal := hKvaProjIdeal) (hPre_counts_up_kva := hPre_counts_up_kva)
    ∧ quiescent_KvaProjRefIdeal (hKvaProjRefIdeal := hKvaProjRefIdeal)
    ∧ quiescent_KvaProjRefIdeal_pre_counts_up_kva (hKvaProjRefIdeal := hKvaProjRefIdeal) (hPre_counts_up_kva := hPre_counts_up_kva)
    ∧ preserves_Kernel_KernelIdeal
    ∧ algebraic_KernelIdeal_ReferenceIdeal_pre_in_order (hKernelIdeal := hKernelIdeal) (hReferenceIdeal := hReferenceIdeal) (hPre_in_order := hPre_in_order)
    ∧ preserves_OutProj_OutProjIdeal
    ∧ algebraic_OutProjIdeal_OutProjRefIdeal (hOutProjIdeal := hOutProjIdeal) (hOutProjRefIdeal := hOutProjRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_QaProj_QaProjIdeal
    ∧ algebraic_QaProjIdeal_QaProjRefIdeal_pre_counts_up_qa (hQaProjIdeal := hQaProjIdeal) (hQaProjRefIdeal := hQaProjRefIdeal) (hPre_counts_up_qa := hPre_counts_up_qa)
    ∧ preserves_KvaProj_KvaProjIdeal
    ∧ algebraic_KvaProjIdeal_KvaProjRefIdeal_pre_counts_up_kva (hKvaProjIdeal := hKvaProjIdeal) (hKvaProjRefIdeal := hKvaProjRefIdeal) (hPre_counts_up_kva := hPre_counts_up_kva)
-- ==== Pre_counts_up_kva.lean ====
abbrev S8x2048x512 : Shape := ⟨3, ![8, 2048, 512]⟩
abbrev S8x2048x64 : Shape := ⟨3, ![8, 2048, 64]⟩
abbrev S8x2048 : Shape := ⟨2, ![8, 2048]⟩
abbrev S512 : Shape := ⟨1, ![512]⟩
abbrev S512x4096 : Shape := ⟨2, ![512, 4096]⟩
abbrev S192 : Shape := ⟨1, ![192]⟩
abbrev S8x1 : Shape := ⟨2, ![8, 1]⟩
abbrev S_ : Shape := ⟨0, ![]⟩

class Facts : Prop where
  slices_S8x2048_S8x1_0_0 : S8x2048.Slices ![0, 0] S8x1
  bcast_S8x1_S8x2048_0_1 : S8x1.BroadcastsInDim S8x2048 (![0, 1] : Fin 2 → Fin S8x2048.rank)
  bcast_S_S8x1 : S_.BroadcastsInDim S8x1 (![] : Fin 0 → Fin S8x1.rank)

variable [Facts]

def fn {F : FTy → Type} [FloatOps F] (main_arg0 : FVec F S8x2048x512 .f32) (main_arg1 : FVec F S8x2048x64 .f32) (main_arg2 : IVec S8x2048 32) (main_arg3 : FVec F S512 .f32) (main_arg4 : FVec F S512x4096 .f32) (main_arg5 : FVec F S192 .f32) : IVec S8x2048 1 :=
  let main_v0 : IVec S8x1 32 := (extractStridedSlice S8x1 ![0, 0] · slices_S8x2048_S8x1_0_0) main_arg2
  let main_v1 : IVec S8x2048 32 := iotaInDim S8x2048 32 1
  let main_v2 : IVec S8x2048 32 := broadcastInDim S8x2048 ![0, 1] bcast_S8x1_S8x2048_0_1 main_v0
  let main_v3 : IVec S8x2048 32 := addi main_v2 main_v1
  let main_v4 : IVec S8x2048 1 := cmpi .eq main_arg2 main_v3
  let main_v5 : IVec S8x1 32 := (extractStridedSlice S8x1 ![0, 0] · slices_S8x2048_S8x1_0_0) main_arg2
  let main_c : IVec S_ 32 := constantI S_ 32 0#32
  let main_v6 : IVec S8x1 32 := broadcastInDim S8x1 ![] bcast_S_S8x1 main_c
  let main_v7 : IVec S8x1 1 := cmpi .sge main_v5 main_v6
  let main_v8 : IVec S8x2048 1 := broadcastInDim S8x2048 ![0, 1] bcast_S8x1_S8x2048_0_1 main_v7
  let main_v9 : IVec S8x2048 1 := andi main_v4 main_v8
  let main_v10 : IVec S8x1 32 := (extractStridedSlice S8x1 ![0, 0] · slices_S8x2048_S8x1_0_0) main_arg2
  let main_c_0 : IVec S_ 32 := constantI S_ 32 1024#32
  let main_v11 : IVec S8x1 32 := broadcastInDim S8x1 ![] bcast_S_S8x1 main_c_0
  let main_v12 : IVec S8x1 1 := cmpi .slt main_v10 main_v11
  let main_v13 : IVec S8x2048 1 := broadcastInDim S8x2048 ![0, 1] bcast_S8x1_S8x2048_0_1 main_v12
  let main_v14 : IVec S8x2048 1 := andi main_v9 main_v13
  main_v14
-- ==== Pre_counts_up_qa.lean ====
abbrev S8x2048x1024 : Shape := ⟨3, ![8, 2048, 1024]⟩
abbrev S8x2048 : Shape := ⟨2, ![8, 2048]⟩
abbrev S1024 : Shape := ⟨1, ![1024]⟩
abbrev S1024x3072 : Shape := ⟨2, ![1024, 3072]⟩
abbrev S192 : Shape := ⟨1, ![192]⟩
abbrev S8x1 : Shape := ⟨2, ![8, 1]⟩
abbrev S_ : Shape := ⟨0, ![]⟩

class Facts : Prop where
  slices_S8x2048_S8x1_0_0 : S8x2048.Slices ![0, 0] S8x1
  bcast_S8x1_S8x2048_0_1 : S8x1.BroadcastsInDim S8x2048 (![0, 1] : Fin 2 → Fin S8x2048.rank)
  bcast_S_S8x1 : S_.BroadcastsInDim S8x1 (![] : Fin 0 → Fin S8x1.rank)

variable [Facts]

def fn {F : FTy → Type} [FloatOps F] (main_arg0 : FVec F S8x2048x1024 .f32) (main_arg1 : IVec S8x2048 32) (main_arg2 : FVec F S1024 .f32) (main_arg3 : FVec F S1024x3072 .f32) (main_arg4 : FVec F S192 .f32) (main_arg5 : FVec F S192 .f32) : IVec S8x2048 1 :=
  let main_v0 : IVec S8x1 32 := (extractStridedSlice S8x1 ![0, 0] · slices_S8x2048_S8x1_0_0) main_arg1
  let main_v1 : IVec S8x2048 32 := iotaInDim S8x2048 32 1
  let main_v2 : IVec S8x2048 32 := broadcastInDim S8x2048 ![0, 1] bcast_S8x1_S8x2048_0_1 main_v0
  let main_v3 : IVec S8x2048 32 := addi main_v2 main_v1
  let main_v4 : IVec S8x2048 1 := cmpi .eq main_arg1 main_v3
  let main_v5 : IVec S8x1 32 := (extractStridedSlice S8x1 ![0, 0] · slices_S8x2048_S8x1_0_0) main_arg1
  let main_c : IVec S_ 32 := constantI S_ 32 0#32
  let main_v6 : IVec S8x1 32 := broadcastInDim S8x1 ![] bcast_S_S8x1 main_c
  let main_v7 : IVec S8x1 1 := cmpi .sge main_v5 main_v6
  let main_v8 : IVec S8x2048 1 := broadcastInDim S8x2048 ![0, 1] bcast_S8x1_S8x2048_0_1 main_v7
  let main_v9 : IVec S8x2048 1 := andi main_v4 main_v8
  let main_v10 : IVec S8x1 32 := (extractStridedSlice S8x1 ![0, 0] · slices_S8x2048_S8x1_0_0) main_arg1
  let main_c_0 : IVec S_ 32 := constantI S_ 32 1024#32
  let main_v11 : IVec S8x1 32 := broadcastInDim S8x1 ![] bcast_S_S8x1 main_c_0
  let main_v12 : IVec S8x1 1 := cmpi .slt main_v10 main_v11
  let main_v13 : IVec S8x2048 1 := broadcastInDim S8x2048 ![0, 1] bcast_S8x1_S8x2048_0_1 main_v12
  let main_v14 : IVec S8x2048 1 := andi main_v9 main_v13
  main_v14
-- ==== Pre_in_order.lean ====
abbrev S8x2048x16x192 : Shape := ⟨4, ![8, 2048, 16, 192]⟩
abbrev S8x2048x16x128 : Shape := ⟨4, ![8, 2048, 16, 128]⟩
abbrev S8x2048x2048 : Shape := ⟨3, ![8, 2048, 2048]⟩
abbrev S8x2048 : Shape := ⟨2, ![8, 2048]⟩
abbrev S192 : Shape := ⟨1, ![192]⟩
abbrev S8x1 : Shape := ⟨2, ![8, 1]⟩
abbrev S_ : Shape := ⟨0, ![]⟩

class Facts : Prop where
  slices_S8x2048_S8x1_0_0 : S8x2048.Slices ![0, 0] S8x1
  bcast_S8x1_S8x2048_0_1 : S8x1.BroadcastsInDim S8x2048 (![0, 1] : Fin 2 → Fin S8x2048.rank)
  bcast_S_S8x1 : S_.BroadcastsInDim S8x1 (![] : Fin 0 → Fin S8x1.rank)
  bcast_S_S8x2048x16x192 : S_.BroadcastsInDim S8x2048x16x192 (![] : Fin 0 → Fin S8x2048x16x192.rank)
  reducesTo_S8x2048x16x192_S_d0_1_2_3 : S8x2048x16x192.ReducesTo [0, 1, 2, 3] S_
  h_S_ : 0 < S_.numel
  bcast_S_S8x2048 : S_.BroadcastsInDim S8x2048 (![] : Fin 0 → Fin S8x2048.rank)

variable [Facts]

def fn_part1 {F : FTy → Type} [FloatOps F] (main_arg1 : FVec F S8x2048x16x192 .f32) (main_v14 : IVec S8x2048 1) (main_v19 : IVec S8x2048 1) : IVec S8x2048 1 :=
  let main_v20 : IVec S8x2048 1 := andi main_v14 main_v19
  let main_v21 : FVec F S8x2048x16x192 .f32 := Host.absf main_arg1
  let main_cst_2 : FVec F S_ .f32 := constant S_ .f32 0x7F800000#32
  let main_v22 : FVec F S8x2048x16x192 .f32 := broadcastInDim S8x2048x16x192 ![] bcast_S_S8x2048x16x192 main_cst_2
  let main_v23 : IVec S8x2048x16x192 1 := cmpf .olt main_v21 main_v22
  let main_c_3 : IVec S_ 1 := constantI S_ 1 1#1
  let main_v24 : IVec S_ 1 := (fun x v => Host.reduce IntOp.andi x v reducesTo_S8x2048x16x192_S_d0_1_2_3 h_S_) main_v23 main_c_3
  let main_v25 : IVec S8x2048 1 := broadcastInDim S8x2048 ![] bcast_S_S8x2048 main_v24
  let main_v26 : IVec S8x2048 1 := andi main_v20 main_v25
  main_v26

def fn {F : FTy → Type} [FloatOps F] (main_arg0 : FVec F S8x2048x16x192 .f32) (main_arg1 : FVec F S8x2048x16x192 .f32) (main_arg2 : FVec F S8x2048x16x128 .f32) (main_arg3 : FVec F S8x2048x2048 .f32) (main_arg4 : IVec S8x2048 32) (main_arg5 : FVec F S192 .f32) (main_arg6 : FVec F S192 .f32) : IVec S8x2048 1 :=
  let main_v0 : IVec S8x1 32 := (extractStridedSlice S8x1 ![0, 0] · slices_S8x2048_S8x1_0_0) main_arg4
  let main_v1 : IVec S8x2048 32 := iotaInDim S8x2048 32 1
  let main_v2 : IVec S8x2048 32 := broadcastInDim S8x2048 ![0, 1] bcast_S8x1_S8x2048_0_1 main_v0
  let main_v3 : IVec S8x2048 32 := addi main_v2 main_v1
  let main_v4 : IVec S8x2048 1 := cmpi .eq main_arg4 main_v3
  let main_v5 : IVec S8x1 32 := (extractStridedSlice S8x1 ![0, 0] · slices_S8x2048_S8x1_0_0) main_arg4
  let main_c : IVec S_ 32 := constantI S_ 32 0#32
  let main_v6 : IVec S8x1 32 := broadcastInDim S8x1 ![] bcast_S_S8x1 main_c
  let main_v7 : IVec S8x1 1 := cmpi .sge main_v5 main_v6
  let main_v8 : IVec S8x2048 1 := broadcastInDim S8x2048 ![0, 1] bcast_S8x1_S8x2048_0_1 main_v7
  let main_v9 : IVec S8x2048 1 := andi main_v4 main_v8
  let main_v10 : IVec S8x1 32 := (extractStridedSlice S8x1 ![0, 0] · slices_S8x2048_S8x1_0_0) main_arg4
  let main_c_0 : IVec S_ 32 := constantI S_ 32 1024#32
  let main_v11 : IVec S8x1 32 := broadcastInDim S8x1 ![] bcast_S_S8x1 main_c_0
  let main_v12 : IVec S8x1 1 := cmpi .slt main_v10 main_v11
  let main_v13 : IVec S8x2048 1 := broadcastInDim S8x2048 ![0, 1] bcast_S8x1_S8x2048_0_1 main_v12
  let main_v14 : IVec S8x2048 1 := andi main_v9 main_v13
  let main_v15 : FVec F S8x2048x16x192 .f32 := Host.absf main_arg0
  let main_cst : FVec F S_ .f32 := constant S_ .f32 0x7F800000#32
  let main_v16 : FVec F S8x2048x16x192 .f32 := broadcastInDim S8x2048x16x192 ![] bcast_S_S8x2048x16x192 main_cst
  let main_v17 : IVec S8x2048x16x192 1 := cmpf .olt main_v15 main_v16
  let main_c_1 : IVec S_ 1 := constantI S_ 1 1#1
  let main_v18 : IVec S_ 1 := (fun x v => Host.reduce IntOp.andi x v reducesTo_S8x2048x16x192_S_d0_1_2_3 h_S_) main_v17 main_c_1
  let main_v19 : IVec S8x2048 1 := broadcastInDim S8x2048 ![] bcast_S_S8x2048 main_v18
  fn_part1 (F := F) main_arg1 main_v14 main_v19
-- ==== Kernel.lean ====
abbrev S8x2048x16x192 : Shape := ⟨4, ![8, 2048, 16, 192]⟩
abbrev S8x2048x16x128 : Shape := ⟨4, ![8, 2048, 16, 128]⟩
abbrev S8x2048x2048 : Shape := ⟨3, ![8, 2048, 2048]⟩
abbrev S8x2048 : Shape := ⟨2, ![8, 2048]⟩
abbrev S192 : Shape := ⟨1, ![192]⟩
abbrev S128 : Shape := ⟨1, ![128]⟩
abbrev S64 : Shape := ⟨1, ![64]⟩
abbrev S32 : Shape := ⟨1, ![32]⟩
abbrev S_ : Shape := ⟨0, ![]⟩
abbrev S256 : Shape := ⟨1, ![256]⟩
abbrev S1x128 : Shape := ⟨2, ![1, 128]⟩
abbrev S1 : Shape := ⟨1, ![1]⟩
abbrev S2 : Shape := ⟨1, ![2]⟩
abbrev S8x2048x16x64 : Shape := ⟨4, ![8, 2048, 16, 64]⟩
abbrev S8x2048x16x32 : Shape := ⟨4, ![8, 2048, 16, 32]⟩
abbrev S1x1x1x128 : Shape := ⟨4, ![1, 1, 1, 128]⟩
abbrev S8x2048x16x256 : Shape := ⟨4, ![8, 2048, 16, 256]⟩
abbrev S16384x4096 : Shape := ⟨2, ![16384, 4096]⟩
abbrev S16384x2048 : Shape := ⟨2, ![16384, 2048]⟩
abbrev S16384x18432 : Shape := ⟨2, ![16384, 18432]⟩
abbrev S2048x1024 : Shape := ⟨2, ![2048, 1024]⟩
abbrev S2048x512 : Shape := ⟨2, ![2048, 512]⟩
abbrev S256x256 : Shape := ⟨2, ![256, 256]⟩
abbrev S256x1 : Shape := ⟨2, ![256, 1]⟩
abbrev S256x128 : Shape := ⟨2, ![256, 128]⟩
abbrev S1x256x1 : Shape := ⟨3, ![1, 256, 1]⟩
abbrev S1x1x1 : Shape := ⟨3, ![1, 1, 1]⟩
abbrev S512x256 : Shape := ⟨2, ![512, 256]⟩
abbrev S256x512 : Shape := ⟨2, ![256, 512]⟩
abbrev S512x128 : Shape := ⟨2, ![512, 128]⟩
abbrev S768x256 : Shape := ⟨2, ![768, 256]⟩
abbrev S256x768 : Shape := ⟨2, ![256, 768]⟩
abbrev S768x128 : Shape := ⟨2, ![768, 128]⟩
abbrev S1024x256 : Shape := ⟨2, ![1024, 256]⟩
abbrev S256x1024 : Shape := ⟨2, ![256, 1024]⟩
abbrev S1024x128 : Shape := ⟨2, ![1024, 128]⟩
abbrev S1280x256 : Shape := ⟨2, ![1280, 256]⟩
abbrev S256x1280 : Shape := ⟨2, ![256, 1280]⟩
abbrev S1280x128 : Shape := ⟨2, ![1280, 128]⟩
abbrev S1536x256 : Shape := ⟨2, ![1536, 256]⟩
abbrev S256x1536 : Shape := ⟨2, ![256, 1536]⟩
abbrev S1536x128 : Shape := ⟨2, ![1536, 128]⟩
abbrev S1792x256 : Shape := ⟨2, ![1792, 256]⟩
abbrev S256x1792 : Shape := ⟨2, ![256, 1792]⟩
abbrev S1792x128 : Shape := ⟨2, ![1792, 128]⟩

abbrev nBuf : Space → Nat
  | .hbm => 94
  | .vmem => 10
  | .smem => 0
  | _ => 0

abbrev bufTy : (tb : Table) → Fin (tcTables nBuf tb) → BufTy
  | .hbm, ⟨0, _⟩ => ⟨S8x2048x16x192, .f32⟩
  | .hbm, ⟨1, _⟩ => ⟨S8x2048x16x192, .f32⟩
  | .hbm, ⟨2, _⟩ => ⟨S8x2048x16x128, .f32⟩
  | .hbm, ⟨3, _⟩ => ⟨S8x2048x2048, .f32⟩
  | .hbm, ⟨4, _⟩ => ⟨S8x2048, .i32⟩
  | .hbm, ⟨5, _⟩ => ⟨S192, .f32⟩
  | .hbm, ⟨6, _⟩ => ⟨S192, .f32⟩
  | .hbm, ⟨7, _⟩ => ⟨S128, .f32⟩
  | .hbm, ⟨8, _⟩ => ⟨S64, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S128, .f32⟩
  | .hbm, ⟨14, _⟩ => ⟨S256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x128, .f32⟩
  | .hbm, ⟨37, _⟩ => ⟨S_, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S1x128, .f32⟩
  | .hbm, ⟨44, _⟩ => ⟨S1x128, .i32⟩
  | .hbm, ⟨45, _⟩ => ⟨S_, .i32⟩
  | .hbm, ⟨46, _⟩ => ⟨S1x128, .i32⟩
  | .hbm, ⟨47, _⟩ => ⟨S1x128, .i1⟩
  | .hbm, ⟨48, _⟩ => ⟨S1x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8x2048x16x192, .f32⟩
  | .hbm, ⟨57, _⟩ => ⟨S8x2048x16x192, .f32⟩
  | .hbm, ⟨58, _⟩ => ⟨S8x2048x16x128, .f32⟩
  | .hbm, ⟨59, _⟩ => ⟨S8x2048x16x64, .f32⟩
  | .hbm, ⟨60, _⟩ => ⟨S8x2048x16x32, .f32⟩
  | .hbm, ⟨61, _⟩ => ⟨S8x2048x16x32, .f32⟩
  | .hbm, ⟨62, _⟩ => ⟨S_, .f32⟩
  | .hbm, ⟨63, _⟩ => ⟨S8x2048x16x32, .f32⟩
  | .hbm, ⟨64, _⟩ => ⟨S8x2048x16x128, .f32⟩
  | .hbm, ⟨65, _⟩ => ⟨S128, .f32⟩
  | .hbm, ⟨66, _⟩ => ⟨S1x1x1x128, .f32⟩
  | .hbm, ⟨67, _⟩ => ⟨S8x2048x16x128, .f32⟩
  | .hbm, ⟨68, _⟩ => ⟨S8x2048x16x128, .f32⟩
  | .hbm, ⟨69, _⟩ => ⟨S8x2048x16x256, .f32⟩
  | .hbm, ⟨70, _⟩ => ⟨S16384x4096, .f32⟩
  | .hbm, ⟨71, _⟩ => ⟨S16384x4096, .bf16⟩
  | .hbm, ⟨72, _⟩ => ⟨S8x2048x16x128, .f32⟩
  | .hbm, ⟨73, _⟩ => ⟨S8x2048x16x64, .f32⟩
  | .hbm, ⟨74, _⟩ => ⟨S8x2048x16x32, .f32⟩
  | .hbm, ⟨75, _⟩ => ⟨S8x2048x16x32, .f32⟩
  | .hbm, ⟨76, _⟩ => ⟨S_, .f32⟩
  | .hbm, ⟨77, _⟩ => ⟨S8x2048x16x32, .f32⟩
  | .hbm, ⟨78, _⟩ => ⟨S8x2048x16x128, .f32⟩
  | .hbm, ⟨79, _⟩ => ⟨S128, .f32⟩
  | .hbm, ⟨80, _⟩ => ⟨S1x1x1x128, .f32⟩
  | .hbm, ⟨81, _⟩ => ⟨S8x2048x16x128, .f32⟩
  | .hbm, ⟨82, _⟩ => ⟨S8x2048x16x128, .f32⟩
  | .hbm, ⟨83, _⟩ => ⟨S8x2048x16x256, .f32⟩
  | .hbm, ⟨84, _⟩ => ⟨S16384x4096, .f32⟩
  | .hbm, ⟨85, _⟩ => ⟨S16384x4096, .bf16⟩
  | .hbm, ⟨86, _⟩ => ⟨S16384x2048, .f32⟩
  | .hbm, ⟨87, _⟩ => ⟨S16384x2048, .bf16⟩
  | .hbm, ⟨88, _⟩ => ⟨S16384x2048, .f32⟩
  | .hbm, ⟨89, _⟩ => ⟨S_, .i32⟩
  | .hbm, ⟨90, _⟩ => ⟨S_, .f32⟩
  | .hbm, ⟨91, _⟩ => ⟨S16384x18432, .f32⟩
  | .hbm, ⟨92, _⟩ => ⟨S16384x18432, .bf16⟩
  | .hbm, ⟨93, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S8x2048x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_c_8 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_9 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_10 : Ref sig .tc := ⟨.hbm, 49, rfl⟩
abbrev main_v30 : Ref sig .tc := ⟨.hbm, 50, rfl⟩
abbrev main_cst_11 : Ref sig .tc := ⟨.hbm, 51, rfl⟩
abbrev main_v31 : Ref sig .tc := ⟨.hbm, 52, rfl⟩
abbrev main_v32 : Ref sig .tc := ⟨.hbm, 53, rfl⟩
abbrev main_cst_12 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_13 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_15 : Ref sig .tc := ⟨.hbm, 89, rfl⟩
abbrev main_call0_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x2048x16x192 : Shape := ⟨4, ![8, 2048, 16, 192]⟩
abbrev S8x2048x16x128 : Shape := ⟨4, ![8, 2048, 16, 128]⟩
abbrev S8x2048x2048 : Shape := ⟨3, ![8, 2048, 2048]⟩
abbrev S8x2048 : Shape := ⟨2, ![8, 2048]⟩
abbrev S192 : Shape := ⟨1, ![192]⟩
abbrev S8x16x2048x2048 : Shape := ⟨4, ![8, 16, 2048, 2048]⟩
abbrev S_ : Shape := ⟨0, ![]⟩
abbrev S8x1x2048x1 : Shape := ⟨4, ![8, 1, 2048, 1]⟩
abbrev S8x1x1x2048 : Shape := ⟨4, ![8, 1, 1, 2048]⟩
abbrev S8x1x2048x2048 : Shape := ⟨4, ![8, 1, 2048, 2048]⟩
abbrev S8x16x2048 : Shape := ⟨3, ![8, 16, 2048]⟩
abbrev S8x16x2048x1 : Shape := ⟨4, ![8, 16, 2048, 1]⟩
abbrev S8x16x128x2048 : Shape := ⟨4, ![8, 16, 128, 2048]⟩
abbrev S16384x2048 : Shape := ⟨2, ![16384, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x16x192, .f32⟩
  | .hbm, ⟨1, _⟩ => ⟨S8x2048x16x192, .f32⟩
  | .hbm, ⟨2, _⟩ => ⟨S8x2048x16x128, .f32⟩
  | .hbm, ⟨3, _⟩ => ⟨S8x2048x2048, .f32⟩
  | .hbm, ⟨4, _⟩ => ⟨S8x2048, .i32⟩
  | .hbm, ⟨5, _⟩ => ⟨S192, .f32⟩
  | .hbm, ⟨6, _⟩ => ⟨S192, .f32⟩
  | .hbm, ⟨7, _⟩ => ⟨S8x16x2048x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x16x2048x2048, .f32⟩
  | .hbm, ⟨13, _⟩ => ⟨S8x16x2048x2048, .f32⟩
  | .hbm, ⟨14, _⟩ => ⟨S8x1x2048x1, .i32⟩
  | .hbm, ⟨15, _⟩ => ⟨S8x1x1x2048, .i32⟩
  | .hbm, ⟨16, _⟩ => ⟨S8x1x2048x2048, .i32⟩
  | .hbm, ⟨17, _⟩ => ⟨S8x1x2048x2048, .i32⟩
  | .hbm, ⟨18, _⟩ => ⟨S8x1x2048x2048, .i1⟩
  | .hbm, ⟨19, _⟩ => ⟨S_, .f32⟩
  | .hbm, ⟨20, _⟩ => ⟨S_, .f32⟩
  | .hbm, ⟨21, _⟩ => ⟨S8x16x2048x2048, .i1⟩
  | .hbm, ⟨22, _⟩ => ⟨S8x16x2048x2048, .f32⟩
  | .hbm, ⟨23, _⟩ => ⟨S8x16x2048x2048, .f32⟩
  | .hbm, ⟨24, _⟩ => ⟨S_, .f32⟩
  | .hbm, ⟨25, _⟩ => ⟨S8x16x2048, .f32⟩
  | .hbm, ⟨26, _⟩ => ⟨S_, .f32⟩
  | .hbm, ⟨27, _⟩ => ⟨S8x16x2048, .f32⟩
  | .hbm, ⟨28, _⟩ => ⟨S8x16x2048, .f32⟩
  | .hbm, ⟨29, _⟩ => ⟨S8x16x2048x1, .f32⟩
  | .hbm, ⟨30, _⟩ => ⟨S8x16x2048x2048, .f32⟩
  | .hbm, ⟨31, _⟩ => ⟨S8x16x2048x2048, .f32⟩
  | .hbm, ⟨32, _⟩ => ⟨S8x16x2048x2048, .f32⟩
  | .hbm, ⟨33, _⟩ => ⟨S_, .f32⟩
  | .hbm, ⟨34, _⟩ => ⟨S8x16x2048, .f32⟩
  | .hbm, ⟨35, _⟩ => ⟨S8x16x2048x1, .f32⟩
  | .hbm, ⟨36, _⟩ => ⟨S8x16x2048x2048, .f32⟩
  | .hbm, ⟨37, _⟩ => ⟨S8x16x2048x2048, .f32⟩
  | .hbm, ⟨38, _⟩ => ⟨S8x16x128x2048, .f32⟩
  | .hbm, ⟨39, _⟩ => ⟨S8x2048x16x128, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S16384x2048, .f32⟩
  | .hbm, ⟨52, _⟩ => ⟨S16384x2048, .bf16⟩
  | _, _ => ⟨S8x2048x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩

abbrev nD : Nat := 1
abbrev τ : Topo := Topo.v7x

variable {F : FTy → Type} [FloatOps F]
-- ==== OutProj.lean ====
abbrev S8x2048x4096 : Shape := ⟨3, ![8, 2048, 4096]⟩
abbrev S4096x4096 : Shape := ⟨2, ![4096, 4096]⟩
abbrev S16384x4096 : Shape := ⟨2, ![16384, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S8x2048x4096, .f32⟩
  | .hbm, ⟨3, _⟩ => ⟨S16384x4096, .f32⟩
  | .hbm, ⟨4, _⟩ => ⟨S16384x4096, .bf16⟩
  | .hbm, ⟨5, _⟩ => ⟨S4096x4096, .bf16⟩
  | .hbm, ⟨6, _⟩ => ⟨S16384x4096, .f32⟩
  | .hbm, ⟨7, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8x2048x4096 : Shape := ⟨3, ![8, 2048, 4096]⟩
abbrev S4096x4096 : Shape := ⟨2, ![4096, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S8x2048x4096, .f32⟩
  | .hbm, ⟨3, _⟩ => ⟨S8x2048x4096, .f32⟩
  | .hbm, ⟨4, _⟩ => ⟨S8x2048x4096, .f32⟩
  | .hbm, ⟨5, _⟩ => ⟨S16384x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Merge.lean ====
abbrev S8x2048x2048 : Shape := ⟨3, ![8, 2048, 2048]⟩
abbrev S2048x4096 : Shape := ⟨2, ![2048, 4096]⟩
abbrev S8x2048x4096 : Shape := ⟨3, ![8, 2048, 4096]⟩
abbrev S16384x4096 : Shape := ⟨2, ![16384, 4096]⟩
abbrev S16384x8192 : Shape := ⟨2, ![16384, 8192]⟩
abbrev S_ : Shape := ⟨0, ![]⟩
abbrev S16384x18432 : Shape := ⟨2, ![16384, 18432]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 20
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S2048x4096, .f32⟩
  | .hbm, ⟨3, _⟩ => ⟨S2048x4096, .f32⟩
  | .hbm, ⟨4, _⟩ => ⟨S8x2048x4096, .f32⟩
  | .hbm, ⟨5, _⟩ => ⟨S8x2048x4096, .f32⟩
  | .hbm, ⟨6, _⟩ => ⟨S16384x4096, .f32⟩
  | .hbm, ⟨7, _⟩ => ⟨S16384x4096, .f32⟩
  | .hbm, ⟨8, _⟩ => ⟨S16384x8192, .f32⟩
  | .hbm, ⟨9, _⟩ => ⟨S_, .i32⟩
  | .hbm, ⟨10, _⟩ => ⟨S_, .f32⟩
  | .hbm, ⟨11, _⟩ => ⟨S16384x18432, .f32⟩
  | .hbm, ⟨12, _⟩ => ⟨S16384x18432, .bf16⟩
  | .hbm, ⟨13, _⟩ => ⟨S16384x2048, .f32⟩
  | .hbm, ⟨14, _⟩ => ⟨S16384x2048, .bf16⟩
  | .hbm, ⟨15, _⟩ => ⟨S16384x2048, .f32⟩
  | .hbm, ⟨16, _⟩ => ⟨S16384x2048, .bf16⟩
  | .hbm, ⟨17, _⟩ => ⟨S2048x4096, .bf16⟩
  | .hbm, ⟨18, _⟩ => ⟨S2048x4096, .bf16⟩
  | .hbm, ⟨19, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8x2048x2048 : Shape := ⟨3, ![8, 2048, 2048]⟩
abbrev S2048x4096 : Shape := ⟨2, ![2048, 4096]⟩
abbrev S8x2048x4096 : Shape := ⟨3, ![8, 2048, 4096]⟩
abbrev S_ : Shape := ⟨0, ![]⟩
abbrev S16384x4096 : Shape := ⟨2, ![16384, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S2048x4096, .f32⟩
  | .hbm, ⟨3, _⟩ => ⟨S2048x4096, .f32⟩
  | .hbm, ⟨4, _⟩ => ⟨S8x2048x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S8x2048x4096, .f32⟩
  | .hbm, ⟨18, _⟩ => ⟨S_, .f32⟩
  | .hbm, ⟨19, _⟩ => ⟨S8x2048x4096, .f32⟩
  | .hbm, ⟨20, _⟩ => ⟨S8x2048x4096, .f32⟩
  | .hbm, ⟨21, _⟩ => ⟨S_, .f32⟩
  | .hbm, ⟨22, _⟩ => ⟨S8x2048x4096, .f32⟩
  | .hbm, ⟨23, _⟩ => ⟨S8x2048x4096, .f32⟩
  | .hbm, ⟨24, _⟩ => ⟨S8x2048x4096, .f32⟩
  | .hbm, ⟨25, _⟩ => ⟨S8x2048x4096, .f32⟩
  | .hbm, ⟨26, _⟩ => ⟨S8x2048x4096, .f32⟩
  | .hbm, ⟨27, _⟩ => ⟨S16384x4096, .f32⟩
  | .hbm, ⟨28, _⟩ => ⟨S16384x4096, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== InProj.lean ====
abbrev S8x2048x4096 : Shape := ⟨3, ![8, 2048, 4096]⟩
abbrev S4096 : Shape := ⟨1, ![4096]⟩
abbrev S18432x4096 : Shape := ⟨2, ![18432, 4096]⟩
abbrev S16384x4096 : Shape := ⟨2, ![16384, 4096]⟩
abbrev S1x4096 : Shape := ⟨2, ![1, 4096]⟩
abbrev S16384x18432 : Shape := ⟨2, ![16384, 18432]⟩
abbrev S1024x4096 : Shape := ⟨2, ![1024, 4096]⟩
abbrev S1024x1024 : Shape := ⟨2, ![1024, 1024]⟩
abbrev S_ : Shape := ⟨0, ![]⟩
abbrev S64x4096 : Shape := ⟨2, ![64, 4096]⟩
abbrev S64 : Shape := ⟨1, ![64]⟩
abbrev S64x1 : Shape := ⟨2, ![64, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S18432x4096, .f32⟩
  | .hbm, ⟨3, _⟩ => ⟨S16384x4096, .f32⟩
  | .hbm, ⟨4, _⟩ => ⟨S18432x4096, .bf16⟩
  | .hbm, ⟨5, _⟩ => ⟨S1x4096, .f32⟩
  | .hbm, ⟨6, _⟩ => ⟨S16384x18432, .bf16⟩
  | .local _ .vmem, ⟨0, _⟩ => ⟨S1x4096, .f32⟩
  | .local _ .vmem, ⟨1, _⟩ => ⟨S1024x4096, .bf16⟩
  | .local _ .vmem, ⟨2, _⟩ => ⟨S1024x4096, .bf16⟩
  | .local _ .vmem, ⟨3, _⟩ => ⟨S1024x1024, .bf16⟩
  | .local _ .vmem, ⟨4, _⟩ => ⟨S1024x1024, .bf16⟩
  | .local _ .vmem, ⟨5, _⟩ => ⟨S1024x4096, .f32⟩
  | .local _ .vmem, ⟨6, _⟩ => ⟨S1024x4096, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 18], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_11 : BitVec 32 := 0#32
  c0_i32_11
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let arg0 : BitVec 32 := BitVec.ofNat 32 (i 0).val
  let c1024_i32 : BitVec 32 := 1024#32
  let v20 : BitVec 32 := Scalar.muli arg0 c1024_i32
  v20
def k0_off1 (i : grid0.Coords) : Fin 2 → Nat :=
  let arg0 : BitVec 32 := BitVec.ofNat 32 (i 0).val
  let c1024_i32 : BitVec 32 := 1024#32
  let v20 : BitVec 32 := Scalar.muli arg0 c1024_i32
  let v21 : BitVec 32 := v20
  let c0_i32_11 : BitVec 32 := 0#32
  ![v21.toNat, 0]
@[reducible] def k0_t1_loop : Scf.Loop 32 :=
  let c0_i32_12 : BitVec 32 := 0#32
  let c16_i32_13 : BitVec 32 := 16#32
  let v23 : BitVec 32 := Scalar.addi c0_i32_12 c16_i32_13
  let c1_i32_14 : BitVec 32 := 1#32
  ⟨c0_i32_12, v23, c1_i32_14⟩
def k0_mult3 (k0_t1 : Fin k0_t1_loop.trips) : BitVec 32 :=
  let c0_i32_12 : BitVec 32 := 0#32
  let c1_i32_14 : BitVec 32 := 1#32
  let arg9 : BitVec 32 := Scf.iv c0_i32_12 c1_i32_14 k0_t1
  let c64_i32 : BitVec 32 := 64#32
  let v24 : BitVec 32 := Scalar.muli arg9 c64_i32
  v24
def k0_off2 (k0_t1 : Fin k0_t1_loop.trips) : Fin 2 → Nat :=
  let c0_i32_12 : BitVec 32 := 0#32
  let c1_i32_14 : BitVec 32 := 1#32
  let arg9 : BitVec 32 := Scf.iv c0_i32_12 c1_i32_14 k0_t1
  let c64_i32 : BitVec 32 := 64#32
  let v24 : BitVec 32 := Scalar.muli arg9 c64_i32
  let v25 : BitVec 32 := v24
  let v26 : Index := Scalar.indexCast v25
  let c0_16 : Index := 0#32
  ![v26.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c16_i32 : BitVec 32 := 16#32
  let v10 : BitVec 1 := Scalar.cmpi .slt v9 c16_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult4 (i : grid0.Coords) : BitVec 32 :=
  let arg0 : BitVec 32 := BitVec.ofNat 32 (i 0).val
  let c1_i32_11 : BitVec 32 := 1#32
  let v20 : BitVec 32 := Scalar.addi arg0 c1_i32_11
  let c1024_i32 : BitVec 32 := 1024#32
  let v21 : BitVec 32 := Scalar.muli v20 c1024_i32
  v21
def k0_off3 (i : grid0.Coords) : Fin 2 → Nat :=
  let arg0 : BitVec 32 := BitVec.ofNat 32 (i 0).val
  let c1_i32_11 : BitVec 32 := 1#32
  let v20 : BitVec 32 := Scalar.addi arg0 c1_i32_11
  let c1024_i32 : BitVec 32 := 1024#32
  let v21 : BitVec 32 := Scalar.muli v20 c1024_i32
  let v22 : BitVec 32 := v21
  let c0_i32_12 : BitVec 32 := 0#32
  ![v22.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8x2048x4096 : Shape := ⟨3, ![8, 2048, 4096]⟩
abbrev S4096 : Shape := ⟨1, ![4096]⟩
abbrev S18432x4096 : Shape := ⟨2, ![18432, 4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S4096x18432 : Shape := ⟨2, ![4096, 18432]⟩
abbrev S8x2048x18432 : Shape := ⟨3, ![8, 2048, 18432]⟩
abbrev S16384x18432 : Shape := ⟨2, ![16384, 18432]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S18432x4096, .f32⟩
  | .hbm, ⟨3, _⟩ => ⟨S8x2048x4096, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x4096, .f32⟩
  | .hbm, ⟨15, _⟩ => ⟨S8x2048x4096, .f32⟩
  | .hbm, ⟨16, _⟩ => ⟨S1x1x4096, .f32⟩
  | .hbm, ⟨17, _⟩ => ⟨S8x2048x4096, .f32⟩
  | .hbm, ⟨18, _⟩ => ⟨S8x2048x4096, .f32⟩
  | .hbm, ⟨19, _⟩ => ⟨S4096x18432, .f32⟩
  | .hbm, ⟨20, _⟩ => ⟨S8x2048x18432, .f32⟩
  | .hbm, ⟨21, _⟩ => ⟨S16384x18432, .f32⟩
  | .hbm, ⟨22, _⟩ => ⟨S16384x18432, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== QaProj.lean ====
abbrev S8x2048x1024 : Shape := ⟨3, ![8, 2048, 1024]⟩
abbrev S8x2048 : Shape := ⟨2, ![8, 2048]⟩
abbrev S1024 : Shape := ⟨1, ![1024]⟩
abbrev S1024x3072 : Shape := ⟨2, ![1024, 3072]⟩
abbrev S192 : Shape := ⟨1, ![192]⟩
abbrev S1024x16x192 : Shape := ⟨3, ![1024, 16, 192]⟩
abbrev S1024x16x128 : Shape := ⟨3, ![1024, 16, 128]⟩
abbrev S1024x16x64 : Shape := ⟨3, ![1024, 16, 64]⟩
abbrev S1024x16x32 : Shape := ⟨3, ![1024, 16, 32]⟩
abbrev S_ : Shape := ⟨0, ![]⟩
abbrev S1024x16x256 : Shape := ⟨3, ![1024, 16, 256]⟩
abbrev S1024x4096 : Shape := ⟨2, ![1024, 4096]⟩
abbrev S128 : Shape := ⟨1, ![128]⟩
abbrev S64 : Shape := ⟨1, ![64]⟩
abbrev S32 : Shape := ⟨1, ![32]⟩
abbrev S256 : Shape := ⟨1, ![256]⟩
abbrev S1x256 : Shape := ⟨2, ![1, 256]⟩
abbrev S16x256 : Shape := ⟨2, ![16, 256]⟩
abbrev S4096 : Shape := ⟨1, ![4096]⟩
abbrev S1x4096 : Shape := ⟨2, ![1, 4096]⟩
abbrev S1x128 : Shape := ⟨2, ![1, 128]⟩
abbrev S1 : Shape := ⟨1, ![1]⟩
abbrev S2 : Shape := ⟨1, ![2]⟩
abbrev S8x1 : Shape := ⟨2, ![8, 1]⟩
abbrev S8x1x1 : Shape := ⟨3, ![8, 1, 1]⟩
abbrev S1x1x32 : Shape := ⟨3, ![1, 1, 32]⟩
abbrev S8x1x32 : Shape := ⟨3, ![8, 1, 32]⟩
abbrev S2048 : Shape := ⟨1, ![2048]⟩
abbrev S1x2048x1 : Shape := ⟨3, ![1, 2048, 1]⟩
abbrev S1x2048x32 : Shape := ⟨3, ![1, 2048, 32]⟩
abbrev S8x2048x32 : Shape := ⟨3, ![8, 2048, 32]⟩
abbrev S16384x32 : Shape := ⟨2, ![16384, 32]⟩
abbrev S16384x128 : Shape := ⟨2, ![16384, 128]⟩
abbrev S16384x1024 : Shape := ⟨2, ![16384, 1024]⟩
abbrev S16384x18432 : Shape := ⟨2, ![16384, 18432]⟩
abbrev S1x1024 : Shape := ⟨2, ![1, 1024]⟩
abbrev S16384x4096 : Shape := ⟨2, ![16384, 4096]⟩
abbrev S512x1024 : Shape := ⟨2, ![512, 1024]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩
abbrev S512x256 : Shape := ⟨2, ![512, 256]⟩
abbrev S8x2048x16x256 : Shape := ⟨4, ![8, 2048, 16, 256]⟩
abbrev S8x2048x16x128 : Shape := ⟨4, ![8, 2048, 16, 128]⟩
abbrev S8x2048x16x32 : Shape := ⟨4, ![8, 2048, 16, 32]⟩
abbrev S8x2048x16x192 : Shape := ⟨4, ![8, 2048, 16, 192]⟩

abbrev nBuf : Space → Nat
  | .hbm => 130
  | .vmem => 12
  | .smem => 0
  | _ => 0

abbrev hbmTy0_0 (i : Nat) : BufTy := match i % 128 with
  | 0 => ⟨S8x2048x1024, .f32⟩
  | 1 => ⟨S8x2048, .i32⟩
  | 2 => ⟨S1024, .f32⟩
  | 3 => ⟨S1024x3072, .f32⟩
  | 4 => ⟨S192, .f32⟩
  | 5 => ⟨S192, .f32⟩
  | 6 => ⟨S1024x16x192, .f32⟩
  | 7 => ⟨S1024x16x128, .f32⟩
  | 8 => ⟨S1024x16x64, .f32⟩
  | 9 => ⟨S1024x16x32, .f32⟩
  | 10 => ⟨S1024x16x32, .f32⟩
  | 11 => ⟨S_, .f32⟩
  | 12 => ⟨S1024x16x32, .f32⟩
  | 13 => ⟨S1024x16x128, .f32⟩
  | 14 => ⟨S1024x16x256, .f32⟩
  | 15 => ⟨S1024x4096, .f32⟩
  | 16 => ⟨S1024x4096, .bf16⟩
  | 17 => ⟨S128, .f32⟩
  | 18 => ⟨S64, .f32⟩
  | 19 => ⟨S32, .f32⟩
  | 20 => ⟨S32, .f32⟩
  | 21 => ⟨S_, .f32⟩
  | 22 => ⟨S32, .f32⟩
  | 23 => ⟨S128, .f32⟩
  | 24 => ⟨S256, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S256, .f32⟩
  | 33 => ⟨S256, .f32⟩
  | 34 => ⟨S1x256, .f32⟩
  | 35 => ⟨S16x256, .f32⟩
  | 36 => ⟨S4096, .f32⟩
  | 37 => ⟨S1x4096, .f32⟩
  | 38 => ⟨S256, .f32⟩
  | 39 => ⟨S_, .f32⟩
  | 40 => ⟨S_, .f32⟩
  | 41 => ⟨S_, .f32⟩
  | 42 => ⟨S_, .f32⟩
  | 43 => ⟨S192, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S1x128, .f32⟩
  | 51 => ⟨S_, .f32⟩
  | 52 => ⟨S_, .i32⟩
  | 53 => ⟨S1, .i32⟩
  | 54 => ⟨S_, .i32⟩
  | 55 => ⟨S1, .i32⟩
  | 56 => ⟨S2, .i32⟩
  | 57 => ⟨S1x128, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S8x1, .i32⟩
  | 67 => ⟨S8x1x1, .i32⟩
  | 68 => ⟨S8x1x1, .f32⟩
  | 69 => ⟨S1x1x32, .f32⟩
  | 70 => ⟨S8x1x32, .f32⟩
  | 71 => ⟨S8x1x32, .f32⟩
  | 72 => ⟨S8x1x32, .f32⟩
  | 73 => ⟨S2048, .f32⟩
  | 74 => ⟨S1x2048x1, .f32⟩
  | 75 => ⟨S1x1x32, .f32⟩
  | 76 => ⟨S1x2048x32, .f32⟩
  | 77 => ⟨S1x2048x32, .f32⟩
  | 78 => ⟨S1x2048x32, .f32⟩
  | 79 => ⟨S8x1x32, .f32⟩
  | 80 => ⟨S1x2048x32, .f32⟩
  | 81 => ⟨S8x2048x32, .f32⟩
  | 82 => ⟨S8x2048x32, .f32⟩
  | 83 => ⟨S8x2048x32, .f32⟩
  | 84 => ⟨S8x1x32, .f32⟩
  | 85 => ⟨S1x2048x32, .f32⟩
  | 86 => ⟨S8x2048x32, .f32⟩
  | 87 => ⟨S8x2048x32, .f32⟩
  | 88 => ⟨S8x2048x32, .f32⟩
  | 89 => ⟨S8x2048x32, .f32⟩
  | 90 => ⟨S16384x32, .f32⟩
  | 91 => ⟨S8x1x32, .f32⟩
  | 92 => ⟨S1x2048x32, .f32⟩
  | 93 => ⟨S8x2048x32, .f32⟩
  | 94 => ⟨S8x2048x32, .f32⟩
  | 95 => ⟨S8x2048x32, .f32⟩
  | 96 => ⟨S8x1x32, .f32⟩
  | 97 => ⟨S1x2048x32, .f32⟩
  | 98 => ⟨S8x2048x32, .f32⟩
  | 99 => ⟨S8x2048x32, .f32⟩
  | 100 => ⟨S8x2048x32, .f32⟩
  | 101 => ⟨S8x2048x32, .f32⟩
  | 102 => ⟨S16384x32, .f32⟩
  | 103 => ⟨S_, .f32⟩
  | 104 => ⟨S16384x32, .f32⟩
  | 105 => ⟨S16384x128, .f32⟩
  | 106 => ⟨S16384x32, .f32⟩
  | 107 => ⟨S16384x128, .f32⟩
  | 108 => ⟨S16384x1024, .f32⟩
  | 109 => ⟨S_, .i32⟩
  | 110 => ⟨S_, .f32⟩
  | 111 => ⟨S16384x18432, .f32⟩
  | 112 => ⟨S16384x18432, .bf16⟩
  | 113 => ⟨S1x1024, .f32⟩
  | 114 => ⟨S16384x4096, .bf16⟩
  | 115 => ⟨S8x2048x16x256, .bf16⟩
  | 116 => ⟨S8x2048x16x128, .bf16⟩
  | 117 => ⟨S8x2048x16x32, .bf16⟩
  | 118 => ⟨S8x2048x16x32, .bf16⟩
  | 119 => ⟨S8x2048x16x192, .bf16⟩
  | 120 => ⟨S8x2048x16x192, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x2048x1024, .f32⟩

abbrev hbmTy0_1 (i : Nat) : BufTy := match i % 128 with
  | 0 => ⟨S8x2048x16x192, .f32⟩
  | 1 => ⟨S8x2048x16x192, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1024x4096, .bf16⟩
  | .local _ .vmem, ⟨4, _⟩ => ⟨S1x4096, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x128, .f32⟩
  | .local _ .vmem, ⟨10, _⟩ => ⟨S512x4096, .bf16⟩
  | .local _ .vmem, ⟨11, _⟩ => ⟨S512x4096, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_c : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_12 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_c_13 : Ref sig .tc := ⟨.hbm, 109, rfl⟩
abbrev main_call0_v0 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_14 : Ref sig .tc := ⟨.hbm, 121, rfl⟩
abbrev main_v98 : Ref sig .tc := ⟨.hbm, 122, rfl⟩
abbrev main_cst_15 : Ref sig .tc := ⟨.hbm, 123, rfl⟩
abbrev main_v99 : Ref sig .tc := ⟨.hbm, 124, rfl⟩
abbrev main_v100 : Ref sig .tc := ⟨.hbm, 125, rfl⟩
abbrev main_cst_16 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QaProjIdeal.lean ====
variable {F : FTy → Type} [FloatOps F] [Named F]
def κ : String → Option EReal := fun
  | "inv_qk_dim" => some ((1 / 192 : ℝ) : EReal)
  | _ => none
-- ==== QaProjRefIdeal.lean ====
abbrev S8x2048x1024 : Shape := ⟨3, ![8, 2048, 1024]⟩
abbrev S8x2048 : Shape := ⟨2, ![8, 2048]⟩
abbrev S1024 : Shape := ⟨1, ![1024]⟩
abbrev S1024x3072 : Shape := ⟨2, ![1024, 3072]⟩
abbrev S192 : Shape := ⟨1, ![192]⟩
abbrev S_ : Shape := ⟨0, ![]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x16x192 : Shape := ⟨4, ![8, 2048, 16, 192]⟩
abbrev S8x2048x16 : Shape := ⟨3, ![8, 2048, 16]⟩
abbrev S8x2048x16x1 : Shape := ⟨4, ![8, 2048, 16, 1]⟩
abbrev S1x1x1x192 : Shape := ⟨4, ![1, 1, 1, 192]⟩
abbrev S8x2048x16x128 : Shape := ⟨4, ![8, 2048, 16, 128]⟩
abbrev S8x2048x16x64 : Shape := ⟨4, ![8, 2048, 16, 64]⟩
abbrev S32 : Shape := ⟨1, ![32]⟩
abbrev S8x2048x1x1 : Shape := ⟨4, ![8, 2048, 1, 1]⟩
abbrev S1x1x1x32 : Shape := ⟨4, ![1, 1, 1, 32]⟩
abbrev S8x2048x1x32 : Shape := ⟨4, ![8, 2048, 1, 32]⟩
abbrev S8x2048x16x32 : Shape := ⟨4, ![8, 2048, 16, 32]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i32⟩
  | .hbm, ⟨2, _⟩ => ⟨S1024, .f32⟩
  | .hbm, ⟨3, _⟩ => ⟨S1024x3072, .f32⟩
  | .hbm, ⟨4, _⟩ => ⟨S192, .f32⟩
  | .hbm, ⟨5, _⟩ => ⟨S192, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x3072, .f32⟩
  | .hbm, ⟨23, _⟩ => ⟨S8x2048x16x192, .f32⟩
  | .hbm, ⟨24, _⟩ => ⟨S8x2048x16x192, .f32⟩
  | .hbm, ⟨25, _⟩ => ⟨S_, .f32⟩
  | .hbm, ⟨26, _⟩ => ⟨S8x2048x16, .f32⟩
  | .hbm, ⟨27, _⟩ => ⟨S8x2048x16x1, .f32⟩
  | .hbm, ⟨28, _⟩ => ⟨S_, .f32⟩
  | .hbm, ⟨29, _⟩ => ⟨S8x2048x16x1, .f32⟩
  | .hbm, ⟨30, _⟩ => ⟨S8x2048x16x1, .f32⟩
  | .hbm, ⟨31, _⟩ => ⟨S_, .f32⟩
  | .hbm, ⟨32, _⟩ => ⟨S8x2048x16x1, .f32⟩
  | .hbm, ⟨33, _⟩ => ⟨S8x2048x16x1, .f32⟩
  | .hbm, ⟨34, _⟩ => ⟨S8x2048x16x1, .f32⟩
  | .hbm, ⟨35, _⟩ => ⟨S8x2048x16x192, .f32⟩
  | .hbm, ⟨36, _⟩ => ⟨S8x2048x16x192, .f32⟩
  | .hbm, ⟨37, _⟩ => ⟨S1x1x1x192, .f32⟩
  | .hbm, ⟨38, _⟩ => ⟨S8x2048x16x192, .f32⟩
  | .hbm, ⟨39, _⟩ => ⟨S8x2048x16x192, .f32⟩
  | .hbm, ⟨40, _⟩ => ⟨S8x2048x16x128, .f32⟩
  | .hbm, ⟨41, _⟩ => ⟨S8x2048x16x64, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S8x2048, .f32⟩
  | .hbm, ⟨51, _⟩ => ⟨S8x2048x1x1, .f32⟩
  | .hbm, ⟨52, _⟩ => ⟨S1x1x1x32, .f32⟩
  | .hbm, ⟨53, _⟩ => ⟨S8x2048x1x32, .f32⟩
  | .hbm, ⟨54, _⟩ => ⟨S8x2048x1x32, .f32⟩
  | .hbm, ⟨55, _⟩ => ⟨S8x2048x1x32, .f32⟩
  | .hbm, ⟨56, _⟩ => ⟨S8x2048x1x32, .f32⟩
  | .hbm, ⟨57, _⟩ => ⟨S8x2048x1x32, .f32⟩
  | .hbm, ⟨58, _⟩ => ⟨S8x2048x16x32, .f32⟩
  | .hbm, ⟨59, _⟩ => ⟨S8x2048x16x32, .f32⟩
  | .hbm, ⟨60, _⟩ => ⟨S8x2048x16x32, .f32⟩
  | .hbm, ⟨61, _⟩ => ⟨S8x2048x16x32, .f32⟩
  | .hbm, ⟨62, _⟩ => ⟨S8x2048x16x32, .f32⟩
  | .hbm, ⟨63, _⟩ => ⟨S8x2048x16x32, .f32⟩
  | .hbm, ⟨64, _⟩ => ⟨S8x2048x16x32, .f32⟩
  | .hbm, ⟨65, _⟩ => ⟨S8x2048x16x32, .f32⟩
  | .hbm, ⟨66, _⟩ => ⟨S8x2048x16x32, .f32⟩
  | .hbm, ⟨67, _⟩ => ⟨S8x2048x16x32, .f32⟩
  | .hbm, ⟨68, _⟩ => ⟨S8x2048x16x32, .f32⟩
  | .hbm, ⟨69, _⟩ => ⟨S8x2048x16x32, .f32⟩
  | .hbm, ⟨70, _⟩ => ⟨S8x2048x16x64, .f32⟩
  | .hbm, ⟨71, _⟩ => ⟨S8x2048x16x192, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== KvaProj.lean ====
abbrev S8x2048x512 : Shape := ⟨3, ![8, 2048, 512]⟩
abbrev S8x2048x64 : Shape := ⟨3, ![8, 2048, 64]⟩
abbrev S8x2048 : Shape := ⟨2, ![8, 2048]⟩
abbrev S512 : Shape := ⟨1, ![512]⟩
abbrev S512x4096 : Shape := ⟨2, ![512, 4096]⟩
abbrev S192 : Shape := ⟨1, ![192]⟩
abbrev S512x16x256 : Shape := ⟨3, ![512, 16, 256]⟩
abbrev S512x16x128 : Shape := ⟨3, ![512, 16, 128]⟩
abbrev S512x2048 : Shape := ⟨2, ![512, 2048]⟩
abbrev S128 : Shape := ⟨1, ![128]⟩
abbrev S1x128 : Shape := ⟨2, ![1, 128]⟩
abbrev S64 : Shape := ⟨1, ![64]⟩
abbrev S32 : Shape := ⟨1, ![32]⟩
abbrev S_ : Shape := ⟨0, ![]⟩
abbrev S8x1 : Shape := ⟨2, ![8, 1]⟩
abbrev S8x1x1 : Shape := ⟨3, ![8, 1, 1]⟩
abbrev S1x1x32 : Shape := ⟨3, ![1, 1, 32]⟩
abbrev S8x1x32 : Shape := ⟨3, ![8, 1, 32]⟩
abbrev S2048 : Shape := ⟨1, ![2048]⟩
abbrev S1x2048x1 : Shape := ⟨3, ![1, 2048, 1]⟩
abbrev S1x2048x32 : Shape := ⟨3, ![1, 2048, 32]⟩
abbrev S8x2048x32 : Shape := ⟨3, ![8, 2048, 32]⟩
abbrev S16384x32 : Shape := ⟨2, ![16384, 32]⟩
abbrev S16384x128 : Shape := ⟨2, ![16384, 128]⟩
abbrev S16384x512 : Shape := ⟨2, ![16384, 512]⟩
abbrev S16384x64 : Shape := ⟨2, ![16384, 64]⟩
abbrev S16384x768 : Shape := ⟨2, ![16384, 768]⟩
abbrev S16384x18432 : Shape := ⟨2, ![16384, 18432]⟩
abbrev S1x512 : Shape := ⟨2, ![1, 512]⟩
abbrev S16384x4096 : Shape := ⟨2, ![16384, 4096]⟩
abbrev S16384x2048 : Shape := ⟨2, ![16384, 2048]⟩
abbrev S512x512 : Shape := ⟨2, ![512, 512]⟩
abbrev S512x128 : Shape := ⟨2, ![512, 128]⟩
abbrev S512x1 : Shape := ⟨2, ![512, 1]⟩
abbrev S8x2048x16x256 : Shape := ⟨4, ![8, 2048, 16, 256]⟩
abbrev S8x2048x16x128 : Shape := ⟨4, ![8, 2048, 16, 128]⟩
abbrev S8x2048x16x32 : Shape := ⟨4, ![8, 2048, 16, 32]⟩
abbrev S8x2048x16x192 : Shape := ⟨4, ![8, 2048, 16, 192]⟩

abbrev nBuf : Space → Nat
  | .hbm => 94
  | .vmem => 17
  | .smem => 0
  | _ => 0

abbrev bufTy : (tb : Table) → Fin (tcTables nBuf tb) → BufTy
  | .hbm, ⟨0, _⟩ => ⟨S8x2048x512, .f32⟩
  | .hbm, ⟨1, _⟩ => ⟨S8x2048x64, .f32⟩
  | .hbm, ⟨2, _⟩ => ⟨S8x2048, .i32⟩
  | .hbm, ⟨3, _⟩ => ⟨S512, .f32⟩
  | .hbm, ⟨4, _⟩ => ⟨S512x4096, .f32⟩
  | .hbm, ⟨5, _⟩ => ⟨S192, .f32⟩
  | .hbm, ⟨6, _⟩ => ⟨S512x16x256, .f32⟩
  | .hbm, ⟨7, _⟩ => ⟨S512x16x128, .f32⟩
  | .hbm, ⟨8, _⟩ => ⟨S512x2048, .f32⟩
  | .hbm, ⟨9, _⟩ => ⟨S512x2048, .bf16⟩
  | .hbm, ⟨10, _⟩ => ⟨S512x16x128, .f32⟩
  | .hbm, ⟨11, _⟩ => ⟨S512x2048, .f32⟩
  | .hbm, ⟨12, _⟩ => ⟨S512x2048, .bf16⟩
  | .hbm, ⟨13, _⟩ => ⟨S128, .f32⟩
  | .hbm, ⟨14, _⟩ => ⟨S1x128, .f32⟩
  | .hbm, ⟨15, _⟩ => ⟨S64, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S128, .f32⟩
  | .hbm, ⟨21, _⟩ => ⟨S1x128, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S8x1, .i32⟩
  | .hbm, ⟨31, _⟩ => ⟨S8x1x1, .i32⟩
  | .hbm, ⟨32, _⟩ => ⟨S8x1x1, .f32⟩
  | .hbm, ⟨33, _⟩ => ⟨S1x1x32, .f32⟩
  | .hbm, ⟨34, _⟩ => ⟨S8x1x32, .f32⟩
  | .hbm, ⟨35, _⟩ => ⟨S8x1x32, .f32⟩
  | .hbm, ⟨36, _⟩ => ⟨S8x1x32, .f32⟩
  | .hbm, ⟨37, _⟩ => ⟨S2048, .f32⟩
  | .hbm, ⟨38, _⟩ => ⟨S1x2048x1, .f32⟩
  | .hbm, ⟨39, _⟩ => ⟨S1x1x32, .f32⟩
  | .hbm, ⟨40, _⟩ => ⟨S1x2048x32, .f32⟩
  | .hbm, ⟨41, _⟩ => ⟨S1x2048x32, .f32⟩
  | .hbm, ⟨42, _⟩ => ⟨S1x2048x32, .f32⟩
  | .hbm, ⟨43, _⟩ => ⟨S8x1x32, .f32⟩
  | .hbm, ⟨44, _⟩ => ⟨S1x2048x32, .f32⟩
  | .hbm, ⟨45, _⟩ => ⟨S8x2048x32, .f32⟩
  | .hbm, ⟨46, _⟩ => ⟨S8x2048x32, .f32⟩
  | .hbm, ⟨47, _⟩ => ⟨S8x2048x32, .f32⟩
  | .hbm, ⟨48, _⟩ => ⟨S8x1x32, .f32⟩
  | .hbm, ⟨49, _⟩ => ⟨S1x2048x32, .f32⟩
  | .hbm, ⟨50, _⟩ => ⟨S8x2048x32, .f32⟩
  | .hbm, ⟨51, _⟩ => ⟨S8x2048x32, .f32⟩
  | .hbm, ⟨52, _⟩ => ⟨S8x2048x32, .f32⟩
  | .hbm, ⟨53, _⟩ => ⟨S8x2048x32, .f32⟩
  | .hbm, ⟨54, _⟩ => ⟨S16384x32, .f32⟩
  | .hbm, ⟨55, _⟩ => ⟨S8x1x32, .f32⟩
  | .hbm, ⟨56, _⟩ => ⟨S1x2048x32, .f32⟩
  | .hbm, ⟨57, _⟩ => ⟨S8x2048x32, .f32⟩
  | .hbm, ⟨58, _⟩ => ⟨S8x2048x32, .f32⟩
  | .hbm, ⟨59, _⟩ => ⟨S8x2048x32, .f32⟩
  | .hbm, ⟨60, _⟩ => ⟨S8x1x32, .f32⟩
  | .hbm, ⟨61, _⟩ => ⟨S1x2048x32, .f32⟩
  | .hbm, ⟨62, _⟩ => ⟨S8x2048x32, .f32⟩
  | .hbm, ⟨63, _⟩ => ⟨S8x2048x32, .f32⟩
  | .hbm, ⟨64, _⟩ => ⟨S8x2048x32, .f32⟩
  | .hbm, ⟨65, _⟩ => ⟨S8x2048x32, .f32⟩
  | .hbm, ⟨66, _⟩ => ⟨S16384x32, .f32⟩
  | .hbm, ⟨67, _⟩ => ⟨S_, .f32⟩
  | .hbm, ⟨68, _⟩ => ⟨S16384x32, .f32⟩
  | .hbm, ⟨69, _⟩ => ⟨S16384x128, .f32⟩
  | .hbm, ⟨70, _⟩ => ⟨S16384x32, .f32⟩
  | .hbm, ⟨71, _⟩ => ⟨S16384x128, .f32⟩
  | .hbm, ⟨72, _⟩ => ⟨S16384x512, .f32⟩
  | .hbm, ⟨73, _⟩ => ⟨S_, .f32⟩
  | .hbm, ⟨74, _⟩ => ⟨S16384x128, .f32⟩
  | .hbm, ⟨75, _⟩ => ⟨S16384x64, .f32⟩
  | .hbm, ⟨76, _⟩ => ⟨S16384x32, .f32⟩
  | .hbm, ⟨77, _⟩ => ⟨S16384x32, .f32⟩
  | .hbm, ⟨78, _⟩ => ⟨S_, .f32⟩
  | .hbm, ⟨79, _⟩ => ⟨S16384x32, .f32⟩
  | .hbm, ⟨80, _⟩ => ⟨S16384x128, .f32⟩
  | .hbm, ⟨81, _⟩ => ⟨S16384x768, .f32⟩
  | .hbm, ⟨82, _⟩ => ⟨S_, .i32⟩
  | .hbm, ⟨83, _⟩ => ⟨S_, .f32⟩
  | .hbm, ⟨84, _⟩ => ⟨S16384x18432, .f32⟩
  | .hbm, ⟨85, _⟩ => ⟨S16384x18432, .bf16⟩
  | .hbm, ⟨86, _⟩ => ⟨S1x512, .f32⟩
  | .hbm, ⟨87, _⟩ => ⟨S16384x4096, .bf16⟩
  | .hbm, ⟨88, _⟩ => ⟨S16384x2048, .bf16⟩
  | .hbm, ⟨89, _⟩ => ⟨S8x2048x16x256, .bf16⟩
  | .hbm, ⟨90, _⟩ => ⟨S8x2048x16x128, .bf16⟩
  | .hbm, ⟨91, _⟩ => ⟨S8x2048x16x32, .bf16⟩
  | .hbm, ⟨92, _⟩ => ⟨S8x2048x16x32, .bf16⟩
  | .hbm, ⟨93, _⟩ => ⟨S8x2048x16x192, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S1x512, .f32⟩
  | .local _ .vmem, ⟨5, _⟩ => ⟨S512x2048, .bf16⟩
  | .local _ .vmem, ⟨6, _⟩ => ⟨S512x2048, .bf16⟩
  | .local _ .vmem, ⟨7, _⟩ => ⟨S1x128, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x4096, .bf16⟩
  | .local _ .vmem, ⟨14, _⟩ => ⟨S512x4096, .bf16⟩
  | .local _ .vmem, ⟨15, _⟩ => ⟨S512x2048, .bf16⟩
  | .local _ .vmem, ⟨16, _⟩ => ⟨S512x2048, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_2 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_3 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_4 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_c : Ref sig .tc := ⟨.hbm, 82, rfl⟩
abbrev main_call0_v0 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73_0 : Ref sig .tc := ⟨.hbm, 87, rfl⟩
abbrev main_v73_1 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c34_i32 : BitVec 32 := 34#32
  let c0_i32 : BitVec 32 := 0#32
  ![arg0.toNat, c34_i32.toNat]

def cc0_transform_1 (i : grid0.Coords) : Fin 2 → Nat :=
  let arg0 : BitVec 32 := BitVec.ofNat 32 (i 0).val
  let c141_i32 : BitVec 32 := 141#32
  let c0_i32 : BitVec 32 := 0#32
  ![arg0.toNat, c141_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KvaProjIdeal.lean ====
variable {F : FTy → Type} [FloatOps F] [Named F]
def κ : String → Option EReal := fun
  | "inv_qk_dim" => some ((1 / 192 : ℝ) : EReal)
  | _ => none
-- ==== KvaProjRefIdeal.lean ====
abbrev S8x2048x512 : Shape := ⟨3, ![8, 2048, 512]⟩
abbrev S8x2048x64 : Shape := ⟨3, ![8, 2048, 64]⟩
abbrev S8x2048 : Shape := ⟨2, ![8, 2048]⟩
abbrev S512 : Shape := ⟨1, ![512]⟩
abbrev S512x4096 : Shape := ⟨2, ![512, 4096]⟩
abbrev S192 : Shape := ⟨1, ![192]⟩
abbrev S_ : Shape := ⟨0, ![]⟩
abbrev S8x2048x1 : Shape := ⟨3, ![8, 2048, 1]⟩
abbrev S1x1x512 : Shape := ⟨3, ![1, 1, 512]⟩
abbrev S8x2048x4096 : Shape := ⟨3, ![8, 2048, 4096]⟩
abbrev S8x2048x16x256 : Shape := ⟨4, ![8, 2048, 16, 256]⟩
abbrev S8x2048x16x128 : Shape := ⟨4, ![8, 2048, 16, 128]⟩
abbrev S8x2048x1x64 : Shape := ⟨4, ![8, 2048, 1, 64]⟩
abbrev S8x2048x16x64 : Shape := ⟨4, ![8, 2048, 16, 64]⟩
abbrev S8x2048x16x192 : Shape := ⟨4, ![8, 2048, 16, 192]⟩
abbrev S8x2048x16 : Shape := ⟨3, ![8, 2048, 16]⟩
abbrev S8x2048x16x1 : Shape := ⟨4, ![8, 2048, 16, 1]⟩
abbrev S1x1x1x192 : Shape := ⟨4, ![1, 1, 1, 192]⟩
abbrev S32 : Shape := ⟨1, ![32]⟩
abbrev S8x2048x1x1 : Shape := ⟨4, ![8, 2048, 1, 1]⟩
abbrev S1x1x1x32 : Shape := ⟨4, ![1, 1, 1, 32]⟩
abbrev S8x2048x1x32 : Shape := ⟨4, ![8, 2048, 1, 32]⟩
abbrev S8x2048x16x32 : Shape := ⟨4, ![8, 2048, 16, 32]⟩
abbrev S16384x2048 : Shape := ⟨2, ![16384, 2048]⟩

abbrev nBuf : Space → Nat
  | .hbm => 80
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x64, .f32⟩
  | .hbm, ⟨2, _⟩ => ⟨S8x2048, .i32⟩
  | .hbm, ⟨3, _⟩ => ⟨S512, .f32⟩
  | .hbm, ⟨4, _⟩ => ⟨S512x4096, .f32⟩
  | .hbm, ⟨5, _⟩ => ⟨S192, .f32⟩
  | .hbm, ⟨6, _⟩ => ⟨S8x2048x512, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x512, .f32⟩
  | .hbm, ⟨18, _⟩ => ⟨S8x2048x512, .f32⟩
  | .hbm, ⟨19, _⟩ => ⟨S1x1x512, .f32⟩
  | .hbm, ⟨20, _⟩ => ⟨S8x2048x512, .f32⟩
  | .hbm, ⟨21, _⟩ => ⟨S8x2048x512, .f32⟩
  | .hbm, ⟨22, _⟩ => ⟨S8x2048x4096, .f32⟩
  | .hbm, ⟨23, _⟩ => ⟨S8x2048x16x256, .f32⟩
  | .hbm, ⟨24, _⟩ => ⟨S8x2048x16x128, .f32⟩
  | .hbm, ⟨25, _⟩ => ⟨S8x2048x16x128, .f32⟩
  | .hbm, ⟨26, _⟩ => ⟨S8x2048x1x64, .f32⟩
  | .hbm, ⟨27, _⟩ => ⟨S8x2048x16x64, .f32⟩
  | .hbm, ⟨28, _⟩ => ⟨S8x2048x16x192, .f32⟩
  | .hbm, ⟨29, _⟩ => ⟨S8x2048x16x192, .f32⟩
  | .hbm, ⟨30, _⟩ => ⟨S_, .f32⟩
  | .hbm, ⟨31, _⟩ => ⟨S8x2048x16, .f32⟩
  | .hbm, ⟨32, _⟩ => ⟨S8x2048x16x1, .f32⟩
  | .hbm, ⟨33, _⟩ => ⟨S_, .f32⟩
  | .hbm, ⟨34, _⟩ => ⟨S8x2048x16x1, .f32⟩
  | .hbm, ⟨35, _⟩ => ⟨S8x2048x16x1, .f32⟩
  | .hbm, ⟨36, _⟩ => ⟨S_, .f32⟩
  | .hbm, ⟨37, _⟩ => ⟨S8x2048x16x1, .f32⟩
  | .hbm, ⟨38, _⟩ => ⟨S8x2048x16x1, .f32⟩
  | .hbm, ⟨39, _⟩ => ⟨S8x2048x16x1, .f32⟩
  | .hbm, ⟨40, _⟩ => ⟨S8x2048x16x192, .f32⟩
  | .hbm, ⟨41, _⟩ => ⟨S8x2048x16x192, .f32⟩
  | .hbm, ⟨42, _⟩ => ⟨S1x1x1x192, .f32⟩
  | .hbm, ⟨43, _⟩ => ⟨S8x2048x16x192, .f32⟩
  | .hbm, ⟨44, _⟩ => ⟨S8x2048x16x192, .f32⟩
  | .hbm, ⟨45, _⟩ => ⟨S8x2048x16x128, .f32⟩
  | .hbm, ⟨46, _⟩ => ⟨S8x2048x16x64, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S8x2048, .f32⟩
  | .hbm, ⟨56, _⟩ => ⟨S8x2048x1x1, .f32⟩
  | .hbm, ⟨57, _⟩ => ⟨S1x1x1x32, .f32⟩
  | .hbm, ⟨58, _⟩ => ⟨S8x2048x1x32, .f32⟩
  | .hbm, ⟨59, _⟩ => ⟨S8x2048x1x32, .f32⟩
  | .hbm, ⟨60, _⟩ => ⟨S8x2048x1x32, .f32⟩
  | .hbm, ⟨61, _⟩ => ⟨S8x2048x1x32, .f32⟩
  | .hbm, ⟨62, _⟩ => ⟨S8x2048x1x32, .f32⟩
  | .hbm, ⟨63, _⟩ => ⟨S8x2048x16x32, .f32⟩
  | .hbm, ⟨64, _⟩ => ⟨S8x2048x16x32, .f32⟩
  | .hbm, ⟨65, _⟩ => ⟨S8x2048x16x32, .f32⟩
  | .hbm, ⟨66, _⟩ => ⟨S8x2048x16x32, .f32⟩
  | .hbm, ⟨67, _⟩ => ⟨S8x2048x16x32, .f32⟩
  | .hbm, ⟨68, _⟩ => ⟨S8x2048x16x32, .f32⟩
  | .hbm, ⟨69, _⟩ => ⟨S8x2048x16x32, .f32⟩
  | .hbm, ⟨70, _⟩ => ⟨S8x2048x16x32, .f32⟩
  | .hbm, ⟨71, _⟩ => ⟨S8x2048x16x32, .f32⟩
  | .hbm, ⟨72, _⟩ => ⟨S8x2048x16x32, .f32⟩
  | .hbm, ⟨73, _⟩ => ⟨S8x2048x16x32, .f32⟩
  | .hbm, ⟨74, _⟩ => ⟨S8x2048x16x32, .f32⟩
  | .hbm, ⟨75, _⟩ => ⟨S8x2048x16x64, .f32⟩
  | .hbm, ⟨76, _⟩ => ⟨S8x2048x16x192, .f32⟩
  | .hbm, ⟨77, _⟩ => ⟨S8x2048x16x192, .bf16⟩
  | .hbm, ⟨78, _⟩ => ⟨S16384x2048, .f32⟩
  | .hbm, ⟨79, _⟩ => ⟨S16384x2048, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== Proof.Tile.lean ====
/-
  What the attention kernel computes for one block of 256 queries of one head, as functions of the loaded vectors,
  over any float structure: the tile with the shifted scores, the tile with the row maximum subtracted, and the row
  sums the choice between the two is made on. Block 0 has only the 256 keys on the diagonal; block `m + 1` has in
  addition the `256 * (m + 1)` keys before it.
-/
module

public import proofs.«01_k».proof.Proof.Gen.KernelIdeal.Frame

@[expose] public section

noncomputable section

namespace Cert.Proof.AttnA

open Cert.KernelIdeal Cert.KernelIdeal.Gen
open Idealize.ShloMosaic

variable {F : FTy → Type} [FloatOps F]

/-- A vector of 256 rows and `w` columns. -/
abbrev Wide (w : ℕ) : Shape := ⟨2, ![256, w]⟩
/-- A vector of `w` rows and 256 columns: `w` keys of one head. -/
abbrev Keys (w : ℕ) : Shape := ⟨2, ![w, 256]⟩
/-- A vector of `w` rows and 128 columns: `w` values of one head. -/
abbrev Vals (w : ℕ) : Shape := ⟨2, ![w, 128]⟩

theorem wide_slices {w o : ℕ} (h : o + 128 ≤ w) : (Wide w).Slices ![0, o] S256x128 :=
  ⟨rfl, fun a => by fin_cases a <;> simp <;> omega⟩

theorem casts_self (s : Shape) : s.ShapeCasts s := rfl

/-- The first `k + 1` lane tiles of `x` combined by `op`, from the left. -/
def laneFold (op : FVec F S256x128 .f32 → FVec F S256x128 .f32 → FVec F S256x128 .f32) {w : ℕ} (x : FVec F (Wide w) .f32) :
    (k : ℕ) → 128 * k + 128 ≤ w → FVec F S256x128 .f32
  | 0, h => extractStridedSlice S256x128 ![0, 0] x (wide_slices (by omega))
  | k + 1, h => op (laneFold op x k (by omega)) (extractStridedSlice S256x128 ![0, 128 * (k + 1)] x (wide_slices (by omega)))

/-- The lower triangle of a 256 × 256 tile. -/
def causal : IVec S256x256 1 :=
  cmpi .sge (iota .tc S256x256 32 [0] iota_S256x256_d0_w32) (iota .tc S256x256 32 [1] iota_S256x256_d1_w32)

/-- The scores of 256 queries against `w` keys. -/
def scores {w : ℕ} (q : FVec F S256x256 .bf16) (k : FVec F (Keys w) .bf16) : FVec F (Wide w) .f32 :=
  matmul (DotDims.transposedRhs 256 256 w) none q (shapeCast (Keys w) k (casts_self _)) (constant (Wide w) .f32 0x00000000#32)

/-- The scores against the keys of the queries' own block, those after the query masked to -∞. -/
def diagScores (q k : FVec F S256x256 .bf16) : FVec F S256x256 .f32 :=
  select causal (scores q k) (broadcast S256x256 (Scalar.ofBits .f32 0xFF800000#32))

/-- The queries as loaded, -/
def qPlain (q : FVec F S256x256 .bf16) : FVec F S256x256 .bf16 := shapeCast S256x256 q shapeCasts_S256x256_S256x256

/-- and with lane 160, the one that carries the shift, put to zero. -/
def qCleared (q : FVec F S256x256 .bf16) : FVec F S256x256 .bf16 :=
  concatenate S256x256 1 [⟨S256x128, extractStridedSlice S256x128 ![0, 0] (qPlain q) slices_S256x256_o0_0_S256x128⟩,
    ⟨S256x128, truncf .bf16 (select (cmpi .eq (iota .tc S256x128 32 [1] iota_S256x128_d1_w32) (broadcast S256x128 32#32))
      (broadcast S256x128 (Scalar.ofBits .f32 0x00000000#32))
      (extf .f32 (extractStridedSlice S256x128 ![0, 128] (qPlain q) slices_S256x256_o0_128_S256x128) bitsLt_bf16_f32)) bitsLt_bf16_f32⟩]
    concatenates_S256x128_S256x128_S256x256_d1

/-- The weights times the values. -/
def weighted {w : ℕ} (p : FVec F (Wide w) .f32) (v : FVec F (Vals w) .bf16) : FVec F S256x128 .f32 :=
  matmul (DotDims.plain 256 w 128) none (truncf .bf16 p bitsLt_bf16_f32) (shapeCast (Vals w) v (casts_self _))
    (constant S256x128 .f32 0x00000000#32)

/-- A row's sum over its 128 lanes. -/
def rowSum (x : FVec F S256x128 .f32) : FVec F S256x1 .f32 :=
  shapeCast S256x1 (multiReduction .add [1] S256 x 0x00000000#32 reduces_S256x128_S256 (.inl rfl) rfl) shapeCasts_S256_S256x1

/-- A row's greatest lane. -/
def rowMax (x : FVec F S256x128 .f32) : FVec F S256x1 .f32 :=
  shapeCast S256x1 (multiReduction .maximumf [1] S256 x 0xFF800000#32 reduces_S256x128_S256 (.inl rfl) rfl) shapeCasts_S256_S256x1

/-- The accumulated values divided by the row's sum and multiplied by the gate's SiLU. -/
def finish (l : FVec F S256x1 .f32) (acc : FVec F S256x128 .f32) (gate : FVec F S256x128 .bf16) : FVec F S256x128 .bf16 :=
  truncf .bf16
    (mulf (mulf acc (broadcastTo S256x128 (divf (broadcast S256x1 (Scalar.ofBits .f32 0x3F800000#32)) l) broadcasts_S256x1_S256x128))
      (mulf (extf .f32 (shapeCast S256x128 gate shapeCasts_S256x128_S256x128) bitsLt_bf16_f32)
        (divf (broadcast S256x128 (Scalar.ofBits .f32 0x3F800000#32))
          (addf (broadcast S256x128 (Scalar.ofBits .f32 0x3F800000#32))
            (exp (subf (broadcast S256x128 (Scalar.ofBits .f32 0x00000000#32))
              (extf .f32 (shapeCast S256x128 gate shapeCasts_S256x128_S256x128) bitsLt_bf16_f32))))))) bitsLt_bf16_f32

/-- The weights with the row maximum `m` subtracted from the scores. -/
def expShift {w : ℕ} (s : FVec F (Wide w) .f32) (m : FVec F S256x1 .f32) (hb : S256x1.Broadcasts (Wide w)) : FVec F (Wide w) .f32 :=
  exp2 (subf s (broadcastTo (Wide w) m hb))

theorem col_broadcasts (w : ℕ) : S256x1.Broadcasts (Wide w) := by
  refine ⟨Nat.le_refl 2, fun a => ?_⟩
  fin_cases a
  · exact .inr fun _ => rfl
  · exact .inl rfl

/-! ## Block 0 -/

/-- The row sums of the shifted weights, -/
def fastSum0 (q kd : FVec F S256x256 .bf16) : FVec F S256x1 .f32 :=
  rowSum (laneFold addf (exp2 (diagScores (qPlain q) kd)) 1 (by decide))
/-- the tile they give, -/
def fast0 (q kd : FVec F S256x256 .bf16) (vd gate : FVec F S256x128 .bf16) : FVec F S256x128 .bf16 :=
  finish (fastSum0 q kd) (weighted (exp2 (diagScores (qPlain q) kd)) vd) gate
/-- and the tile with the row maximum subtracted: the weights, -/
def slowP0 (q kd : FVec F S256x256 .bf16) : FVec F S256x256 .f32 :=
  expShift (diagScores (qCleared q) kd) (rowMax (laneFold maximumf (diagScores (qCleared q) kd) 1 (by decide))) (col_broadcasts 256)
/-- the tile. -/
def slow0 (q kd : FVec F S256x256 .bf16) (vd gate : FVec F S256x128 .bf16) : FVec F S256x128 .bf16 :=
  finish (rowSum (laneFold addf (slowP0 q kd) 1 (by decide))) (weighted (slowP0 q kd) vd) gate

/-! ## Block `m + 1` -/

section
variable (m : ℕ) (q kd : FVec F S256x256 .bf16) (ko : FVec F (Keys (256 * (m + 1))) .bf16) (vd : FVec F S256x128 .bf16)
  (vo : FVec F (Vals (256 * (m + 1))) .bf16) (gate : FVec F S256x128 .bf16)

/-- The row sums of the shifted weights, -/
def fastSum : FVec F S256x1 .f32 :=
  rowSum (addf (laneFold addf (exp2 (diagScores (qPlain q) kd)) 1 (by decide)) (laneFold addf (exp2 (scores (qPlain q) ko)) (2 * m + 1) (by omega)))
/-- the tile they give. -/
def fast : FVec F S256x128 .bf16 :=
  finish (fastSum m q kd ko) (addf (weighted (exp2 (diagScores (qPlain q) kd)) vd) (weighted (exp2 (scores (qPlain q) ko)) vo)) gate
/-- The row maximum of the scores without the shift, -/
def slowMax : FVec F S256x1 .f32 :=
  rowMax (maximumf (laneFold maximumf (diagScores (qCleared q) kd) 1 (by decide)) (laneFold maximumf (scores (qCleared q) ko) (2 * m + 1) (by omega)))
/-- the weights on the diagonal, -/
def slowPd : FVec F S256x256 .f32 := expShift (diagScores (qCleared q) kd) (slowMax m q kd ko) (col_broadcasts 256)
/-- the weights before it, -/
def slowPo : FVec F (Wide (256 * (m + 1))) .f32 := expShift (scores (qCleared q) ko) (slowMax m q kd ko) (col_broadcasts _)
/-- the tile. -/
def slow : FVec F S256x128 .bf16 :=
  finish (rowSum (addf (laneFold addf (slowPd m q kd ko) 1 (by decide)) (laneFold addf (slowPo m q kd ko) (2 * m + 1) (by omega))))
    (addf (weighted (slowPd m q kd ko) vd) (weighted (slowPo m q kd ko) vo)) gate
end

/-! ## The blocks of the kernel's windows -/

/-- A window of keys or queries, and of values or gates. -/
abbrev QWin (F : FTy → Type) : Type := S2048x1024.Idx → Elt F .bf16
abbrev VWin (F : FTy → Type) : Type := S2048x512.Idx → Elt F .bf16

/-- `w` rows from row `o` of head `g`'s 256 columns; -/
abbrev rectQ (w o g : ℕ) (h : o + w ≤ 2048) (hg : g < 4) : Rect S2048x1024 :=
  Rect.unit (s := S2048x1024) ![o, 256 * g] (Keys w).size fun a => by fin_cases a <;> simp <;> omega
/-- `w` rows from row `o` of head `g`'s 128 columns. -/
abbrev rectV (w o g : ℕ) (h : o + w ≤ 2048) (hg : g < 4) : Rect S2048x512 :=
  Rect.unit (s := S2048x512) ![o, 128 * g] (Vals w).size fun a => by fin_cases a <;> simp <;> omega

section
variable (xq xk : QWin F) (xv xg : VWin F)

/-- The row sums of block `n`, head `g`, from the windows' contents; -/
def sumOf (g : ℕ) (hg : g < 4) : (n : ℕ) → n < 8 → FVec F S256x1 .f32
  | 0, _ => fastSum0 (View.ld (Val := Elt F) xq (rectQ 256 0 g (by omega) hg)) (View.ld (Val := Elt F) xk (rectQ 256 0 g (by omega) hg))
  | m + 1, h => fastSum m (View.ld (Val := Elt F) xq (rectQ 256 (256 * (m + 1)) g (by omega) hg)) (View.ld (Val := Elt F) xk (rectQ 256 (256 * (m + 1)) g (by omega) hg))
      (View.ld (Val := Elt F) xk (rectQ (256 * (m + 1)) 0 g (by omega) hg))
/-- the tile of the shifted weights; -/
def fastOf (g : ℕ) (hg : g < 4) : (n : ℕ) → n < 8 → FVec F S256x128 .bf16
  | 0, _ => fast0 (View.ld (Val := Elt F) xq (rectQ 256 0 g (by omega) hg)) (View.ld (Val := Elt F) xk (rectQ 256 0 g (by omega) hg))
      (View.ld (Val := Elt F) xv (rectV 256 0 g (by omega) hg)) (View.ld (Val := Elt F) xg (rectV 256 0 g (by omega) hg))
  | m + 1, h => fast m (View.ld (Val := Elt F) xq (rectQ 256 (256 * (m + 1)) g (by omega) hg)) (View.ld (Val := Elt F) xk (rectQ 256 (256 * (m + 1)) g (by omega) hg))
      (View.ld (Val := Elt F) xk (rectQ (256 * (m + 1)) 0 g (by omega) hg)) (View.ld (Val := Elt F) xv (rectV 256 (256 * (m + 1)) g (by omega) hg))
      (View.ld (Val := Elt F) xv (rectV (256 * (m + 1)) 0 g (by omega) hg)) (View.ld (Val := Elt F) xg (rectV 256 (256 * (m + 1)) g (by omega) hg))
/-- the tile with the row maximum subtracted. -/
def slowOf (g : ℕ) (hg : g < 4) : (n : ℕ) → n < 8 → FVec F S256x128 .bf16
  | 0, _ => slow0 (View.ld (Val := Elt F) xq (rectQ 256 0 g (by omega) hg)) (View.ld (Val := Elt F) xk (rectQ 256 0 g (by omega) hg))
      (View.ld (Val := Elt F) xv (rectV 256 0 g (by omega) hg)) (View.ld (Val := Elt F) xg (rectV 256 0 g (by omega) hg))
  | m + 1, h => slow m (View.ld (Val := Elt F) xq (rectQ 256 (256 * (m + 1)) g (by omega) hg)) (View.ld (Val := Elt F) xk (rectQ 256 (256 * (m + 1)) g (by omega) hg))
      (View.ld (Val := Elt F) xk (rectQ (256 * (m + 1)) 0 g (by omega) hg)) (View.ld (Val := Elt F) xv (rectV 256 (256 * (m + 1)) g (by omega) hg))
      (View.ld (Val := Elt F) xv (rectV (256 * (m + 1)) 0 g (by omega) hg)) (View.ld (Val := Elt F) xg (rectV 256 (256 * (m + 1)) g (by omega) hg))

/-- The least row sum of block `n` over its rows and the window's four heads. -/
def leastSum (n : ℕ) (h : n < 8) : F .f32 :=
  extractAt ![0, 0, 0] (shapeCast S1x1x1 (multiReduction .minimumf [1, 2] S1 (shapeCast S1x256x1
    (minimumf (minimumf (minimumf (minimumf (broadcast S256x1 (Scalar.ofBits .f32 0x7F800000#32)) (sumOf xq xk 0 (by omega) n h))
      (sumOf xq xk 1 (by omega) n h)) (sumOf xq xk 2 (by omega) n h)) (sumOf xq xk 3 (by omega) n h))
    shapeCasts_S256x1_S1x256x1) 0x7F800000#32 reduces_S1x256x1_S1 (.inl rfl) rfl) shapeCasts_S1_S1x1x1) inpos_S1x1x1_p0_0_0

/-- The word the block is redone on: not (least row sum ≥ 2⁻⁶⁴). -/
def redo (n : ℕ) (h : n < 8) : BitVec 1 :=
  Scalar.cmpi .ne (Scalar.extui (Scalar.xori (Scalar.cmpf .oge (leastSum xq xk n h) (Scalar.ofBits .f32 0x1F800000#32)) 1#1)) 0#32

/-- The stores of block `n`'s shifted tiles, last first, -/
def fastPieces (n : ℕ) (h : n < 8) : List (View.Piece (Elt F) S2048x512 .bf16) :=
  [⟨rectV 256 (256 * n) 3 (by omega) (by omega), fastOf xq xk xv xg 3 (by omega) n h⟩,
   ⟨rectV 256 (256 * n) 2 (by omega) (by omega), fastOf xq xk xv xg 2 (by omega) n h⟩,
   ⟨rectV 256 (256 * n) 1 (by omega) (by omega), fastOf xq xk xv xg 1 (by omega) n h⟩,
   ⟨rectV 256 (256 * n) 0 (by omega) (by omega), fastOf xq xk xv xg 0 (by omega) n h⟩]
/-- and those followed by the stores of the redone tiles. -/
def slowPieces (n : ℕ) (h : n < 8) : List (View.Piece (Elt F) S2048x512 .bf16) :=
  ⟨rectV 256 (256 * n) 3 (by omega) (by omega), slowOf xq xk xv xg 3 (by omega) n h⟩ ::
   ⟨rectV 256 (256 * n) 2 (by omega) (by omega), slowOf xq xk xv xg 2 (by omega) n h⟩ ::
   ⟨rectV 256 (256 * n) 1 (by omega) (by omega), slowOf xq xk xv xg 1 (by omega) n h⟩ ::
   ⟨rectV 256 (256 * n) 0 (by omega) (by omega), slowOf xq xk xv xg 0 (by omega) n h⟩ :: fastPieces xq xk xv xg n h

end

end Cert.Proof.AttnA
end
-- ==== Proof.Body.lean ====
/-
The body of the attention kernel, run: from the four input blocks in their staging buffers it ends with the stores of
eight query blocks in the result's buffer, each block's shifted tiles redone with the row maximum where a row sum of
the shifted weights is too small.
-/
module

public import proofs.«01_k».proof.Proof.Tile
public import proofs.«01_k».proof.Proof.Gen.KernelIdeal.Skeleton

@[expose] public section

set_option maxRecDepth 16384

noncomputable section

namespace Cert.Proof.AttnA

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of a memref's buffer, -/
abbrev Bf (c : Dev nD) {sp : Space} {S : Shape} {e : EltTy} (M : Memref sig .tc sp S e) : Type := Buf (Elt F) (M.view.loc (c : Thread nD τ))
/-- and the ownership of a memref's part of it, with these contents. -/
abbrev pt (c : Dev nD) {sp : Space} {S : Shape} {e : EltTy} (M : Memref sig .tc sp S e) (f : Bf (F := F) c M) : sProp 𝕄 :=
  M.view.loc (c : Thread nD τ) ↦[M.view.set]{fullShare} f

/-- The result buffer after the first `n` query blocks. -/
def outTo (c : Dev nD) (M4 : Memref sig .tc .vmem S2048x512 .bf16) (f4 : Bf (F := F) c M4) (xq xk : QWin F) (xv xg : VWin F) :
    (n : ℕ) → n ≤ 8 → Bf (F := F) c M4
  | 0, _ => f4
  | n + 1, h =>
    if _hc : redo xq xk n h = 1#1 then M4.view.writes (Elt F) (outTo c M4 f4 xq xk xv xg n (by omega)) (slowPieces xq xk xv xg n h)
    else M4.view.writes (Elt F) (outTo c M4 f4 xq xk xv xg n (by omega)) (fastPieces xq xk xv xg n h)

/-- The body run on whole staging memrefs. -/
theorem kernelRun (c : Dev nD) (i : grid0.Coords)
    (M0 : Memref sig .tc .vmem S2048x1024 .bf16) (h0 : M0.IsWhole)
    (M1 : Memref sig .tc .vmem S2048x1024 .bf16) (h1 : M1.IsWhole)
    (M2 : Memref sig .tc .vmem S2048x512 .bf16) (h2 : M2.IsWhole)
    (M3 : Memref sig .tc .vmem S2048x512 .bf16) (h3 : M3.IsWhole)
    (M4 : Memref sig .tc .vmem S2048x512 .bf16) (h4 : M4.IsWhole)
    (f0 : Bf (F := F) c M0) (f1 : Bf (F := F) c M1) (f2 : Bf (F := F) c M2) (f3 : Bf (F := F) c M3) (f4 : Bf (F := F) c M4)
    (Q : PUnit → sProp 𝕄) :
    iprop(pt c M0 f0 ∗ pt c M1 f1 ∗ pt c M2 f2 ∗ pt c M3 f3 ∗ pt c M4 f4
      ∗ (iprop(pt c M0 f0 ∗ pt c M1 f1 ∗ pt c M2 f2 ∗ pt c M3 f3 ∗ pt c M4 (outTo c M4 f4 (M0.view.read (Elt F) f0) (M1.view.read (Elt F) f1) (M2.view.read (Elt F) f2) (M3.view.read (Elt F) f3) 8 le_rfl)) -∗ Q ⟨⟩))
    ⊢ wp frame (wpE (defs₀ (F := F)) Variants.none c none) Set.univ
        (cc0_attn_a i M0 h0 M1 h1 M2 h2 M3 h3 M4 h4) Q := by
  iintro ⟨H0, H1, H2, H3, H4, Hk⟩
  sl_exec_parts!
  sl_step
  iapply Hk
  isplitl [H0]; · iexact H0
  isplitl [H1]; · iexact H1
  isplitl [H2]; · iexact H2
  isplitl [H3]; · iexact H3
  iexact H4

end Cert.Proof.AttnA
end
-- ==== Proof.AttnRun.lean ====
/-
The attention kernel's run: what its body leaves in the result's staging buffer, as one function of the four input
blocks, and the launch over the grid, for any float structure. Both frame claims are this one run.
-/
module

public import proofs.«01_k».proof.Proof.Body
public import Idealize.ShloMosaic.Lib.Pipeline.FrameBody
public import Idealize.ShloMosaic.Lib.Claim
public import Idealize.ShloMosaic.Lib.Pipeline.ValueKit

@[expose] public section

set_option maxRecDepth 16384

noncomputable section

namespace Cert.Proof.AttnA

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The result block -/

section
variable (xq xk : QWin F) (xv xg : VWin F)

/-- The tile that block `n` of head `g` ends with. -/
def tileOf (n : ℕ) (h : n < 8) (g : ℕ) (hg : g < 4) : FVec F S256x128 .bf16 :=
  if redo xq xk n h = 1#1 then slowOf xq xk xv xg g hg n h else fastOf xq xk xv xg g hg n h

/-- The result block: at each place the tile of its query block and head. -/
def outWin : VWin F := fun y =>
  tileOf xq xk xv xg ((y 0).val / 256) (by have : (y 0).val < 2048 := (y 0).isLt; omega)
    ((y 1).val / 128) (by have : (y 1).val < 512 := (y 1).isLt; omega)
    (ix2 ⟨(y 0).val % 256, Nat.mod_lt _ (by decide)⟩ ⟨(y 1).val % 128, Nat.mod_lt _ (by decide)⟩)
end

/-- Four tiles by head. -/
abbrev Tiles (F : FTy → Type) : Type := (g : ℕ) → g < 4 → FVec F S256x128 .bf16

/-- The stores of four tiles as block `n`, last first. -/
abbrev pieces4 (T : Tiles F) (n : ℕ) (h : n < 8) : List (View.Piece (Elt F) S2048x512 .bf16) :=
  [⟨rectV 256 (256 * n) 3 (by omega) (by omega), T 3 (by omega)⟩, ⟨rectV 256 (256 * n) 2 (by omega) (by omega), T 2 (by omega)⟩,
   ⟨rectV 256 (256 * n) 1 (by omega) (by omega), T 1 (by omega)⟩, ⟨rectV 256 (256 * n) 0 (by omega) (by omega), T 0 (by omega)⟩]

/-- The place of a rectangle of four tiles. -/
theorem emb_rectV (n g : ℕ) (h : 256 * n + 256 ≤ 2048) (hg : g < 4) (x : (rectV 256 (256 * n) g h hg).shape.Idx) :
    ((rectV 256 (256 * n) g h hg).emb x 0).val = 256 * n + (x 0).val ∧ ((rectV 256 (256 * n) g h hg).emb x 1).val = 128 * g + (x 1).val := by
  constructor
  · exact (Rect.emb_apply _ x 0).trans (by show 256 * n + 1 * (x 0).val = _; omega)
  · exact (Rect.emb_apply _ x 1).trans (by show 128 * g + 1 * (x 1).val = _; omega)

theorem tiles_congr (T : Tiles F) {g g' : ℕ} (e : g = g') (hg : g < 4) (hg' : g' < 4) {x x' : S256x128.Idx} (ex : x = x') :
    T g hg x = T g' hg' x' := by subst e ex; rfl

/-- Inside block `n`'s rows the four stores leave the head's tile, -/
theorem read_block (M : Memref sig .tc .vmem S2048x512 .bf16) {c : Dev nD} (f : Bf (F := F) c M) (T : Tiles F) (n : ℕ) (h : n < 8)
    (y : S2048x512.Idx) (hy : 256 * n ≤ (y 0).val ∧ (y 0).val < 256 * n + 256) :
    M.view.read (Elt F) (M.view.writes (Elt F) f (pieces4 T n h)) y
      = T ((y 1).val / 128) (by have : (y 1).val < 512 := (y 1).isLt; omega)
          (ix2 ⟨(y 0).val % 256, Nat.mod_lt _ (by decide)⟩ ⟨(y 1).val % 128, Nat.mod_lt _ (by decide)⟩) := by
  have h1 : (y 1).val < 512 := (y 1).isLt
  refine View.read_writes_apply_of_pieces (v := M.view) (f := f) (Val := Elt F) (fun y : S2048x512.Idx => T ((y 1).val / 128) (by have : (y 1).val < 512 := (y 1).isLt; omega)
          (ix2 ⟨(y 0).val % 256, Nat.mod_lt _ (by decide)⟩ ⟨(y 1).val % 128, Nat.mod_lt _ (by decide)⟩)) _ ?_ y ?_
  · have key : ∀ (g : ℕ) (hg : g < 4) (x : (rectV 256 (256 * n) g (by omega) hg).shape.Idx), T g hg x
        = (fun y : S2048x512.Idx => T ((y 1).val / 128) (by have : (y 1).val < 512 := (y 1).isLt; omega)
          (ix2 ⟨(y 0).val % 256, Nat.mod_lt _ (by decide)⟩ ⟨(y 1).val % 128, Nat.mod_lt _ (by decide)⟩)) ((rectV 256 (256 * n) g (by omega) hg).emb x) := by
      intro g hg x
      obtain ⟨e0, e1⟩ := emb_rectV n g (by omega) hg x
      have hx0 : (x 0).val < 256 := (x 0).isLt
      have hx1 : (x 1).val < 128 := (x 1).isLt
      refine tiles_congr T (by rw [e1]; omega) _ _ ?_
      refine (eq_ix2 (n0 := 256) (n1 := 128) x).trans ?_
      congr 1 <;> apply Fin.ext
      · show (x 0).val = ((rectV 256 (256 * n) g (by omega) hg).emb x 0).val % 256
        rw [e0]; omega
      · show (x 1).val = ((rectV 256 (256 * n) g (by omega) hg).emb x 1).val % 128
        rw [e1]; omega
    intro p hp x
    simp only [List.mem_cons, List.not_mem_nil, or_false] at hp
    rcases hp with rfl | rfl | rfl | rfl
    exacts [key 3 (by omega) x, key 2 (by omega) x, key 1 (by omega) x, key 0 (by omega) x]
  · have mem : ∀ (g : ℕ) (hg : g < 4), (y 1).val / 128 = g → y ∈ (rectV 256 (256 * n) g (by omega) hg).set := by
      intro g hg e
      rw [Rect.mem_set_unit]
      intro a
      fin_cases a
      · exact ⟨hy.1, hy.2⟩
      · show 128 * g ≤ (y 1).val ∧ (y 1).val < 128 * g + 128
        omega
    rcases (by omega : (y 1).val / 128 = 3 ∨ (y 1).val / 128 = 2 ∨ (y 1).val / 128 = 1 ∨ (y 1).val / 128 = 0) with e | e | e | e
    · exact ⟨_, .head _, mem 3 (by omega) e⟩
    · exact ⟨_, .tail _ (.head _), mem 2 (by omega) e⟩
    · exact ⟨_, .tail _ (.tail _ (.head _)), mem 1 (by omega) e⟩
    · exact ⟨_, .tail _ (.tail _ (.tail _ (.head _))), mem 0 (by omega) e⟩

/-- and outside them what was there. -/
theorem read_before (M : Memref sig .tc .vmem S2048x512 .bf16) {c : Dev nD} (f : Bf (F := F) c M) (T : Tiles F) (n : ℕ) (h : n < 8)
    (y : S2048x512.Idx) (hy : (y 0).val < 256 * n) :
    M.view.read (Elt F) (M.view.writes (Elt F) f (pieces4 T n h)) y = M.view.read (Elt F) f y := by
  refine View.read_writes_apply_of_forall_not_mem (v := M.view) (f := f) (Val := Elt F) y _ ?_
  have key : ∀ (g : ℕ) (hg : g < 4), y ∉ (rectV 256 (256 * n) g (by omega) hg).set := by
    intro g hg hm
    rw [Rect.mem_set_unit] at hm
    have := (hm 0).1
    change 256 * n ≤ (y 0).val at this
    omega
  intro p hp
  simp only [List.mem_cons, List.not_mem_nil, or_false] at hp
  rcases hp with rfl | rfl | rfl | rfl
  exacts [key 3 (by omega), key 2 (by omega), key 1 (by omega), key 0 (by omega)]

/-- After `n` query blocks the rows before `256 n` hold the result block. -/
theorem read_outTo (c : Dev nD) (M4 : Memref sig .tc .vmem S2048x512 .bf16) (f4 : Bf (F := F) c M4) (xq xk : QWin F) (xv xg : VWin F)
    (y : S2048x512.Idx) : ∀ (n : ℕ) (h : n ≤ 8), (y 0).val < 256 * n →
      M4.view.read (Elt F) (outTo c M4 f4 xq xk xv xg n h) y = outWin xq xk xv xg y
  | 0, _, hy => by omega
  | n + 1, h, hy => by
    have eF : fastPieces xq xk xv xg n h = pieces4 (fun g hg => fastOf xq xk xv xg g hg n h) n h := rfl
    have eS : slowPieces xq xk xv xg n h = pieces4 (fun g hg => slowOf xq xk xv xg g hg n h) n h ++ fastPieces xq xk xv xg n h := rfl
    unfold outTo
    by_cases hb : (y 0).val < 256 * n
    · split
      · rw [eS, View.writes_append, read_before (c := c) M4 _ _ n h y hb, eF, read_before (c := c) M4 _ _ n h y hb]
        exact read_outTo c M4 f4 xq xk xv xg y n (by omega) hb
      · rw [eF, read_before (c := c) M4 _ _ n h y hb]
        exact read_outTo c M4 f4 xq xk xv xg y n (by omega) hb
    · have hr : 256 * n ≤ (y 0).val ∧ (y 0).val < 256 * n + 256 := by omega
      have en : (y 0).val / 256 = n := by omega
      have eo : ∀ (k : ℕ) (hk : k < 8), k = n → tileOf xq xk xv xg k hk = tileOf xq xk xv xg n h := by
        intro k hk e; subst e; rfl
      unfold outWin
      rw [eo _ _ en]
      unfold tileOf
      split
      next => rw [eS, View.writes_append, read_block (c := c) M4 _ _ n h y hr]
      next => rw [eF, read_block (c := c) M4 _ _ n h y hr]

/-- After all eight the whole buffer does. -/
theorem read_outTo_all (c : Dev nD) (M4 : Memref sig .tc .vmem S2048x512 .bf16) (f4 : Bf (F := F) c M4) (xq xk : QWin F) (xv xg : VWin F) :
    M4.view.read (Elt F) (outTo c M4 f4 xq xk xv xg 8 le_rfl) = outWin xq xk xv xg :=
  funext fun y => read_outTo c M4 f4 xq xk xv xg y 8 le_rfl (by have : (y 0).val < 2048 := (y 0).isLt; omega)

set_option maxHeartbeats 1000000 in
/-- The body on whole staging memrefs: the inputs' keep their contents, the output's ends at the result block of them. -/
theorem sound_kernel (c : Dev nD) (i : grid0.Coords)
    (M0 : Memref sig .tc .vmem S2048x1024 .bf16) (h0 : M0.IsWhole)
    (M1 : Memref sig .tc .vmem S2048x1024 .bf16) (h1 : M1.IsWhole)
    (M2 : Memref sig .tc .vmem S2048x512 .bf16) (h2 : M2.IsWhole)
    (M3 : Memref sig .tc .vmem S2048x512 .bf16) (h3 : M3.IsWhole)
    (M4 : Memref sig .tc .vmem S2048x512 .bf16) (h4 : M4.IsWhole)
    (x0 x1 : Vec F S2048x1024 .bf16) (x2 x3 : Vec F S2048x512 .bf16) (K : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ (∃ d, owns (c : Thread nD τ) M4 fullShare d)
        ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare (outWin x0 x1 x2 x3)) -∗ K ⟨⟩))
      ⊢ wp frame (wpE (defs₀ (F := F)) Variants.none c none) Set.univ (cc0_attn_a i M0 h0 M1 h1 M2 h2 M3 h3 M4 h4) K := by
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  iapply (kernelRun c i M0 h0 M1 h1 M2 h2 M3 h3 M4 h4 f0 f1 f2 f3 f4 K)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact read_outTo_all c M4 f4 _ _ _ _

/-! ## The launch -/

variable (m : (ℓ : Loc nD τ sig) → Buf (Elt F) ℓ) (ρ : Dev nD → PrngReg)

/-- The launch's data: each input's buffer keeps its block, the output's ends at the result block of the four. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outWin (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outWin (iblk m c 0 t) (iblk m c 1 t) (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch runs to the end, with each array at what the data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The launch runs to the end, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Proof.AttnA
end
-- ==== Proof.Softmax.lean ====
/-
Weighted means over the extended reals: a row of weights given up to a positive factor, divided by its sum before or
after the values are added up. The values may be infinite.
-/
module

public import Idealize.ShloMosaic.PureOps.Ideal
public import Idealize.ShloMosaic.PureOps.Ideal.Laws

@[expose] public section

noncomputable section

open Idealize.ShloMosaic

namespace Cert.Proof.Softmax

/-- The sum of reals as a sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum times a real that is not negative. -/
theorem sum_mul_coe {ι : Type} (s : Finset ι) (f : ι → EReal) {c : ℝ} (hc : 0 ≤ c) : (∑ i ∈ s, f i) * (c : EReal) = ∑ i ∈ s, f i * c := by
  classical
  induction s using Finset.induction_on with
  | empty => simp
  | insert a s h ih =>
    rw [Finset.sum_insert h, Finset.sum_insert h, ← ih]
    exact EReal.right_distrib_of_nonneg_of_ne_top (by exact_mod_cast hc) (EReal.coe_ne_top c) _ _

/-- The weights of a row at a query: those of the keys up to the query, zero after it; -/
def upTo (E : ℕ → ℝ) (R j : ℕ) : ℝ := if j ≤ R then E j else 0
/-- their sum over the 2048 keys; -/
def total (E : ℕ → ℝ) (R : ℕ) : ℝ := ∑ j ∈ Finset.range 2048, upTo E R j
/-- and the mean of the values under them. -/
def mean (E : ℕ → ℝ) (R : ℕ) (V : ℕ → EReal) : EReal := ∑ j ∈ Finset.range 2048, ((upTo E R j / total E R : ℝ) : EReal) * V j

theorem upTo_nonneg {E : ℕ → ℝ} (hE : ∀ j, 0 < E j) (R j : ℕ) : 0 ≤ upTo E R j := by
  unfold upTo; split
  · exact (hE j).le
  · exact le_rfl

theorem total_pos {E : ℕ → ℝ} (hE : ∀ j, 0 < E j) (R : ℕ) : 0 < total E R := by
  unfold total
  refine Finset.sum_pos' (fun j _ => upTo_nonneg hE R j) ⟨0, by simp, ?_⟩
  unfold upTo
  rw [if_pos (Nat.zero_le _)]
  exact hE 0

/-- The keys of the query's own block of 256 and those before it are the keys up to the query. -/
theorem split_sum (f : ℕ → EReal) {n r : ℕ} (hn : n < 8) (hr : r < 256) :
    ∑ j ∈ Finset.range 256, (if j ≤ r then f (256 * n + j) else 0) + ∑ j ∈ Finset.range (256 * n), f j
      = ∑ j ∈ Finset.range 2048, if j ≤ 256 * n + r then f j else 0 := by
  have e : 2048 = 256 * n + (256 + (2048 - 256 * n - 256)) := by omega
  rw [e, Finset.sum_range_add, Finset.sum_range_add, add_comm]
  congr 1
  · refine Finset.sum_congr rfl fun j hj => ?_
    rw [if_pos (by have := Finset.mem_range.1 hj; omega)]
  · have z : ∑ x ∈ Finset.range (2048 - 256 * n - 256), (if 256 * n + (256 + x) ≤ 256 * n + r then f (256 * n + (256 + x)) else 0) = 0 := by
      refine Finset.sum_eq_zero fun j _ => ?_
      rw [if_neg (by omega)]
    rw [z, add_zero]
    refine Finset.sum_congr rfl fun j _ => ?_
    by_cases h : j ≤ r
    · rw [if_pos h, if_pos (by omega)]
    · rw [if_neg h, if_neg (by omega)]

/-- The values weighted and then divided by the weights' sum. -/
theorem mean_after {E : ℕ → ℝ} (hE : ∀ j, 0 < E j) {α : ℝ} (hα : 0 < α) (R : ℕ) (V : ℕ → EReal) :
    (∑ j ∈ Finset.range 2048, ((α * upTo E R j : ℝ) : EReal) * V j) * Ideal.div 1 ((α * total E R : ℝ) : EReal) = mean E R V := by
  have hZ : 0 < α * total E R := mul_pos hα (total_pos hE R)
  rw [Ideal.div_coe hZ.ne', one_mul, sum_mul_coe _ _ (by positivity)]
  refine Finset.sum_congr rfl fun j _ => ?_
  rw [mul_assoc, mul_comm (V j), ← mul_assoc, ← EReal.coe_mul]
  congr 2
  have := total_pos hE R
  field_simp

/-- The weights divided by their sum and then the values weighted. -/
theorem mean_before {E : ℕ → ℝ} (hE : ∀ j, 0 < E j) {α : ℝ} (hα : 0 < α) (R : ℕ) (V : ℕ → EReal) :
    ∑ j ∈ Finset.range 2048, V j * Ideal.div ((α * upTo E R j : ℝ) : EReal) ((α * total E R : ℝ) : EReal) = mean E R V := by
  have hZ : 0 < α * total E R := mul_pos hα (total_pos hE R)
  refine Finset.sum_congr rfl fun j _ => ?_
  rw [Ideal.div_coe hZ.ne', ← EReal.coe_mul, mul_comm]
  congr 2
  have := total_pos hE R
  field_simp

end Cert.Proof.Softmax
end
-- ==== Proof.AttnHost.lean ====
/-
The arrays the attention kernel's grid reads: the queries and keys laid out in 256 lanes a head, the values and the
gates as rows of tokens.
-/
module

public import proofs.«01_k».proof.Proof.Gen.KernelIdeal.Frame
public import Idealize.ShloMosaic.Lib.Pipeline.ValueKit
public import Idealize.ShloMosaic.Lib.Routing.OpsOne
public import proofs.«01_k».proof.Proof.Softmax

@[expose] public section

set_option maxRecDepth 16384

noncomputable section

open Idealize.ShloMosaic Idealize.ShloMosaic.TcCoe Idealize.SL.Sem

namespace Cert.Proof.AttnA

open Cert.KernelIdeal Cert.KernelIdeal.Gen

variable (m : (ℓ : Loc nD τ sig) → Buf (Elt Ideal) ℓ)

/-- The queries' factor: one over the square root of 192 times the natural logarithm of two. -/
abbrev scale : FVec Ideal S_ .f32 :=
  Host.divf (constant S_ .f32 0x3F800000#32) (mulf (Host.sqrt (constant S_ .f32 0x43400000#32)) (Host.log (constant S_ .f32 0x40000000#32)))

/-- The rows of 64 spread over 128: each half followed by 32 zeros. -/
abbrev spread (a : FVec Ideal S8x2048x16x64 .f32) : FVec Ideal S8x2048x16x128 .f32 :=
  concatenate S8x2048x16x128 3 [⟨S8x2048x16x32, extractStridedSlice S8x2048x16x32 ![0, 0, 0, 0] a slices_S8x2048x16x64_S8x2048x16x32_0_0_0_0⟩,
    ⟨S8x2048x16x32, broadcastInDim S8x2048x16x32 ![] bcast_S_S8x2048x16x32 (constant S_ .f32 0x00000000#32)⟩,
    ⟨S8x2048x16x32, extractStridedSlice S8x2048x16x32 ![0, 0, 0, 32] a slices_S8x2048x16x64_S8x2048x16x32_0_0_0_32⟩,
    ⟨S8x2048x16x32, broadcastInDim S8x2048x16x32 ![] bcast_S_S8x2048x16x32 (constant S_ .f32 0x00000000#32)⟩]
    concatenates_S8x2048x16x32_S8x2048x16x32_S8x2048x16x32_S8x2048x16x32_S8x2048x16x128_d3

/-- The same before the tokens and the heads are put together: 256 lanes a head. -/
abbrev heads (x : FVec Ideal S8x2048x16x192 .f32) (e : FVec Ideal S1x128 .f32) : FVec Ideal S8x2048x16x256 .f32 :=
  concatenate S8x2048x16x256 3
    [⟨S8x2048x16x128, extractStridedSlice S8x2048x16x128 ![0, 0, 0, 0] x slices_S8x2048x16x192_S8x2048x16x128_0_0_0_0⟩,
     ⟨S8x2048x16x128, addf (spread (extractStridedSlice S8x2048x16x64 ![0, 0, 0, 128] x slices_S8x2048x16x192_S8x2048x16x64_0_0_0_128))
       (broadcastInDim S8x2048x16x128 ![0, 1, 2, 3] bcast_S1x1x1x128_S8x2048x16x128_0_1_2_3
         (broadcastInDim S1x1x1x128 ![3] bcast_S128_S1x1x1x128_3 (shapeCast S128 e shapeCasts_S1x128_S128)))⟩]
    concatenates_S8x2048x16x128_S8x2048x16x128_S8x2048x16x256_d3

/-- Queries or keys in 256 lanes a head, with a row added to the last 128. -/
abbrev lanes (x : FVec Ideal S8x2048x16x192 .f32) (e : FVec Ideal S1x128 .f32) : FVec Ideal S16384x4096 .bf16 :=
  truncf .bf16 (shapeCast S16384x4096 (heads x e) shapeCasts_S8x2048x16x256_S16384x4096) bitsLt_bf16_f32

/-- Lane `d` of a head: the first 128 numbers of its row, then the halves of the rest each followed by zeros, with `e`
    added to the last 128 lanes. -/
def lane (y e : ℕ → EReal) (d : ℕ) : EReal :=
  if d < 128 then y d else (if d < 160 then y d else if d < 192 then 0 else if d < 224 then y (d - 32) else 0) + e (d - 128)

/-- A head's row of 192 numbers as a function of the place. -/
def rowAt (x : FVec Ideal S8x2048x16x192 .f32) (b : Fin 8) (l : Fin 2048) (h : Fin 16) (d : ℕ) : EReal :=
  if hd : d < 192 then x (ix4 b l h ⟨d, hd⟩) else 0

/-- The row added, as a function of the lane. -/
def extra (e : FVec Ideal S1x128 .f32) (d : ℕ) : EReal := if hd : d < 128 then e (ix2 0 ⟨d, hd⟩) else 0

/-- The rows spread, at a place. -/
theorem spread_apply (a : FVec Ideal S8x2048x16x64 .f32) (b : Fin 8) (l : Fin 2048) (h : Fin 16) (d : Fin 128) :
    spread a (ix4 b l h d) = if h1 : d.val < 32 then a (ix4 b l h ⟨d.val, by omega⟩) else if d.val < 64 then 0
      else if h2 : d.val < 96 then a (ix4 b l h ⟨d.val - 32, by omega⟩) else 0 := by
  pointwise [spread]
  by_cases h1 : d.val < 32
  · rw [dif_pos h1, dif_pos h1]
  · rw [dif_neg h1, dif_neg h1]
    by_cases h2 : d.val < 64
    · rw [dif_pos (by omega), if_pos h2]
    · rw [dif_neg (by omega), if_neg h2]
      by_cases h3 : d.val < 96
      · rw [dif_pos (by omega), dif_pos h3]
        refine congrArg (fun k => a (ix4 b l h k)) (Fin.ext ?_)
        show 32 + (d.val - 32 - 32) = d.val - 32
        omega
      · rw [dif_neg (by omega), dif_neg h3]

/-- The four heads' lanes, at a place. -/
theorem heads_apply (x : FVec Ideal S8x2048x16x192 .f32) (e : FVec Ideal S1x128 .f32) (b : Fin 8) (l : Fin 2048) (h : Fin 16) (d : Fin 256) :
    heads x e (ix4 b l h d) = lane (rowAt x b l h) (extra e) d.val := by
  unfold lane
  by_cases h1 : d.val < 128
  · rw [if_pos h1]
    unfold rowAt
    rw [dif_pos (by omega)]
    pointwise [heads]
    rw [dif_pos h1]
  · rw [if_neg h1]
    have e1 : heads x e (ix4 b l h d)
        = spread (extractStridedSlice S8x2048x16x64 ![0, 0, 0, 128] x slices_S8x2048x16x192_S8x2048x16x64_0_0_0_128) (ix4 b l h ⟨d.val - 128, by omega⟩)
          + e (ix2 0 ⟨d.val - 128, by omega⟩) := by
      unfold heads
      generalize spread _ = sp
      pointwise
      rw [dif_neg h1]
    have e2 : extra e (d.val - 128) = e (ix2 0 ⟨d.val - 128, by omega⟩) := by
      unfold extra
      rw [dif_pos (by omega)]
    have e3 : ∀ k : Fin 64, extractStridedSlice S8x2048x16x64 ![0, 0, 0, 128] x slices_S8x2048x16x192_S8x2048x16x64_0_0_0_128 (ix4 b l h k)
        = rowAt x b l h (128 + k.val) := fun k => by
      unfold rowAt
      rw [dif_pos (by omega)]
      pointwise
    rw [e1, spread_apply, e2]
    refine congrArg (· + _) ?_
    by_cases h2 : d.val < 160
    · rw [if_pos h2, dif_pos (by show d.val - 128 < 32; omega), e3]
      exact congrArg (rowAt x b l h) (by show 128 + (d.val - 128) = d.val; omega)
    · rw [if_neg h2, dif_neg (by show ¬ d.val - 128 < 32; omega)]
      by_cases h3 : d.val < 192
      · rw [if_pos h3, if_pos (by show d.val - 128 < 64; omega)]
      · rw [if_neg h3, if_neg (by show ¬ d.val - 128 < 64; omega)]
        by_cases h4 : d.val < 224
        · rw [if_pos h4, dif_pos (by show d.val - 128 < 96; omega), e3]
          exact congrArg (rowAt x b l h) (by show 128 + (d.val - 128 - 32) = d.val - 32; omega)
        · rw [if_neg h4, dif_neg (by show ¬ d.val - 128 < 96; omega)]

/-- The laid out array at a place. -/
theorem lanes_apply (x : FVec Ideal S8x2048x16x192 .f32) (e : FVec Ideal S1x128 .f32) (t : Fin 16384) (k : Fin 4096) :
    lanes x e (ix2 t k)
      = lane (rowAt x ⟨t.val / 2048, by omega⟩ ⟨t.val % 2048, by omega⟩ ⟨k.val / 256, by omega⟩) (extra e) (k.val % 256) := by
  refine Eq.trans ?_ (heads_apply x e ⟨t.val / 2048, by omega⟩ ⟨t.val % 2048, by omega⟩ ⟨k.val / 256, by omega⟩ ⟨k.val % 256, by omega⟩)
  unfold lanes
  generalize heads x e = z
  pointwise

/-- The row that is one at lane 32. -/
abbrev oneRow : FVec Ideal S1x128 .f32 :=
  uitofp .f32 (cmpi .eq (iotaInDim S1x128 32 1) (broadcastInDim S1x128 ![] bcast_S_S1x128 (constantI S_ 32 32#32)))

theorem oneRow_apply (d : Fin 128) : oneRow (ix2 0 d) = if d.val = 32 then 1 else 0 := by
  pointwise [oneRow]
  rw [WordCmp.cmpi_eq_ofNat (by have := d.isLt; omega) (by omega)]
  show (((BitVec.ofBool (decide (d.val = 32))).toNat : ℝ) : EReal) = _
  by_cases h : d.val = 32 <;> simp [h]

/-- The row that is `s` at lane 32. -/
abbrev setRow (s : FVec Ideal S_ .f32) : FVec Ideal S1x128 .f32 :=
  Host.scatter scatter_S1x128_S2_S__n_01_01_0 (fun _ b => b) (broadcastInDim S1x128 ![] bcast_S_S1x128 (constant S_ .f32 0x00000000#32))
    (concatenate S2 0 [⟨S1, broadcastInDim S1 ![] bcast_S_S1 (constantI S_ 32 0#32)⟩, ⟨S1, broadcastInDim S1 ![] bcast_S_S1 (constantI S_ 32 32#32)⟩]
      concatenates_S1_S1_S2_d0) s

theorem ix2_spell {a b : ℕ} (i : Fin a) (j : Fin b) : ix2 i j = ValueIdx.ix2 i j := by
  funext k
  fin_cases k <;> rfl

theorem setRow_apply (s : FVec Ideal S_ .f32) (d : Fin 128) : setRow s (ix2 0 d) = if d.val = 32 then s ValueIdx.ix0 else 0 := by
  rw [ix2_spell]
  refine (Routing.scatter_cell_signed scatter_S1x128_S2_S__n_01_01_0 rfl rfl rfl _ _ s _ _).trans ?_
  have e0 : concatenate S2 0 [⟨S1, broadcastInDim S1 ![] bcast_S_S1 (constantI S_ 32 0#32)⟩,
      ⟨S1, broadcastInDim S1 ![] bcast_S_S1 (constantI S_ 32 32#32)⟩] concatenates_S1_S1_S2_d0 (ValueIdx.ix1 0) = 0#32 := rfl
  have e1 : concatenate S2 0 [⟨S1, broadcastInDim S1 ![] bcast_S_S1 (constantI S_ 32 0#32)⟩,
      ⟨S1, broadcastInDim S1 ![] bcast_S_S1 (constantI S_ 32 32#32)⟩] concatenates_S1_S1_S2_d0 (ValueIdx.ix1 1) = 32#32 := rfl
  have z : broadcastInDim S1x128 ![] bcast_S_S1x128 (constant (F := Ideal) S_ .f32 0x00000000#32) (ValueIdx.ix2 0 d) = 0 :=
    Ideal.ofBits_zero .f32
  rw [e0, e1, z]
  by_cases h : d.val = 32
  · rw [if_pos h, if_pos ⟨by decide, by rw [h]; decide⟩]
  · rw [if_neg h, if_neg]
    rintro ⟨-, h'⟩
    have : (32#32 : BitVec 32).toInt = 32 := by decide
    omega

/-- The shift's bound: 192 times the greatest scaled query gain times the greatest key gain, times 65/64. -/
abbrev bound (gq gk : FVec Ideal S192 .f32) : FVec Ideal S_ .f32 :=
  mulf (mulf (mulf (constant S_ .f32 0x43400000#32) (Host.reduce FloatOps.maximumf (Host.absf (mulf
      (concatenate S256 0 [⟨S128, extractStridedSlice S128 ![0] gq slices_S192_S128_0⟩,
        ⟨S128, concatenate S128 0 [⟨S32, extractStridedSlice S32 ![0] (extractStridedSlice S64 ![128] gq slices_S192_S64_128) slices_S64_S32_0⟩,
          ⟨S32, broadcastInDim S32 ![] bcast_S_S32 (constant S_ .f32 0x00000000#32)⟩,
          ⟨S32, extractStridedSlice S32 ![32] (extractStridedSlice S64 ![128] gq slices_S192_S64_128) slices_S64_S32_32⟩,
          ⟨S32, broadcastInDim S32 ![] bcast_S_S32 (constant S_ .f32 0x00000000#32)⟩] concatenates_S32_S32_S32_S32_S128_d0⟩]
        concatenates_S128_S128_S256_d0) (broadcastInDim S256 ![] bcast_S_S256 scale)))
      (constant S_ .f32 0xFF800000#32) reducesTo_S256_S_d0 h_S_))
    (Host.reduce FloatOps.maximumf (Host.absf gk) (constant S_ .f32 0xFF800000#32) reducesTo_S192_S_d0 h_S_)) (constant S_ .f32 0x3F820000#32)

theorem absf_nonneg {s : Shape} (x : FVec Ideal s .f32) (i : s.Idx) : 0 ≤ Host.absf x i := by
  show (0 : EReal) ≤ max (x i) (-(x i))
  rcases le_total 0 (x i) with h | h
  · exact le_max_of_le_left h
  · exact le_max_of_le_right (EReal.neg_nonneg.2 h)

/-- A maximum of absolute values is not negative. -/
theorem max_abs_nonneg {s : Shape} {axes : List (Fin s.rank)} (x : FVec Ideal s .f32) (h : s.ReducesTo axes S_) (i : s.Idx) (j : S_.Idx) :
    0 ≤ Host.reduce FloatOps.maximumf (Host.absf x) (constant (F := Ideal) S_ .f32 0xFF800000#32) h h_S_ j := by
  rw [Host.reduce_eq_fold]
  refine (Finset.le_fold_max _).2 (.inr ⟨i, ?_, absf_nonneg x i⟩)
  simp only [Finset.mem_filter, Finset.mem_univ, true_and]
  exact Subsingleton.elim _ _

/-- The shift is not +∞. -/
theorem shift_ne_top (gq gk : FVec Ideal S192 .f32) (j : S_.Idx) : Host.negf (bound gq gk) j ≠ ⊤ := by
  have h1 := max_abs_nonneg (mulf
      (concatenate S256 0 [⟨S128, extractStridedSlice S128 ![0] gq slices_S192_S128_0⟩,
        ⟨S128, concatenate S128 0 [⟨S32, extractStridedSlice S32 ![0] (extractStridedSlice S64 ![128] gq slices_S192_S64_128) slices_S64_S32_0⟩,
          ⟨S32, broadcastInDim S32 ![] bcast_S_S32 (constant S_ .f32 0x00000000#32)⟩,
          ⟨S32, extractStridedSlice S32 ![32] (extractStridedSlice S64 ![128] gq slices_S192_S64_128) slices_S64_S32_32⟩,
          ⟨S32, broadcastInDim S32 ![] bcast_S_S32 (constant S_ .f32 0x00000000#32)⟩] concatenates_S32_S32_S32_S32_S128_d0⟩]
        concatenates_S128_S128_S256_d0) (broadcastInDim S256 ![] bcast_S_S256 scale)) reducesTo_S256_S_d0 (ix1 0) j
  have h2 := max_abs_nonneg gk reducesTo_S192_S_d0 (ix1 0) j
  have c1 : (0 : EReal) ≤ Ideal.ofBits .f32 0x43400000#32 := by
    simp [Ideal.ofBits, Ideal.ieee]
    exact EReal.mul_nonneg (by norm_num) (by exact_mod_cast (by positivity))
  have c2 : (0 : EReal) ≤ Ideal.ofBits .f32 0x3F820000#32 := by
    simp [Ideal.ofBits, Ideal.ieee]
    exact EReal.mul_nonneg (by norm_num) (by exact_mod_cast (by positivity))
  have hb : (0 : EReal) ≤ bound gq gk j := EReal.mul_nonneg (EReal.mul_nonneg (EReal.mul_nonneg c1 h1) h2) c2
  show -(bound gq gk j) ≠ ⊤
  intro e
  rw [EReal.neg_eq_top_iff] at e
  rw [e] at hb
  exact absurd hb (by simp)

/-- The queries as the grid finds them, -/
theorem entry_q (c : Dev nD) : V m c main_v48 = lanes (mulf (m ((c : Thread nD τ).loc main_arg0)) (broadcastInDim S8x2048x16x192 ![] bcast_S_S8x2048x16x192 scale))
    (setRow (Host.negf (bound (m ((c : Thread nD τ).loc main_arg5)) (m ((c : Thread nD τ).loc main_arg6))))) := by
  unfold_abbrev_sides
  simp only [List.flatten_cons, List.flatten_nil, List.append_nil, List.cons_append, List.nil_append]
  after_results
  rfl

/-- the keys, -/
theorem entry_k (c : Dev nD) : V m c main_v61 = lanes (m ((c : Thread nD τ).loc main_arg1)) oneRow := by
  unfold_abbrev_sides
  simp only [List.flatten_cons, List.flatten_nil, List.append_nil, List.cons_append, List.nil_append]
  after_results
  rfl

/-- the values, -/
theorem entry_v (c : Dev nD) : V m c main_v63
    = truncf .bf16 (shapeCast S16384x2048 (m ((c : Thread nD τ).loc main_arg2)) shapeCasts_S8x2048x16x128_S16384x2048 : FVec Ideal S16384x2048 .f32) bitsLt_bf16_f32 := by
  unfold_abbrev_sides
  simp only [List.flatten_cons, List.flatten_nil, List.append_nil, List.cons_append, List.nil_append]
  after_results
  rfl

/-- The gates in their columns of the wide array. -/
abbrev gates (x : FVec Ideal S8x2048x2048 .f32) : FVec Ideal S16384x18432 .bf16 :=
  truncf .bf16 (pad S16384x18432 ![0, 8192] ![0, 8192] ![0, 0] (shapeCast S16384x2048 x shapeCasts_S8x2048x2048_S16384x2048)
    (sitofp .f32 (constantI S_ 32 0#32)) pads_S16384x2048_S16384x18432_000_819281920 h_S_) bitsLt_bf16_f32

/-- and the gates. -/
theorem entry_g (c : Dev nD) : V m c main_v66 = gates (m ((c : Thread nD τ).loc main_arg3)) := by
  unfold_abbrev_sides
  simp only [List.flatten_cons, List.flatten_nil, List.append_nil, List.cons_append, List.nil_append]
  after_results
  rfl

theorem vrows_apply (x : FVec Ideal S8x2048x16x128 .f32) (t : Fin 16384) (k : Fin 2048) :
    truncf .bf16 (shapeCast S16384x2048 x shapeCasts_S8x2048x16x128_S16384x2048 : FVec Ideal S16384x2048 .f32) bitsLt_bf16_f32 (ix2 t k)
      = x (ix4 ⟨t.val / 2048, by omega⟩ ⟨t.val % 2048, by omega⟩ ⟨k.val / 128, by omega⟩ ⟨k.val % 128, by omega⟩) := by
  pointwise

theorem gates_apply (x : FVec Ideal S8x2048x2048 .f32) (t : Fin 16384) (k : Fin 2048) :
    gates x (ix2 t ⟨8192 + k.val, by omega⟩) = x (ix3 ⟨t.val / 2048, by omega⟩ ⟨t.val % 2048, by omega⟩ k) := by
  pointwise [gates]

end Cert.Proof.AttnA
end
-- ==== Proof.AttnLane.lean ====
/-
The products of a query's and a key's 256 lanes: the product of their 192 numbers, with the shift added.
-/
module

public import proofs.«01_k».proof.Proof.AttnHost

@[expose] public section

set_option maxRecDepth 16384

noncomputable section

open Idealize.ShloMosaic Idealize.ShloMosaic.TcCoe Idealize.SL.Sem

namespace Cert.Proof.AttnA

open Cert.KernelIdeal Cert.KernelIdeal.Gen Cert.Proof.Softmax

/-- A row of 128 that is `s` at place 32 and zero elsewhere. -/
def single (s : EReal) (d : ℕ) : EReal := if d = 32 then s else 0

/-- The lanes' product is the rows' product with the two lanes' 160 added. -/
theorem lane_sum (y z : ℕ → EReal) (s t : EReal) :
    ∑ d ∈ Finset.range 256, lane y (single s) d * lane z (single t) d = ∑ d ∈ Finset.range 192, y d * z d + s * t := by
  have e256 : 256 = 160 + (32 + (32 + 32)) := rfl
  have e192 : 192 = 160 + 32 := rfl
  rw [e256, e192]
  simp only [Finset.sum_range_add]
  have p1 : ∑ d ∈ Finset.range 160, lane y (single s) d * lane z (single t) d = ∑ d ∈ Finset.range 160, y d * z d := by
    refine Finset.sum_congr rfl fun d hd => ?_
    have hd := Finset.mem_range.1 hd
    have e : ∀ (y : ℕ → EReal) (s : EReal), lane y (single s) d = y d := fun y s => by
      unfold lane single
      by_cases h : d < 128
      · rw [if_pos h]
      · rw [if_neg h, if_pos hd, if_neg (by omega), add_zero]
    rw [e, e]
  have p2 : ∑ d ∈ Finset.range 32, lane y (single s) (160 + d) * lane z (single t) (160 + d) = s * t := by
    rw [Finset.sum_eq_single_of_mem 0 (by simp)]
    · simp [lane, single]
    · intro d hd h0
      have hd := Finset.mem_range.1 hd
      have e : lane y (single s) (160 + d) = 0 := by
        unfold lane single
        rw [if_neg (by omega), if_neg (by omega), if_pos (by omega), if_neg (by omega), add_zero]
      rw [e, zero_mul]
  have p3 : ∑ d ∈ Finset.range 32, lane y (single s) (160 + (32 + d)) * lane z (single t) (160 + (32 + d))
      = ∑ d ∈ Finset.range 32, y (160 + d) * z (160 + d) := by
    refine Finset.sum_congr rfl fun d hd => ?_
    have hd := Finset.mem_range.1 hd
    have e : ∀ (y : ℕ → EReal) (s : EReal), lane y (single s) (160 + (32 + d)) = y (160 + d) := fun y s => by
      unfold lane single
      rw [if_neg (by omega), if_neg (by omega), if_neg (by omega), if_pos (by omega), if_neg (by omega), add_zero]
      exact congrArg y (by omega)
    rw [e, e]
  have p4 : ∑ d ∈ Finset.range 32, lane y (single s) (160 + (32 + (32 + d))) * lane z (single t) (160 + (32 + (32 + d))) = 0 := by
    refine Finset.sum_eq_zero fun d hd => ?_
    have hd := Finset.mem_range.1 hd
    have e : lane y (single s) (160 + (32 + (32 + d))) = 0 := by
      unfold lane single
      rw [if_neg (by omega), if_neg (by omega), if_neg (by omega), if_neg (by omega), if_neg (by omega), add_zero]
    rw [e, zero_mul]
  rw [p1, p2, p3, p4, add_zero, add_comm (s * t), add_assoc]

/-- Putting lane 160 to zero takes the shift out. -/
theorem lane_cleared (y : ℕ → EReal) (s : EReal) (d : ℕ) : (if d = 160 then 0 else lane y (single s) d) = lane y (single 0) d := by
  unfold lane single
  by_cases h : d = 160
  · subst h; simp
  · rw [if_neg h]
    by_cases h1 : d < 128
    · rw [if_pos h1, if_pos h1]
    · have h2 : ¬ d - 128 = 32 := by omega
      rw [if_neg h1, if_neg h1, if_neg h2, if_neg h2]

/-- The rows added are these. -/
theorem extra_setRow (s : FVec Ideal S_ .f32) (d : ℕ) : extra (setRow s) d = single (s ValueIdx.ix0) d := by
  unfold extra single
  by_cases h : d < 128
  · rw [dif_pos h, setRow_apply]
  · rw [dif_neg h, if_neg (by omega)]
theorem extra_oneRow (d : ℕ) : extra oneRow d = single 1 d := by
  unfold extra single
  by_cases h : d < 128
  · rw [dif_pos h, oneRow_apply]
  · rw [dif_neg h, if_neg (by omega)]

/-- The queries' factor is a real number: -/
def sigma : ℝ := 1 / (Real.sqrt 192 * Real.log 2)

theorem ofBits_192 : Ideal.ofBits .f32 0x43400000#32 = ((192 : ℝ) : EReal) := by
  simp [Ideal.ofBits, Ideal.ieee]
  rw [← EReal.coe_mul]; norm_num
theorem ofBits_two : Ideal.ofBits .f32 0x40000000#32 = ((2 : ℝ) : EReal) := by
  simp [Ideal.ofBits, Ideal.ieee]
  rw [← EReal.coe_mul]; norm_num
theorem ofBits_one : Ideal.ofBits .f32 0x3F800000#32 = 1 := by
  simp [Ideal.ofBits, Ideal.ieee]
  rw [← EReal.coe_mul]; norm_num

theorem sqrt_192 : Ideal.sqrt (Ideal.ofBits .f32 0x43400000#32) = (Real.sqrt 192 : EReal) := by
  rw [ofBits_192, Ideal.sqrt_coe, if_neg (by norm_num)]

theorem scale_apply (i : S_.Idx) : scale i = (sigma : EReal) := by
  show Ideal.div (Ideal.ofBits .f32 0x3F800000#32) (Ideal.sqrt (Ideal.ofBits .f32 0x43400000#32) * Ideal.log (Ideal.ofBits .f32 0x40000000#32)) = _
  rw [sqrt_192, ofBits_two, Ideal.log_coe, if_neg (by norm_num), ← EReal.coe_mul, Ideal.div_coe, ofBits_one, one_mul]
  · rfl
  · have : 0 < Real.log 2 := Real.log_pos (by norm_num)
    positivity

/-- An array of real numbers. -/
def Finite {s : Shape} (x : FVec Ideal s .f32) : Prop := ∀ i, x i = ((x i).toReal : EReal)

/-- A head's row as real numbers, its position any number. -/
def realAt (x : FVec Ideal S8x2048x16x192 .f32) (b : Fin 8) (h : Fin 16) (l d : ℕ) : ℝ :=
  if hl : l < 2048 then (rowAt x b ⟨l, hl⟩ h d).toReal else 0

/-- The product of a query's and a key's rows. -/
def product (q k : FVec Ideal S8x2048x16x192 .f32) (b : Fin 8) (h : Fin 16) (R j : ℕ) : ℝ :=
  ∑ d ∈ Finset.range 192, realAt q b h R d * realAt k b h j d

theorem rowAt_real {x : FVec Ideal S8x2048x16x192 .f32} (hx : Finite x) (b : Fin 8) (l : Fin 2048) (h : Fin 16) (d : ℕ) :
    rowAt x b l h d = (realAt x b h l.val d : EReal) := by
  unfold realAt
  rw [dif_pos l.isLt]
  unfold rowAt
  by_cases hd : d < 192
  · simp only [dif_pos hd]; exact hx _
  · simp only [dif_neg hd]; rfl

theorem rowAt_scaled {x : FVec Ideal S8x2048x16x192 .f32} (hx : Finite x) (b : Fin 8) (l : Fin 2048) (h : Fin 16) (d : ℕ) :
    rowAt (mulf x (broadcastInDim S8x2048x16x192 ![] bcast_S_S8x2048x16x192 scale)) b l h d = ((realAt x b h l.val d * sigma : ℝ) : EReal) := by
  rw [EReal.coe_mul, ← rowAt_real hx]
  unfold rowAt
  by_cases hd : d < 192
  · simp only [dif_pos hd]
    exact congrArg (x _ * ·) (scale_apply _)
  · simp only [dif_neg hd, zero_mul]

/-- The products of the lanes as the grid finds them. -/
theorem lanes_product {q k : FVec Ideal S8x2048x16x192 .f32} (hq : Finite q) (hk : Finite k) (b : Fin 8) (h : Fin 16) (R j : Fin 2048) (s : EReal) :
    ∑ d ∈ Finset.range 256, lane (rowAt (mulf q (broadcastInDim S8x2048x16x192 ![] bcast_S_S8x2048x16x192 scale)) b R h) (single s) d
        * lane (rowAt k b j h) (single 1) d = ((product q k b h R.val j.val * sigma : ℝ) : EReal) + s := by
  rw [lane_sum, mul_one]
  refine congrArg (· + s) ?_
  unfold product
  rw [Finset.sum_mul, coe_sum]
  refine Finset.sum_congr rfl fun d _ => ?_
  rw [rowAt_scaled hq, rowAt_real hk, ← EReal.coe_mul]
  exact congrArg _ (by ring)

/-- The power of two the kernel takes is the exponential the softmax asks for. -/
theorem two_pow (x : ℝ) : (2 : ℝ) ^ (x * sigma) = Real.exp (x * (1 / Real.sqrt 192)) := by
  have hl : Real.log 2 ≠ 0 := (Real.log_pos (by norm_num)).ne'
  have hs : Real.sqrt 192 ≠ 0 := by positivity
  rw [Real.rpow_def_of_pos (by norm_num)]
  unfold sigma
  congr 1
  field_simp

end Cert.Proof.AttnA
end
-- ==== Proof.TileVal.lean ====
/-
The attention kernel's tile functions read at a place, over the extended reals.
-/
module

public import proofs.«01_k».proof.Proof.AttnRun
public import Idealize.ShloMosaic.Lib.Pipeline.ValueKit
public import Idealize.ShloMosaic.Lib.MatmulPlain

@[expose] public section

set_option maxRecDepth 16384

noncomputable section

open Idealize.ShloMosaic Idealize.ShloMosaic.TcCoe Idealize.SL.Sem

namespace Cert.Proof.AttnA

open Cert.KernelIdeal Cert.KernelIdeal.Gen

/-- The pattern of -∞. -/
theorem ofBits_low : Ideal.ofBits .f32 0xFF800000#32 = ⊥ := by simp [Ideal.ofBits, Ideal.ieee]

/-- The two spellings of a place of a matrix. -/
theorem ix2_eq {a b : ℕ} (i : Fin a) (j : Fin b) : ix2 i j = ValueIdx.ix2 i j := by
  funext k
  fin_cases k <;> rfl

/-- A score: the product of a query's row and a key's. -/
theorem scores_apply {w : ℕ} (q : FVec Ideal S256x256 .bf16) (k : FVec Ideal (Keys w) .bf16) (r : Fin 256) (j : Fin w) :
    scores q k (ix2 r j) = ∑ d : Fin 256, q (ix2 r d) * k (ix2 j d) := by
  unfold scores
  simp only [matmul]
  rw [ix2_eq, Ideal.matmul_transposedRhs_apply]
  simp only [← ix2_eq]
  pointwise

/-- The queries as loaded, at a place. -/
theorem qPlain_apply (q : FVec Ideal S256x256 .bf16) (r d : Fin 256) : qPlain q (ix2 r d) = q (ix2 r d) := by
  pointwise [qPlain]

/-- The cleared queries at a place. -/
theorem qCleared_apply (q : FVec Ideal S256x256 .bf16) (r d : Fin 256) :
    qCleared q (ix2 r d) = if d.val = 160 then 0 else q (ix2 r d) := by
  pointwise [qCleared, qPlain]
  have hd := d.isLt
  rw [WordCmp.cmpi_eq_ofNat (by omega) (by omega)]
  by_cases h : d.val < 128
  · rw [dif_pos h, if_neg (by omega)]
  · rw [dif_neg h]
    by_cases h' : d.val = 160
    · simp [Scalar.select, h']
    · have e : (⟨128 + (d.val - 128), by omega⟩ : Fin 256) = d := Fin.ext (by show 128 + (d.val - 128) = d.val; omega)
      rw [if_neg h', e]
      have : ¬ d.val - 128 = 32 := by omega
      simp [Scalar.select, this]

theorem diagScores_apply (q k : FVec Ideal S256x256 .bf16) (r j : Fin 256) :
    diagScores q k (ix2 r j) = if j.val ≤ r.val then scores q k (ix2 r j) else ⊥ := by
  pointwise [diagScores, causal]
  rw [WordCmp.cmpi_sge_ofNat (by have := r.isLt; omega) (by have := j.isLt; omega), ofBits_low]
  by_cases h : j.val ≤ r.val <;> simp [Scalar.select, h]

theorem weighted_apply {w : ℕ} (p : FVec Ideal (Wide w) .f32) (v : FVec Ideal (Vals w) .bf16) (r : Fin 256) (c : Fin 128) :
    weighted p v (ix2 r c) = ∑ j : Fin w, p (ix2 r j) * v (ix2 j c) := by
  unfold weighted
  simp only [matmul]
  rw [ix2_eq, Ideal.matmul_plain_apply]
  simp only [← ix2_eq]
  pointwise

theorem rowSum_apply (x : FVec Ideal S256x128 .f32) (r : Fin 256) :
    rowSum x (ix2 r 0) = ∑ c : Fin 128, x (ix2 r c) := by
  pointwise [rowSum]

theorem rowMax_apply (x : FVec Ideal S256x128 .f32) (r : Fin 256) :
    rowMax x (ix2 r 0) = Finset.univ.fold max ⊥ fun c : Fin 128 => x (ix2 r c) := by
  pointwise [rowMax]
  rw [ofBits_low]

theorem finish_apply (l : FVec Ideal S256x1 .f32) (acc : FVec Ideal S256x128 .f32) (g : FVec Ideal S256x128 .bf16) (r : Fin 256) (c : Fin 128) :
    finish l acc g (ix2 r c) = acc (ix2 r c) * Ideal.div 1 (l (ix2 r 0)) * (g (ix2 r c) * Ideal.div 1 (1 + Ideal.exp (-g (ix2 r c)))) := by
  pointwise [finish]
  rw [zero_sub]

theorem expShift_apply {w : ℕ} (s : FVec Ideal (Wide w) .f32) (m : FVec Ideal S256x1 .f32) (hb : S256x1.Broadcasts (Wide w)) (r : Fin 256) (j : Fin w) :
    expShift s m hb (ix2 r j) = Ideal.exp2 (s (ix2 r j) - m (ix2 r 0)) := by
  pointwise [expShift]
  rfl

theorem exp2_apply {w : ℕ} (s : FVec Ideal (Wide w) .f32) (r : Fin 256) (j : Fin w) : exp2 s (ix2 r j) = Ideal.exp2 (s (ix2 r j)) := rfl

theorem slice_apply {w o : ℕ} (x : FVec Ideal (Wide w) .f32) (h : o + 128 ≤ w) (r : Fin 256) (c : Fin 128) :
    extractStridedSlice S256x128 ![0, o] x (wide_slices h) (ix2 r c) = x (ix2 r ⟨o + c.val, by omega⟩) := by
  refine congrArg x ((eq_ix2 (n0 := 256) (n1 := w) _).trans ?_)
  congr 1 <;> apply Fin.ext
  show 0 + r.val = r.val; omega

/-- Row `r` of `x` as a function of the column, zero past the last one. -/
def rowOf {w : ℕ} (x : FVec Ideal (Wide w) .f32) (r : Fin 256) : ℕ → EReal := fun j => if h : j < w then x (ix2 r ⟨j, h⟩) else 0

/-- The lane tiles added up, and their lanes: a row's sum. -/
theorem sum_laneFold {w : ℕ} (x : FVec Ideal (Wide w) .f32) (r : Fin 256) : ∀ (k : ℕ) (h : 128 * k + 128 ≤ w),
    ∑ c : Fin 128, laneFold addf x k h (ix2 r c) = ∑ j ∈ Finset.range (128 * k + 128), rowOf x r j
  | 0, h => by
    rw [show 128 * 0 + 128 = 128 from rfl, Finset.sum_range]
    refine Finset.sum_congr rfl fun c _ => ?_
    have hc := c.isLt
    refine (slice_apply x (by omega) r c).trans ?_
    unfold rowOf
    rw [dif_pos (by omega)]
    congr 2; apply Fin.ext; show 0 + c.val = c.val; omega
  | k + 1, h => by
    have ih := sum_laneFold x r k (by omega)
    rw [show 128 * (k + 1) + 128 = (128 * k + 128) + 128 by ring, Finset.sum_range_add, ← ih, Finset.sum_range, ← Finset.sum_add_distrib]
    refine Finset.sum_congr rfl fun c _ => ?_
    have hc := c.isLt
    have e := slice_apply x (o := 128 * (k + 1)) (by omega) r c
    have e2 : rowOf x r (128 * k + 128 + c.val) = x (ix2 r ⟨128 * (k + 1) + c.val, by omega⟩) := by
      unfold rowOf
      rw [dif_pos (by omega)]
      congr 2
    rw [e2, ← e]
    rfl

/-- The greatest lanes are below ⊤ where the row is, -/
theorem laneFold_max_lt {w : ℕ} (x : FVec Ideal (Wide w) .f32) (r : Fin 256) (hx : ∀ j, x (ix2 r j) < ⊤) : ∀ (k : ℕ) (h : 128 * k + 128 ≤ w) (c : Fin 128),
    laneFold maximumf x k h (ix2 r c) < ⊤
  | 0, h, c => by
    have hc := c.isLt
    exact (slice_apply x (by omega) r c).trans_lt (hx _)
  | k + 1, h, c => by
    have hc := c.isLt
    exact max_lt (laneFold_max_lt x r hx k (by omega) c) ((slice_apply x (o := 128 * (k + 1)) (by omega) r c).trans_lt (hx _))

/-- and the first lane is at least the row's first element. -/
theorem le_laneFold_max {w : ℕ} (x : FVec Ideal (Wide w) .f32) (r : Fin 256) : ∀ (k : ℕ) (h : 128 * k + 128 ≤ w),
    x (ix2 r ⟨0, by omega⟩) ≤ laneFold maximumf x k h (ix2 r 0)
  | 0, h => (slice_apply x (by omega) r 0).ge
  | k + 1, h => (le_laneFold_max x r k (by omega)).trans (le_max_left _ _)

/-- A row's greatest lane is a real where no lane is ⊤ and the first is not ⊥. -/
theorem rowMax_real (x : FVec Ideal S256x128 .f32) (r : Fin 256) (hx : ∀ c, x (ix2 r c) < ⊤) (h0 : ⊥ < x (ix2 r 0)) :
    ∃ μ : ℝ, rowMax x (ix2 r 0) = (μ : EReal) := by
  rw [rowMax_apply]
  have h1 : Finset.univ.fold max ⊥ (fun c : Fin 128 => x (ix2 r c)) < ⊤ :=
    (Finset.fold_max_lt _).2 ⟨bot_lt_top, fun c _ => hx c⟩
  have h2 : ⊥ < Finset.univ.fold max ⊥ (fun c : Fin 128 => x (ix2 r c)) :=
    (Finset.lt_fold_max _).2 (.inr ⟨0, Finset.mem_univ _, h0⟩)
  exact ⟨_, (EReal.coe_toReal h1.ne h2.ne').symm⟩

end Cert.Proof.AttnA
end
-- ==== Proof.TileMean.lean ====
/-
A tile of the attention kernel over the extended reals: whether its weights come from the shifted scores or from the
scores with a row number subtracted, it holds the softmax mean of the values times the gate's SiLU.
-/
module

public import proofs.«01_k».proof.Proof.TileVal
public import proofs.«01_k».proof.Proof.Softmax

@[expose] public section

set_option maxRecDepth 16384

noncomputable section

open Idealize.ShloMosaic Idealize.ShloMosaic.TcCoe Idealize.SL.Sem

namespace Cert.Proof.AttnA

open Cert.KernelIdeal Cert.KernelIdeal.Gen Cert.Proof.Softmax

/-- A gate's SiLU. -/
def silu (x : EReal) : EReal := x * Ideal.div 1 (1 + Ideal.exp (-x))

/-! ## Weights given at their places -/

section
variable {n : ℕ} (hn : n < 8) (pd : FVec Ideal (Wide 256) .f32) (r : Fin 256) (c : Fin 128) (P V : ℕ → EReal)
  (hpd : ∀ j : Fin 256, pd (ix2 r j) = if j.val ≤ r.val then P (256 * n + j.val) else 0)
  (vd : FVec Ideal S256x128 .bf16) (hvd : ∀ j : Fin 256, vd (ix2 j c) = V (256 * n + j.val))
include hn hpd

theorem diag_total : ∑ j ∈ Finset.range 256, rowOf pd r j = ∑ j ∈ Finset.range 256, if j ≤ r.val then P (256 * n + j) else 0 := by
  refine Finset.sum_congr rfl fun j hj => ?_
  have hj' := Finset.mem_range.1 hj
  unfold rowOf
  rw [dif_pos hj', hpd ⟨j, hj'⟩]

include hvd in
theorem diag_weighted : weighted pd vd (ix2 r c)
    = ∑ j ∈ Finset.range 256, if j ≤ r.val then P (256 * n + j) * V (256 * n + j) else 0 := by
  rw [weighted_apply, Finset.sum_range]
  refine Finset.sum_congr rfl fun j _ => ?_
  rw [hpd j, hvd j]
  by_cases h : j.val ≤ r.val
  · rw [if_pos h, if_pos h]
  · rw [if_neg h, if_neg h, zero_mul]
end

section
variable {w : ℕ} (po : FVec Ideal (Wide w) .f32) (r : Fin 256) (c : Fin 128) (P V : ℕ → EReal)
  (hpo : ∀ j : Fin w, po (ix2 r j) = P j.val) (vo : FVec Ideal (Vals w) .bf16) (hvo : ∀ j : Fin w, vo (ix2 j c) = V j.val)
include hpo

theorem off_total : ∑ j ∈ Finset.range w, rowOf po r j = ∑ j ∈ Finset.range w, P j := by
  refine Finset.sum_congr rfl fun j hj => ?_
  have hj' := Finset.mem_range.1 hj
  unfold rowOf
  rw [dif_pos hj', hpo ⟨j, hj'⟩]

include hvo in
theorem off_weighted : weighted po vo (ix2 r c) = ∑ j ∈ Finset.range w, P j * V j := by
  rw [weighted_apply, Finset.sum_range]
  refine Finset.sum_congr rfl fun j _ => ?_
  rw [hpo j, hvo j]
end

/-- The row sum over a block and the keys before it. -/
theorem sum_both {m : ℕ} (hm : m + 1 < 8) (pd : FVec Ideal (Wide 256) .f32) (po : FVec Ideal (Wide (256 * (m + 1))) .f32) (r : Fin 256) (P : ℕ → EReal)
    (hpd : ∀ j : Fin 256, pd (ix2 r j) = if j.val ≤ r.val then P (256 * (m + 1) + j.val) else 0)
    (hpo : ∀ j : Fin (256 * (m + 1)), po (ix2 r j) = P j.val) :
    rowSum (addf (laneFold addf pd 1 (by decide)) (laneFold addf po (2 * m + 1) (by omega))) (ix2 r 0)
      = ∑ j ∈ Finset.range 2048, if j ≤ 256 * (m + 1) + r.val then P j else 0 := by
  rw [← split_sum P hm r.isLt, ← diag_total hm pd r P hpd, ← off_total po r P hpo, rowSum_apply]
  have e1 : _ = ∑ j ∈ Finset.range 256, rowOf pd r j := sum_laneFold pd r 1 (by decide)
  have e2 := (sum_laneFold po r (2 * m + 1) (by omega)).trans
    (congrArg (fun w => ∑ j ∈ Finset.range w, rowOf po r j) (by omega : 128 * (2 * m + 1) + 128 = 256 * (m + 1)))
  rw [← e1, ← e2, ← Finset.sum_add_distrib]
  rfl

/-- The row sum over block 0. -/
theorem sum_first (pd : FVec Ideal (Wide 256) .f32) (r : Fin 256) (P : ℕ → EReal)
    (hpd : ∀ j : Fin 256, pd (ix2 r j) = if j.val ≤ r.val then P (256 * 0 + j.val) else 0) :
    rowSum (laneFold addf pd 1 (by decide)) (ix2 r 0) = ∑ j ∈ Finset.range 2048, if j ≤ 256 * 0 + r.val then P j else 0 := by
  rw [← split_sum P (by omega) r.isLt, ← diag_total (by omega) pd r P hpd, rowSum_apply]
  exact (sum_laneFold pd r 1 (by decide)).trans (by simp)

theorem weighted_both {m : ℕ} (hm : m + 1 < 8) (pd : FVec Ideal (Wide 256) .f32) (po : FVec Ideal (Wide (256 * (m + 1))) .f32) (r : Fin 256) (c : Fin 128)
    (P V : ℕ → EReal)
    (hpd : ∀ j : Fin 256, pd (ix2 r j) = if j.val ≤ r.val then P (256 * (m + 1) + j.val) else 0)
    (hpo : ∀ j : Fin (256 * (m + 1)), po (ix2 r j) = P j.val)
    (vd : FVec Ideal S256x128 .bf16) (hvd : ∀ j : Fin 256, vd (ix2 j c) = V (256 * (m + 1) + j.val))
    (vo : FVec Ideal (Vals (256 * (m + 1))) .bf16) (hvo : ∀ j : Fin (256 * (m + 1)), vo (ix2 j c) = V j.val) :
    addf (weighted pd vd) (weighted po vo) (ix2 r c)
      = ∑ j ∈ Finset.range 2048, if j ≤ 256 * (m + 1) + r.val then P j * V j else 0 := by
  rw [← split_sum (fun j => P j * V j) hm r.isLt, ← diag_weighted hm pd r c P V hpd vd hvd, ← off_weighted po r c P V hpo vo hvo]
  rfl

theorem weighted_first (pd : FVec Ideal (Wide 256) .f32) (r : Fin 256) (c : Fin 128) (P V : ℕ → EReal)
    (hpd : ∀ j : Fin 256, pd (ix2 r j) = if j.val ≤ r.val then P (256 * 0 + j.val) else 0)
    (vd : FVec Ideal S256x128 .bf16) (hvd : ∀ j : Fin 256, vd (ix2 j c) = V (256 * 0 + j.val)) :
    weighted pd vd (ix2 r c) = ∑ j ∈ Finset.range 2048, if j ≤ 256 * 0 + r.val then P j * V j else 0 := by
  rw [← split_sum (fun j => P j * V j) (by omega) r.isLt, ← diag_weighted (by omega) pd r c P V hpd vd hvd]
  simp

/-- A tile's element from its row's sum and weighted values, the weights a positive factor `α` times `E`. -/
theorem finish_mean {E : ℕ → ℝ} (hE : ∀ j, 0 < E j) {α : ℝ} (hα : 0 < α) (R : ℕ) (V : ℕ → EReal) (l : FVec Ideal S256x1 .f32)
    (acc : FVec Ideal S256x128 .f32) (gate : FVec Ideal S256x128 .bf16) (r : Fin 256) (c : Fin 128)
    (hl : l (ix2 r 0) = ∑ j ∈ Finset.range 2048, if j ≤ R then ((α * E j : ℝ) : EReal) else 0)
    (ha : acc (ix2 r c) = ∑ j ∈ Finset.range 2048, if j ≤ R then ((α * E j : ℝ) : EReal) * V j else 0) :
    finish l acc gate (ix2 r c) = mean E R V * silu (gate (ix2 r c)) := by
  have e : ∀ j, (if j ≤ R then ((α * E j : ℝ) : EReal) else 0) = ((α * upTo E R j : ℝ) : EReal) := by
    intro j; unfold upTo; split <;> simp
  have e' : ∀ j, (if j ≤ R then ((α * E j : ℝ) : EReal) * V j else 0) = ((α * upTo E R j : ℝ) : EReal) * V j := by
    intro j; unfold upTo; split <;> simp
  rw [finish_apply, hl, ha]
  simp only [e, e']
  rw [← coe_sum, ← Finset.mul_sum]
  have := mean_after hE hα R V
  unfold total at this
  rw [this]
  rfl

end Cert.Proof.AttnA
end
-- ==== Proof.AttnRef.lean ====
/-
The attention's reference at a place: the softmax mean of the values over the keys up to the query, times the gate's SiLU.
-/
module

public import proofs.«01_k».proof.Proof.AttnLane
public import proofs.«01_k».proof.Proof.TileMean
public import proofs.«01_k».proof.Proof.Gen.ReferenceIdeal.Run

@[expose] public section

set_option maxRecDepth 16384

noncomputable section

open Idealize.ShloMosaic Idealize.ShloMosaic.TcCoe Idealize.SL.Sem

namespace Cert.Proof.AttnA

section
open Cert.ReferenceIdeal Cert.ReferenceIdeal.Gen Cert.Proof.Softmax

/-- The scores, −∞ where the key's position is past the query's; -/
abbrev masked (q k : FVec Ideal S8x2048x16x192 .f32) (pos : IVec S8x2048 32) : FVec Ideal S8x16x2048x2048 .f32 :=
  select (broadcastInDim S8x16x2048x2048 ![0, 1, 2, 3] bcast_S8x1x2048x2048_S8x16x2048x2048_0_1_2_3 (cmpi .sge (broadcastInDim S8x1x2048x2048 ![0, 1, 2, 3] bcast_S8x1x2048x1_S8x1x2048x2048_0_1_2_3 (broadcastInDim S8x1x2048x1 ![0, 2] bcast_S8x2048_S8x1x2048x1_0_2 pos)) (broadcastInDim S8x1x2048x2048 ![0, 1, 2, 3] bcast_S8x1x1x2048_S8x1x2048x2048_0_1_2_3 (broadcastInDim S8x1x1x2048 ![0, 3] bcast_S8x2048_S8x1x1x2048_0_3 pos)))) (mulf (Host.dotGeneral dot_S8x2048x16x192_S8x2048x16x192_S8x16x2048x2048_3_3_1_1_02_02 none q k) (broadcastInDim S8x16x2048x2048 ![] bcast_S_S8x16x2048x2048 (Host.divf (constant S_ .f32 0x3F800000#32) (Host.sqrt (constant S_ .f32 0x43400000#32))))) (broadcastInDim S8x16x2048x2048 ![] bcast_S_S8x16x2048x2048 (id (constant S_ .f32 0xFF800000#32)))

/-- their maximum over the keys, -/
abbrev rowTop (x : FVec Ideal S8x16x2048x2048 .f32) : FVec Ideal S8x16x2048 .f32 :=
  Host.reduce FloatOps.maximumf x (constant S_ .f32 0xFF800000#32) reducesTo_S8x16x2048x2048_S8x16x2048_d3 h_S_

/-- joined with −∞; -/
abbrev peak (x : FVec Ideal S8x16x2048x2048 .f32) : FVec Ideal S8x16x2048 .f32 :=
  maximumf (broadcastInDim S8x16x2048 ![] bcast_S_S8x16x2048 (constant S_ .f32 0xFF800000#32)) (rowTop x)

/-- the exponentials of the scores less the maximum; -/
abbrev expo (x : FVec Ideal S8x16x2048x2048 .f32) : FVec Ideal S8x16x2048x2048 .f32 :=
  Host.exp (subf x (broadcastInDim S8x16x2048x2048 ![0, 1, 2, 3] bcast_S8x16x2048x1_S8x16x2048x2048_0_1_2_3 (broadcastInDim S8x16x2048x1 ![0, 1, 2] bcast_S8x16x2048_S8x16x2048x1_0_1_2 (peak x))))

/-- these over their sum; -/
abbrev probs (x : FVec Ideal S8x16x2048x2048 .f32) : FVec Ideal S8x16x2048x2048 .f32 :=
  Host.divf (expo x) (broadcastInDim S8x16x2048x2048 ![0, 1, 2, 3] bcast_S8x16x2048x1_S8x16x2048x2048_0_1_2_3 (broadcastInDim S8x16x2048x1 ![0, 1, 2] bcast_S8x16x2048_S8x16x2048x1_0_1_2 (Host.reduceAdd (expo x) (constant S_ .f32 0x00000000#32) reducesTo_S8x16x2048x2048_S8x16x2048_d3 h_S_)))

/-- and the gated means. -/
abbrev gated (v : FVec Ideal S8x2048x16x128 .f32) (p : FVec Ideal S8x16x2048x2048 .f32) (g : FVec Ideal S8x2048x2048 .f32) : FVec Ideal S16384x2048 .bf16 :=
  truncf .bf16 (shapeCast S16384x2048 (mulf (shapeCast S8x2048x2048 (transpose S8x2048x16x128 [0, 3, 1, 2] (Host.dotGeneral dot_S8x2048x16x128_S8x16x2048x2048_S8x16x128x2048_1_3_3_2_02_01 none v p) transposes_S8x16x128x2048_S8x2048x16x128_0_3_1_2) shapeCasts_S8x2048x16x128_S8x2048x2048) (mulf g (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf g)))))) shapeCasts_S8x2048x2048_S16384x2048) bitsLt_bf16_f32

/-- The reference's result is these, one after the other. -/
theorem reference_eq (m : (ℓ : Loc nD τ sig) → Buf (Elt Ideal) ℓ) (c : Dev nD) :
    Cert.ReferenceIdeal.Value.res_main_v28 m c = gated (m ((c.tc : Thread nD τ).loc main_arg2))
      (probs (masked (m ((c.tc : Thread nD τ).loc main_arg0)) (m ((c.tc : Thread nD τ).loc main_arg1)) (m ((c.tc : Thread nD τ).loc main_arg4))))
      (m ((c.tc : Thread nD τ).loc main_arg3)) := by
  unfold Cert.ReferenceIdeal.Value.res_main_v28
  rfl

theorem masked_apply (q k : FVec Ideal S8x2048x16x192 .f32) (pos : IVec S8x2048 32) (b : Fin 8) (h : Fin 16) (R j : Fin 2048) :
    masked q k pos (ix4 b h R j) = Scalar.select (IntOp.cmpi .sge (pos (ix2 b R)) (pos (ix2 b j)))
      ((∑ d : Fin 192, q (ix4 b R h d) * k (ix4 b j h d)) * Ideal.div (Ideal.ofBits .f32 0x3F800000#32) (Ideal.sqrt (Ideal.ofBits .f32 0x43400000#32)))
      (Ideal.ofBits .f32 0xFF800000#32) := by
  pointwise [masked]
  rfl

theorem joined_apply (y : FVec Ideal S8x16x2048 .f32) (b : Fin 8) (h : Fin 16) (R : Fin 2048) :
    maximumf (broadcastInDim S8x16x2048 ![] bcast_S_S8x16x2048 (constant S_ .f32 0xFF800000#32)) y (ix3 b h R)
      = max (Ideal.ofBits .f32 0xFF800000#32) (y (ix3 b h R)) := by
  pointwise

theorem peak_apply (x : FVec Ideal S8x16x2048x2048 .f32) (b : Fin 8) (h : Fin 16) (R : Fin 2048) :
    peak x (ix3 b h R) = max (Ideal.ofBits .f32 0xFF800000#32) (rowTop x (ix3 b h R)) :=
  joined_apply (rowTop x) b h R

/-- A row's score is among those its maximum is over. -/
theorem drop_row (b : Fin 8) (h : Fin 16) (R j : Fin 2048) : reducesTo_S8x16x2048x2048_S8x16x2048_d3.drop (ix4 b h R j) = ix3 b h R := by
  funext k
  fin_cases k <;> rfl

/-- The maximum is not +∞ where no score is, -/
theorem peak_lt_top (x : FVec Ideal S8x16x2048x2048 .f32) (b : Fin 8) (h : Fin 16) (R : Fin 2048) (hx : ∀ i, x i < ⊤) :
    peak x (ix3 b h R) < ⊤ := by
  rw [peak_apply]
  unfold rowTop
  rw [Host.reduce_eq_fold, ofBits_low]
  refine max_lt bot_lt_top ((Finset.fold_max_lt _).2 ⟨?_, fun i _ => hx i⟩)
  exact lt_of_eq_of_lt ofBits_low bot_lt_top

/-- and at least each of its row's. -/
theorem le_peak (x : FVec Ideal S8x16x2048x2048 .f32) (b : Fin 8) (h : Fin 16) (R j : Fin 2048) : x (ix4 b h R j) ≤ peak x (ix3 b h R) := by
  rw [peak_apply]
  unfold rowTop
  refine le_max_of_le_right ?_
  rw [Host.reduce_eq_fold]
  exact (Finset.le_fold_max _).2 (.inr ⟨ix4 b h R j, Finset.mem_filter.2 ⟨Finset.mem_univ _, drop_row b h R j⟩, le_rfl⟩)

theorem expo_apply (x : FVec Ideal S8x16x2048x2048 .f32) (b : Fin 8) (h : Fin 16) (R j : Fin 2048) :
    expo x (ix4 b h R j) = Ideal.exp (x (ix4 b h R j) - peak x (ix3 b h R)) := by
  unfold expo
  generalize peak x = y
  pointwise

theorem probs_apply (x : FVec Ideal S8x16x2048x2048 .f32) (b : Fin 8) (h : Fin 16) (R j : Fin 2048) :
    probs x (ix4 b h R j) = Ideal.div (expo x (ix4 b h R j)) (∑ i : Fin 2048, expo x (ix4 b h R i)) := by
  unfold probs
  generalize expo x = y
  pointwise

theorem gated_apply (v : FVec Ideal S8x2048x16x128 .f32) (p : FVec Ideal S8x16x2048x2048 .f32) (g : FVec Ideal S8x2048x2048 .f32) (r : Fin 16384) (c : Fin 2048) :
    gated v p g (ix2 r c)
      = (∑ j : Fin 2048, v (ix4 ⟨r.val / 2048, by omega⟩ j ⟨c.val / 128, by omega⟩ ⟨c.val % 128, by omega⟩)
            * p (ix4 ⟨r.val / 2048, by omega⟩ ⟨c.val / 128, by omega⟩ ⟨r.val % 2048, by omega⟩ j))
        * silu (g (ix3 ⟨r.val / 2048, by omega⟩ ⟨r.val % 2048, by omega⟩ c)) := by
  pointwise [gated]
  rfl

/-- The masked scores where positions count up: real up to the query and −∞ after it. -/
theorem masked_real {q k : FVec Ideal S8x2048x16x192 .f32} (hq : Finite q) (hk : Finite k) {pos : IVec S8x2048 32}
    (hp : ∀ (b : Fin 8) (R j : Fin 2048), IntOp.cmpi .sge (pos (ix2 b R)) (pos (ix2 b j)) = BitVec.ofBool (decide (j.val ≤ R.val)))
    (b : Fin 8) (h : Fin 16) (R j : Fin 2048) :
    masked q k pos (ix4 b h R j) = if j.val ≤ R.val then ((product q k b h R.val j.val * (1 / Real.sqrt 192) : ℝ) : EReal) else ⊥ := by
  rw [masked_apply, hp]
  by_cases hj : j.val ≤ R.val
  · rw [if_pos hj]
    simp only [hj, decide_true]
    rw [sqrt_192, Ideal.div_coe (by positivity), ofBits_one, one_mul, EReal.coe_mul]
    refine congrArg (· * _) ?_
    unfold product
    rw [coe_sum, Finset.sum_range]
    refine Finset.sum_congr rfl fun d _ => ?_
    rw [EReal.coe_mul, ← rowAt_real hq, ← rowAt_real hk]
    unfold rowAt
    rw [dif_pos d.isLt, dif_pos d.isLt]
  · rw [if_neg hj]
    simp only [hj, decide_false]
    exact ofBits_low

/-- A column of values, the key's position any number. -/
def column (v : FVec Ideal S8x2048x16x128 .f32) (b : Fin 8) (h : Fin 16) (d : Fin 128) (j : ℕ) : EReal :=
  if hj : j < 2048 then v (ix4 b ⟨j, hj⟩ h d) else 0

/-- The reference's mean of a column of values. -/
theorem mean_apply (x : FVec Ideal S8x16x2048x2048 .f32) (b : Fin 8) (h : Fin 16) (R : Fin 2048) (t : ℕ → ℝ)
    (ht : ∀ i, x i < ⊤)
    (hx : ∀ j : Fin 2048, x (ix4 b h R j) = if j.val ≤ R.val then (t j.val : EReal) else ⊥) (v : FVec Ideal S8x2048x16x128 .f32) (d : Fin 128) :
    ∑ j : Fin 2048, v (ix4 b j h d) * probs x (ix4 b h R j) = mean (fun j => Real.exp (t j)) R.val (column v b h d) := by
  obtain ⟨μ, hμ⟩ : ∃ μ : ℝ, peak x (ix3 b h R) = (μ : EReal) := by
    have hlt := peak_lt_top x b h R ht
    have hgt : ⊥ < peak x (ix3 b h R) := by
      refine lt_of_lt_of_le ?_ (le_peak x b h R 0)
      rw [hx, if_pos (by simp)]
      exact EReal.bot_lt_coe _
    exact ⟨_, (EReal.coe_toReal hlt.ne hgt.ne').symm⟩
  have he : ∀ j : Fin 2048, expo x (ix4 b h R j) = ((Real.exp (-μ) * upTo (fun j => Real.exp (t j)) R.val j.val : ℝ) : EReal) := fun j => by
    rw [expo_apply, hμ, hx]
    unfold upTo
    by_cases hj : j.val ≤ R.val
    · rw [if_pos hj, if_pos hj, ← EReal.coe_sub, ← Real.exp_add]
      show ((Real.exp (t j.val - μ) : ℝ) : EReal) = _
      rw [show t j.val - μ = -μ + t j.val by ring]
    · rw [if_neg hj, if_neg hj, mul_zero]
      show Ideal.exp (⊥ - (μ : EReal)) = 0
      rw [EReal.bot_sub]
      rfl
  have hs : ∑ i : Fin 2048, expo x (ix4 b h R i) = ((Real.exp (-μ) * total (fun j => Real.exp (t j)) R.val : ℝ) : EReal) := by
    simp only [he]
    unfold total
    rw [Finset.mul_sum, coe_sum, Finset.sum_range]
  rw [← mean_before (fun j => Real.exp_pos (t j)) (Real.exp_pos (-μ)) R.val (column v b h d), Finset.sum_range]
  refine Finset.sum_congr rfl fun j _ => ?_
  rw [probs_apply, he, hs]
  unfold column
  rw [dif_pos j.isLt]

end

end Cert.Proof.AttnA
end
-- ==== Proof.TileRow.lean ====
/-
The attention kernel's result block over the extended reals: at a row and a head's lane it is the softmax mean of the
head's values, times the gate's SiLU, given what the products of the query and key lanes are.
-/
module

public import proofs.«01_k».proof.Proof.TileMean

@[expose] public section

set_option maxRecDepth 16384

noncomputable section

open Idealize.ShloMosaic Idealize.ShloMosaic.TcCoe Idealize.SL.Sem

namespace Cert.Proof.AttnA

open Cert.KernelIdeal Cert.KernelIdeal.Gen Cert.Proof.Softmax

/-! ## Loads from the windows -/

/-- `w` rows from row `o` of head `g`'s 256 columns; -/
abbrev ldQ (x : QWin Ideal) (w o g : ℕ) (h : o + w ≤ 2048) (hg : g < 4) : FVec Ideal (Keys w) .bf16 := View.ld (Val := Elt Ideal) x (rectQ w o g h hg)
/-- `w` rows from row `o` of head `g`'s 128 columns. -/
abbrev ldV (x : VWin Ideal) (w o g : ℕ) (h : o + w ≤ 2048) (hg : g < 4) : FVec Ideal (Vals w) .bf16 := View.ld (Val := Elt Ideal) x (rectV w o g h hg)

theorem ld_rectQ (x : QWin Ideal) {w o g : ℕ} (h : o + w ≤ 2048) (hg : g < 4) (r : Fin w) (d : Fin 256) :
    ldQ x w o g h hg (ix2 r d) = x (ix2 ⟨o + r.val, by omega⟩ ⟨256 * g + d.val, by omega⟩) := by
  refine congrArg x ((eq_ix2 (n0 := 2048) (n1 := 1024) _).trans ?_)
  congr 1 <;> apply Fin.ext
  · show o + 1 * r.val = o + r.val; omega
  · show 256 * g + 1 * d.val = 256 * g + d.val; omega

theorem ld_rectV (x : VWin Ideal) {w o g : ℕ} (h : o + w ≤ 2048) (hg : g < 4) (r : Fin w) (c : Fin 128) :
    ldV x w o g h hg (ix2 r c) = x (ix2 ⟨o + r.val, by omega⟩ ⟨128 * g + c.val, by omega⟩) := by
  refine congrArg x ((eq_ix2 (n0 := 2048) (n1 := 512) _).trans ?_)
  congr 1 <;> apply Fin.ext
  · show o + 1 * r.val = o + r.val; omega
  · show 128 * g + 1 * c.val = 128 * g + c.val; omega

/-! ## Powers of two -/

theorem exp2_coe (x : ℝ) : Ideal.exp2 (x : EReal) = ((2 : ℝ) ^ x : ℝ) := rfl
theorem exp2_bot : Ideal.exp2 ⊥ = 0 := rfl

section
variable (xq xk : QWin Ideal) (g : ℕ) (hg : g < 4)

/-- The product of a query row's and a key row's 256 lanes of one head; -/
def dot (R j : Fin 2048) : EReal := ∑ d : Fin 256, xq (ix2 R ⟨256 * g + d.val, by omega⟩) * xk (ix2 j ⟨256 * g + d.val, by omega⟩)
/-- and with the query's lane 160 put to zero. -/
def dotCleared (R j : Fin 2048) : EReal :=
  ∑ d : Fin 256, (if d.val = 160 then 0 else xq (ix2 R ⟨256 * g + d.val, by omega⟩)) * xk (ix2 j ⟨256 * g + d.val, by omega⟩)

theorem scores_plain {w o o' : ℕ} (h : o + 256 ≤ 2048) (h' : o' + w ≤ 2048) (r : Fin 256) (j : Fin w) :
    scores (qPlain (ldQ xq 256 o g h hg)) (ldQ xk w o' g h' hg) (ix2 r j)
      = dot xq xk g hg ⟨o + r.val, by omega⟩ ⟨o' + j.val, by omega⟩ := by
  rw [scores_apply]
  refine Finset.sum_congr rfl fun d _ => ?_
  rw [qPlain_apply, ld_rectQ, ld_rectQ]

theorem scores_cleared {w o o' : ℕ} (h : o + 256 ≤ 2048) (h' : o' + w ≤ 2048) (r : Fin 256) (j : Fin w) :
    scores (qCleared (ldQ xq 256 o g h hg)) (ldQ xk w o' g h' hg) (ix2 r j)
      = dotCleared xq xk g hg ⟨o + r.val, by omega⟩ ⟨o' + j.val, by omega⟩ := by
  rw [scores_apply]
  refine Finset.sum_congr rfl fun d _ => ?_
  rw [qCleared_apply, ld_rectQ, ld_rectQ]
end

section
variable (xq xk : QWin Ideal) (xv xg : VWin Ideal) (g : ℕ) (hg : g < 4) (T : ℕ → ℕ → ℝ) (β : EReal)
  (hT : ∀ R j : Fin 2048, dot xq xk g hg R j = (T R.val j.val : EReal) + β)
  (hC : ∀ R j : Fin 2048, dotCleared xq xk g hg R j = (T R.val j.val : EReal))

/-- The shifted weight of a key, -/
def shifted (R j : ℕ) : EReal := Ideal.exp2 ((T R j : EReal) + β)
/-- and its weight with `μ` subtracted. -/
def lowered (μ : ℝ) (R j : ℕ) : EReal := Ideal.exp2 ((T R j : EReal) - (μ : EReal))

theorem shifted_bot (R j : ℕ) : shifted T ⊥ R j = 0 := by
  unfold shifted; rw [EReal.add_bot]; rfl

theorem shifted_coe (b : ℝ) (R j : ℕ) : shifted T (b : EReal) R j = (((2 : ℝ) ^ b * (2 : ℝ) ^ T R j : ℝ) : EReal) := by
  unfold shifted
  rw [← EReal.coe_add, exp2_coe, Real.rpow_add (by norm_num), mul_comm]

theorem lowered_coe (μ : ℝ) (R j : ℕ) : lowered T μ R j = (((2 : ℝ) ^ (-μ) * (2 : ℝ) ^ T R j : ℝ) : EReal) := by
  unfold lowered
  rw [← EReal.coe_sub, exp2_coe, sub_eq_add_neg, Real.rpow_add (by norm_num), mul_comm]

include hT in
theorem fast_diag {o : ℕ} (h : o + 256 ≤ 2048) (r j : Fin 256) :
    exp2 (diagScores (qPlain (ldQ xq 256 o g h hg)) (ldQ xk 256 o g h hg)) (ix2 r j)
      = if j.val ≤ r.val then shifted T β (o + r.val) (o + j.val) else 0 := by
  rw [exp2_apply, diagScores_apply]
  split
  · rw [scores_plain, hT]; rfl
  · exact exp2_bot

include hT in
theorem fast_off {o w : ℕ} (h : o + 256 ≤ 2048) (h' : 0 + w ≤ 2048) (r : Fin 256) (j : Fin w) :
    exp2 (scores (qPlain (ldQ xq 256 o g h hg)) (ldQ xk w 0 g h' hg)) (ix2 r j)
      = shifted T β (o + r.val) j.val := by
  rw [exp2_apply, scores_plain, hT]
  simp only [Nat.zero_add]
  rfl

include hC in
theorem slow_diag {o : ℕ} (h : o + 256 ≤ 2048) (M : FVec Ideal S256x1 .f32) (r j : Fin 256) (μ : ℝ) (hM : M (ix2 r 0) = μ) :
    expShift (diagScores (qCleared (ldQ xq 256 o g h hg)) (ldQ xk 256 o g h hg)) M
        (col_broadcasts 256) (ix2 r j)
      = if j.val ≤ r.val then lowered T μ (o + r.val) (o + j.val) else 0 := by
  rw [expShift_apply, diagScores_apply, hM]
  split
  · rw [scores_cleared, hC]; rfl
  · rw [EReal.bot_sub]; rfl

include hC in
theorem slow_off {o w : ℕ} (h : o + 256 ≤ 2048) (h' : 0 + w ≤ 2048) (M : FVec Ideal S256x1 .f32) (r : Fin 256) (j : Fin w) (μ : ℝ) (hM : M (ix2 r 0) = μ) :
    expShift (scores (qCleared (ldQ xq 256 o g h hg)) (ldQ xk w 0 g h' hg)) M
        (col_broadcasts w) (ix2 r j)
      = lowered T μ (o + r.val) j.val := by
  rw [expShift_apply, scores_cleared, hC, hM]
  simp only [Nat.zero_add]
  rfl

/-! ## The sums the choice is made on -/

include hT in
/-- A block's row sum. -/
theorem sumOf_apply : ∀ (n : ℕ) (h : n < 8) (r : Fin 256), sumOf xq xk g hg n h (ix2 r 0)
    = ∑ j ∈ Finset.range 2048, if j ≤ 256 * n + r.val then shifted T β (256 * n + r.val) j else 0
  | 0, h, r => sum_first _ r (fun j => shifted T β (256 * 0 + r.val) j) fun j => fast_diag xq xk g hg T β hT (o := 256 * 0) (by omega) r j
  | m + 1, h, r => sum_both h _ _ r (fun j => shifted T β (256 * (m + 1) + r.val) j)
      (fun j => fast_diag xq xk g hg T β hT (o := 256 * (m + 1)) (by omega) r j)
      fun j => fast_off xq xk g hg T β hT (o := 256 * (m + 1)) (by omega) (by omega) r j

/-- Without a shift in the reals every row sum is zero. -/
theorem sumOf_bot (hβ : β = ⊥) (hT : ∀ R j : Fin 2048, dot xq xk g hg R j = (T R.val j.val : EReal) + β) (n : ℕ) (h : n < 8) (r : Fin 256) :
    sumOf xq xk g hg n h (ix2 r 0) = 0 := by
  rw [sumOf_apply xq xk g hg T β hT]
  refine Finset.sum_eq_zero fun j _ => ?_
  rw [hβ, shifted_bot, ite_self]

/-- The values of the head's lane as a function of the key. -/
def vals (c : Fin 128) (j : ℕ) : EReal := if h : j < 2048 then xv (ix2 ⟨j, h⟩ ⟨128 * g + c.val, by omega⟩) else 0

theorem ld_vals {w o : ℕ} (h : o + w ≤ 2048) (c : Fin 128) (j : Fin w) :
    ldV xv w o g h hg (ix2 j c) = vals xv g hg c (o + j.val) := by
  rw [ld_rectV]
  unfold vals
  rw [dif_pos (by omega)]

theorem two_pow_pos (x : ℝ) : (0 : ℝ) < (2 : ℝ) ^ x := Real.rpow_pos_of_pos (by norm_num) x

include hT in
/-- The tile of the shifted weights, where the shift is a real. -/
theorem fastOf_apply (b : ℝ) (hb : β = b) : ∀ (n : ℕ) (h : n < 8) (r : Fin 256) (c : Fin 128), fastOf xq xk xv xg g hg n h (ix2 r c)
    = mean (fun j => (2 : ℝ) ^ T (256 * n + r.val) j) (256 * n + r.val) (vals xv g hg c)
        * silu (xg (ix2 ⟨256 * n + r.val, by omega⟩ ⟨128 * g + c.val, by omega⟩))
  | 0, h, r, c => by
    subst hb
    have hd := fun j => fast_diag xq xk g hg T b hT (o := 256 * 0) (by omega) r j
    simp only [shifted_coe] at hd
    refine (finish_mean (fun j => two_pow_pos _) (two_pow_pos b) (256 * 0 + r.val) (vals xv g hg c) _ _ _ r c
      (sum_first _ r _ hd) (weighted_first _ r c _ _ hd _ fun j => ld_vals xv g hg _ c j)).trans ?_
    exact congrArg (fun z => _ * silu z) (ld_rectV xg (o := 256 * 0) (by omega) hg r c)
  | m + 1, h, r, c => by
    subst hb
    have hd := fun j => fast_diag xq xk g hg T b hT (o := 256 * (m + 1)) (by omega) r j
    have ho := fun j => fast_off xq xk g hg T b hT (o := 256 * (m + 1)) (w := 256 * (m + 1)) (by omega) (by omega) r j
    simp only [shifted_coe] at hd ho
    refine (finish_mean (fun j => two_pow_pos _) (two_pow_pos b) (256 * (m + 1) + r.val) (vals xv g hg c) _ _ _ r c
      (sum_both h _ _ r _ hd ho) (weighted_both h _ _ r c _ _ hd ho _ (fun j => ld_vals xv g hg _ c j) _ fun j => ?_)).trans ?_
    · exact (ld_vals xv g hg (o := 0) (by omega) c j).trans (by rw [Nat.zero_add])
    · exact congrArg (fun z => _ * silu z) (ld_rectV xg (by omega) hg r c)

include hC in
/-- The scores without the shift are reals or masked, and those of the first key real. -/
theorem diag_lt_top {o : ℕ} (h : o + 256 ≤ 2048) (r j : Fin 256) :
    diagScores (qCleared (ldQ xq 256 o g h hg)) (ldQ xk 256 o g h hg) (ix2 r j) < ⊤ := by
  rw [diagScores_apply]
  split
  · rw [scores_cleared, hC]; exact EReal.coe_lt_top _
  · exact bot_lt_top

include hC in
theorem bot_lt_diag {o : ℕ} (h : o + 256 ≤ 2048) (r : Fin 256) :
    ⊥ < diagScores (qCleared (ldQ xq 256 o g h hg)) (ldQ xk 256 o g h hg) (ix2 r 0) := by
  rw [diagScores_apply, if_pos (by simp), scores_cleared, hC]
  exact EReal.bot_lt_coe _

include hC in
/-- The tile with the row maximum subtracted. -/
theorem slowOf_apply : ∀ (n : ℕ) (h : n < 8) (r : Fin 256) (c : Fin 128), slowOf xq xk xv xg g hg n h (ix2 r c)
    = mean (fun j => (2 : ℝ) ^ T (256 * n + r.val) j) (256 * n + r.val) (vals xv g hg c)
        * silu (xg (ix2 ⟨256 * n + r.val, by omega⟩ ⟨128 * g + c.val, by omega⟩))
  | 0, h, r, c => by
    obtain ⟨μ, hμ⟩ := rowMax_real (laneFold maximumf (diagScores (qCleared (ldQ xq 256 0 g (by omega) hg))
        (ldQ xk 256 0 g (by omega) hg)) 1 (by decide)) r
      (laneFold_max_lt _ r (fun j => diag_lt_top xq xk g hg T hC _ r j) 1 _)
      ((bot_lt_diag xq xk g hg T hC (o := 0) _ r).trans_le (le_laneFold_max _ r 1 _))
    have hd := fun j => slow_diag xq xk g hg T hC (o := 256 * 0) (by omega) _ r j μ hμ
    simp only [lowered_coe] at hd
    refine (finish_mean (fun j => two_pow_pos _) (two_pow_pos (-μ)) (256 * 0 + r.val) (vals xv g hg c) _ _ _ r c
      (sum_first _ r _ hd) (weighted_first _ r c _ _ hd _ fun j => ld_vals xv g hg _ c j)).trans ?_
    exact congrArg (fun z => _ * silu z) (ld_rectV xg (o := 256 * 0) (by omega) hg r c)
  | m + 1, h, r, c => by
    obtain ⟨μ, hμ⟩ := rowMax_real (maximumf (laneFold maximumf (diagScores (qCleared (ldQ xq 256 (256 * (m + 1)) g (by omega) hg))
        (ldQ xk 256 (256 * (m + 1)) g (by omega) hg)) 1 (by decide))
        (laneFold maximumf (scores (qCleared (ldQ xq 256 (256 * (m + 1)) g (by omega) hg))
        (ldQ xk (256 * (m + 1)) 0 g (by omega) hg)) (2 * m + 1) (by omega))) r
      (fun c => max_lt (laneFold_max_lt _ r (fun j => diag_lt_top xq xk g hg T hC _ r j) 1 _ c)
        (laneFold_max_lt _ r (fun j => by rw [scores_cleared, hC]; exact EReal.coe_lt_top _) _ _ c))
      ((bot_lt_diag xq xk g hg T hC (o := 256 * (m + 1)) _ r).trans_le ((le_laneFold_max _ r 1 _).trans (le_max_left _ _)))
    have hd := fun j => slow_diag xq xk g hg T hC (o := 256 * (m + 1)) (by omega) _ r j μ hμ
    have ho := fun j => slow_off xq xk g hg T hC (o := 256 * (m + 1)) (w := 256 * (m + 1)) (by omega) (by omega) _ r j μ hμ
    simp only [lowered_coe] at hd ho
    refine (finish_mean (fun j => two_pow_pos _) (two_pow_pos (-μ)) (256 * (m + 1) + r.val) (vals xv g hg c) _ _ _ r c
      (sum_both h _ _ r _ hd ho) (weighted_both h _ _ r c _ _ hd ho _ (fun j => ld_vals xv g hg _ c j) _ fun j => ?_)).trans ?_
    · exact (ld_vals xv g hg (o := 0) (by omega) c j).trans (by rw [Nat.zero_add])
    · exact congrArg (fun z => _ * silu z) (ld_rectV xg (by omega) hg r c)
end

/-! ## The choice -/

/-- The least row sum is at most each. -/
theorem leastSum_le (xq xk : QWin Ideal) (g : ℕ) (hg : g < 4) (n : ℕ) (h : n < 8) (r : Fin 256) :
    leastSum xq xk n h ≤ sumOf xq xk g hg n h (ix2 r 0) := by
  pointwise [leastSum]
  rw [Finset.fold_min_le]
  refine .inr ⟨(r, 0), Finset.mem_univ _, ?_⟩
  obtain rfl | rfl | rfl | rfl := (by omega : g = 0 ∨ g = 1 ∨ g = 2 ∨ g = 3)
  · exact (((min_le_left _ _).trans (min_le_left _ _)).trans (min_le_left _ _)).trans (min_le_right _ _)
  · exact ((min_le_left _ _).trans (min_le_left _ _)).trans (min_le_right _ _)
  · exact (min_le_left _ _).trans (min_le_right _ _)
  · exact min_le_right _ _

theorem ofBits_least : Ideal.ofBits .f32 0x1F800000#32 > 0 := by
  simp [Ideal.ofBits, Ideal.ieee]
  exact EReal.mul_pos (by norm_num) (by exact_mod_cast (by positivity : (0 : ℝ) < (2 ^ 87)⁻¹))

/-- Where the block is not redone every row sum is positive. -/
theorem sum_pos_of_not_redo (xq xk : QWin Ideal) (n : ℕ) (h : n < 8) (hr : ¬ redo xq xk n h = 1#1) (g : ℕ) (hg : g < 4) (r : Fin 256) :
    0 < sumOf xq xk g hg n h (ix2 r 0) := by
  refine lt_of_lt_of_le ?_ (leastSum_le xq xk g hg n h r)
  by_contra hc
  refine hr ?_
  have e : Scalar.cmpf .oge (leastSum xq xk n h) (Scalar.ofBits .f32 0x1F800000#32 : Ideal .f32) = 0#1 := by
    have hn : ¬ Ideal.ofBits .f32 0x1F800000#32 ≤ leastSum xq xk n h := fun hle => hc (lt_of_lt_of_le ofBits_least hle)
    show BitVec.ofBool (decide (Ideal.ofBits .f32 0x1F800000#32 ≤ leastSum xq xk n h)) = 0#1
    rw [decide_eq_false hn]
    rfl
  unfold redo
  rw [e]
  decide

/-- The result block at a row and a head's lane. -/
theorem outWin_apply (xq xk : QWin Ideal) (xv xg : VWin Ideal) (g : ℕ) (hg : g < 4) (T : ℕ → ℕ → ℝ) (β : EReal) (hβ : β ≠ ⊤)
    (hT : ∀ R j : Fin 2048, dot xq xk g hg R j = (T R.val j.val : EReal) + β)
    (hC : ∀ R j : Fin 2048, dotCleared xq xk g hg R j = (T R.val j.val : EReal)) (R : Fin 2048) (c : Fin 128) :
    outWin xq xk xv xg (ix2 R ⟨128 * g + c.val, by omega⟩)
      = mean (fun j => (2 : ℝ) ^ T R.val j) R.val (vals xv g hg c) * silu (xg (ix2 R ⟨128 * g + c.val, by omega⟩)) := by
  have tile : ∀ (n : ℕ) (h : n < 8) (r : Fin 256), tileOf xq xk xv xg n h g hg (ix2 r c)
      = mean (fun j => (2 : ℝ) ^ T (256 * n + r.val) j) (256 * n + r.val) (vals xv g hg c)
        * silu (xg (ix2 ⟨256 * n + r.val, by omega⟩ ⟨128 * g + c.val, by omega⟩)) := by
    intro n h r
    unfold tileOf
    split
    next => exact slowOf_apply xq xk xv xg g hg T hC n h r c
    next hr =>
      have hb : β ≠ ⊥ := fun e => (sum_pos_of_not_redo xq xk n h hr g hg r).ne' (sumOf_bot xq xk g hg T β e hT n h r)
      exact fastOf_apply xq xk xv xg g hg T β hT β.toReal (EReal.coe_toReal hβ hb).symm n h r c
  have hR := R.isLt
  have hc := c.isLt
  have e : 256 * (R.val / 256) + R.val % 256 = R.val := Nat.div_add_mod _ _
  have t := tile (R.val / 256) (by omega) ⟨R.val % 256, Nat.mod_lt _ (by decide)⟩
  simp only [e] at t
  refine Eq.trans ?_ t
  show tileOf xq xk xv xg (R.val / 256) _ ((128 * g + c.val) / 128) _ (ix2 ⟨R.val % 256, _⟩ ⟨(128 * g + c.val) % 128, _⟩) = _
  refine tiles_congr (fun g hg => tileOf xq xk xv xg (R.val / 256) (by omega) g hg) (by omega) _ _ ?_
  congr 1
  apply Fin.ext
  show (128 * g + c.val) % 128 = c.val
  omega

end Cert.Proof.AttnA
end
-- ==== Proof.AttnVal.lean ====
/-
The attention kernel's value: every block of its result is the softmax mean of the values over the keys up to the query,
times the gate's SiLU, given finite queries and keys.
-/
module

public import proofs.«01_k».proof.Proof.AttnRun
public import proofs.«01_k».proof.Proof.AttnRef
public import proofs.«01_k».proof.Proof.TileRow

@[expose] public section

set_option maxRecDepth 16384

noncomputable section

open Idealize.ShloMosaic Idealize.ShloMosaic.TcCoe Idealize.SL.Sem
open Idealize.ShloMosaic.Pipeline (Dat)

namespace Cert.Proof.AttnA

open Cert.KernelIdeal Cert.KernelIdeal.Gen Cert.Proof.Softmax

variable (m : (ℓ : Loc nD τ sig) → Buf (Elt Ideal) ℓ) (ρ : Dev nD → PrngReg)

/-- Where each grid point's blocks lie in their arrays: a batch's rows and four heads' columns. -/
theorem idx : ∀ t : Fin cfg0.N, win0_0.index t = ![t.val / 4, t.val % 4] ∧ win0_1.index t = ![t.val / 4, t.val % 4]
    ∧ win0_2.index t = ![t.val / 4, t.val % 4] ∧ win0_3.index t = ![t.val / 4, 16 + t.val % 4] ∧ win0_4.index t = ![t.val / 4, t.val % 4] :=
  (by decide +kernel : ∀ t : Fin grid0.N, _)

/-- Place `(a, b)` of point `t`'s block of the result is this array index. -/
theorem place (t : Fin cfg0.N) (a : Fin 2048) (b : Fin 512) : ∃ (r : Fin 16384) (d : Fin 2048), ((cfg0.win 4).blk t).view.emb (ix2 a b) = ix2 r d
    ∧ r.val = 2048 * (t.val / 4) + a.val ∧ d.val = 512 * (t.val % 4) + b.val := by
  have ht : t.val < 32 := t.isLt
  refine ⟨⟨2048 * (t.val / 4) + a.val, by omega⟩, ⟨512 * (t.val % 4) + b.val, by omega⟩, ?_, rfl, rfl⟩
  blk_ext [idx t]

/-- The queries' block at a place, read off the array the grid finds; -/
theorem queries_at (c : Dev nD) (t : Fin cfg0.N) (a : Fin 2048) (k : Fin 1024) (r : Fin 16384) (d : Fin 4096)
    (hr : r.val = 2048 * (t.val / 4) + a.val) (hd : d.val = 1024 * (t.val % 4) + k.val) :
    iblk m c 0 t (ix2 a k) = V m c main_v48 (ix2 r d) := by
  blk_ext [iblk, idx t]
/-- the keys'; -/
theorem keys_at (c : Dev nD) (t : Fin cfg0.N) (a : Fin 2048) (k : Fin 1024) (r : Fin 16384) (d : Fin 4096)
    (hr : r.val = 2048 * (t.val / 4) + a.val) (hd : d.val = 1024 * (t.val % 4) + k.val) :
    iblk m c 1 t (ix2 a k) = V m c main_v61 (ix2 r d) := by
  blk_ext [iblk, idx t]
/-- the values'; -/
theorem values_at (c : Dev nD) (t : Fin cfg0.N) (a : Fin 2048) (k : Fin 512) (r : Fin 16384) (d : Fin 2048)
    (hr : r.val = 2048 * (t.val / 4) + a.val) (hd : d.val = 512 * (t.val % 4) + k.val) :
    iblk m c 2 t (ix2 a k) = V m c main_v63 (ix2 r d) := by
  blk_ext [iblk, idx t]
/-- and the gates'. -/
theorem gates_at (c : Dev nD) (t : Fin cfg0.N) (a : Fin 2048) (k : Fin 512) (r : Fin 16384) (d : Fin 18432)
    (hr : r.val = 2048 * (t.val / 4) + a.val) (hd : d.val = 512 * (16 + t.val % 4) + k.val) :
    iblk m c 3 t (ix2 a k) = V m c main_v66 (ix2 r d) := by
  blk_ext [iblk, idx t]

/-- The kernel's result at a place of the array. -/
def valueAt (q k : FVec Ideal S8x2048x16x192 .f32) (v : FVec Ideal S8x2048x16x128 .f32) (g : FVec Ideal S8x2048x2048 .f32)
    (r : Fin 16384) (d : Fin 2048) : EReal :=
  mean (fun j => Real.exp (product q k ⟨r.val / 2048, by omega⟩ ⟨d.val / 128, by omega⟩ (r.val % 2048) j * (1 / Real.sqrt 192))) (r.val % 2048)
      (column v ⟨r.val / 2048, by omega⟩ ⟨d.val / 128, by omega⟩ ⟨d.val % 128, by omega⟩)
    * silu (g (ix3 ⟨r.val / 2048, by omega⟩ ⟨r.val % 2048, by omega⟩ d))

section
variable (q k : FVec Ideal S8x2048x16x192 .f32) (v : FVec Ideal S8x2048x16x128 .f32) (g : FVec Ideal S8x2048x2048 .f32) (s : FVec Ideal S_ .f32)

/-- A block whose four inputs are blocks of the laid out arrays, at a place of its head `i`'s columns. -/
theorem block_value (hq : Finite q) (hk : Finite k) (hs : s ValueIdx.ix0 ≠ ⊤) (xq xk : QWin Ideal) (xv xg : VWin Ideal) (n o : ℕ) (hn : n < 8) (ho : o < 4)
    (h0 : ∀ (a : Fin 2048) (e : Fin 1024), xq (ix2 a e)
      = lanes (mulf q (broadcastInDim S8x2048x16x192 ![] bcast_S_S8x2048x16x192 scale)) (setRow s) (ix2 ⟨2048 * n + a.val, by omega⟩ ⟨1024 * o + e.val, by omega⟩))
    (h1 : ∀ (a : Fin 2048) (e : Fin 1024), xk (ix2 a e) = lanes k oneRow (ix2 ⟨2048 * n + a.val, by omega⟩ ⟨1024 * o + e.val, by omega⟩))
    (h2 : ∀ (a : Fin 2048) (e : Fin 512), xv (ix2 a e)
      = v (ix4 ⟨(2048 * n + a.val) / 2048, by omega⟩ ⟨(2048 * n + a.val) % 2048, by omega⟩ ⟨(512 * o + e.val) / 128, by omega⟩ ⟨(512 * o + e.val) % 128, by omega⟩))
    (h3 : ∀ (a : Fin 2048) (e : Fin 512), xg (ix2 a e)
      = g (ix3 ⟨(2048 * n + a.val) / 2048, by omega⟩ ⟨(2048 * n + a.val) % 2048, by omega⟩ ⟨512 * o + e.val, by omega⟩))
    (i : ℕ) (hi : i < 4) (R : Fin 2048) (c : Fin 128) :
    outWin xq xk xv xg (ix2 R ⟨128 * i + c.val, by omega⟩) = valueAt q k v g ⟨2048 * n + R.val, by omega⟩ ⟨512 * o + (128 * i + c.val), by omega⟩ := by
  have eq : ∀ (a : Fin 2048) (d : Fin 256), xq (ix2 a ⟨256 * i + d.val, by omega⟩)
      = lane (rowAt (mulf q (broadcastInDim S8x2048x16x192 ![] bcast_S_S8x2048x16x192 scale)) ⟨n, hn⟩ a ⟨4 * o + i, by omega⟩) (single (s ValueIdx.ix0)) d.val := fun a d => by
    rw [h0, lanes_apply]
    have e1 : (⟨(2048 * n + a.val) / 2048, by omega⟩ : Fin 8) = ⟨n, hn⟩ := Fin.ext (by show (2048 * n + a.val) / 2048 = n; omega)
    have e2 : (⟨(2048 * n + a.val) % 2048, by omega⟩ : Fin 2048) = a := Fin.ext (by show (2048 * n + a.val) % 2048 = a.val; omega)
    have e3 : (⟨(1024 * o + (256 * i + d.val)) / 256, by omega⟩ : Fin 16) = ⟨4 * o + i, by omega⟩ := Fin.ext (by show (1024 * o + (256 * i + d.val)) / 256 = 4 * o + i; omega)
    have e4 : (1024 * o + (256 * i + d.val)) % 256 = d.val := by omega
    have e5 : extra (setRow s) = single (s ValueIdx.ix0) := funext (extra_setRow s)
    simp only [e1, e2, e3, e4, e5]
  have ek : ∀ (a : Fin 2048) (d : Fin 256), xk (ix2 a ⟨256 * i + d.val, by omega⟩)
      = lane (rowAt k ⟨n, hn⟩ a ⟨4 * o + i, by omega⟩) (single 1) d.val := fun a d => by
    rw [h1, lanes_apply]
    have e1 : (⟨(2048 * n + a.val) / 2048, by omega⟩ : Fin 8) = ⟨n, hn⟩ := Fin.ext (by show (2048 * n + a.val) / 2048 = n; omega)
    have e2 : (⟨(2048 * n + a.val) % 2048, by omega⟩ : Fin 2048) = a := Fin.ext (by show (2048 * n + a.val) % 2048 = a.val; omega)
    have e3 : (⟨(1024 * o + (256 * i + d.val)) / 256, by omega⟩ : Fin 16) = ⟨4 * o + i, by omega⟩ := Fin.ext (by show (1024 * o + (256 * i + d.val)) / 256 = 4 * o + i; omega)
    have e4 : (1024 * o + (256 * i + d.val)) % 256 = d.val := by omega
    have e5 : extra oneRow = single 1 := funext extra_oneRow
    simp only [e1, e2, e3, e4, e5]
  have hT : ∀ R j : Fin 2048, dot xq xk i hi R j = ((product q k ⟨n, hn⟩ ⟨4 * o + i, by omega⟩ R.val j.val * sigma : ℝ) : EReal) + s ValueIdx.ix0 := fun R j => by
    rw [← lanes_product hq hk, Finset.sum_range]
    exact Finset.sum_congr rfl fun d _ => by rw [eq, ek]
  have hC : ∀ R j : Fin 2048, dotCleared xq xk i hi R j = ((product q k ⟨n, hn⟩ ⟨4 * o + i, by omega⟩ R.val j.val * sigma : ℝ) : EReal) := fun R j => by
    refine Eq.trans ?_ (add_zero _)
    rw [← lanes_product hq hk, Finset.sum_range]
    exact Finset.sum_congr rfl fun d _ => by rw [eq, ek, lane_cleared]
  rw [outWin_apply xq xk xv xg i hi (fun R j => product q k ⟨n, hn⟩ ⟨4 * o + i, by omega⟩ R j * sigma) (s ValueIdx.ix0) hs hT hC R c]
  unfold valueAt
  have e1 : (⟨(2048 * n + R.val) / 2048, by omega⟩ : Fin 8) = ⟨n, hn⟩ := Fin.ext (by show (2048 * n + R.val) / 2048 = n; omega)
  have e2 : (2048 * n + R.val) % 2048 = R.val := by omega
  have e3 : (⟨(512 * o + (128 * i + c.val)) / 128, by omega⟩ : Fin 16) = ⟨4 * o + i, by omega⟩ := Fin.ext (by show (512 * o + (128 * i + c.val)) / 128 = 4 * o + i; omega)
  have e4 : (⟨(512 * o + (128 * i + c.val)) % 128, by omega⟩ : Fin 128) = c := Fin.ext (by show (512 * o + (128 * i + c.val)) % 128 = c.val; omega)
  have ev : vals xv i hi c = column v ⟨n, hn⟩ ⟨4 * o + i, by omega⟩ c := funext fun j => by
    unfold vals column
    by_cases hj : j < 2048
    · rw [dif_pos hj, dif_pos hj, h2]
      have f1 : (⟨(2048 * n + j) / 2048, by omega⟩ : Fin 8) = ⟨n, hn⟩ := Fin.ext (by show (2048 * n + j) / 2048 = n; omega)
      have f2 : (⟨(2048 * n + j) % 2048, by omega⟩ : Fin 2048) = ⟨j, hj⟩ := Fin.ext (by show (2048 * n + j) % 2048 = j; omega)
      simp only [f1, f2, e3, e4]
    · rw [dif_neg hj, dif_neg hj]
  rw [h3, ev]
  simp only [e1, e2, e3, e4, two_pow]

end

/-- What the body stores at place `y` of point `t`'s block is the value at the array index there. -/
theorem point (c : Dev nD) (hq : Finite (m ((c : Thread nD τ).loc main_arg0) : FVec Ideal S8x2048x16x192 .f32))
    (hk : Finite (m ((c : Thread nD τ).loc main_arg1) : FVec Ideal S8x2048x16x192 .f32)) (t : Fin cfg0.N) (a : Fin 2048) (b : Fin 512)
    (r : Fin 16384) (d : Fin 2048) (hr : r.val = 2048 * (t.val / 4) + a.val) (hd : d.val = 512 * (t.val % 4) + b.val) :
    outWin (iblk m c 0 t) (iblk m c 1 t) (iblk m c 2 t) (iblk m c 3 t) (ix2 a b)
      = valueAt (m ((c : Thread nD τ).loc main_arg0)) (m ((c : Thread nD τ).loc main_arg1)) (m ((c : Thread nD τ).loc main_arg2)) (m ((c : Thread nD τ).loc main_arg3)) r d := by
  have ht : t.val < 32 := t.isLt
  have h := block_value (m ((c : Thread nD τ).loc main_arg0)) (m ((c : Thread nD τ).loc main_arg1)) (m ((c : Thread nD τ).loc main_arg2)) (m ((c : Thread nD τ).loc main_arg3))
    (Host.negf (bound (m ((c : Thread nD τ).loc main_arg5)) (m ((c : Thread nD τ).loc main_arg6)))) hq hk (shift_ne_top _ _ _)
    (iblk m c 0 t) (iblk m c 1 t) (iblk m c 2 t) (iblk m c 3 t) (t.val / 4) (t.val % 4) (by omega) (by omega)
    (fun a e => (queries_at m c t a e ⟨2048 * (t.val / 4) + a.val, by omega⟩ ⟨1024 * (t.val % 4) + e.val, by omega⟩ rfl rfl).trans (congrFun (entry_q m c) _))
    (fun a e => (keys_at m c t a e ⟨2048 * (t.val / 4) + a.val, by omega⟩ ⟨1024 * (t.val % 4) + e.val, by omega⟩ rfl rfl).trans (congrFun (entry_k m c) _))
    (fun a e => (values_at m c t a e ⟨2048 * (t.val / 4) + a.val, by omega⟩ ⟨512 * (t.val % 4) + e.val, by omega⟩ rfl rfl).trans
      ((congrFun (entry_v m c) _).trans (vrows_apply _ _ _)))
    (fun a e => (gates_at m c t a e ⟨2048 * (t.val / 4) + a.val, by omega⟩ ⟨8192 + (512 * (t.val % 4) + e.val), by omega⟩ rfl
      (by show 8192 + (512 * (t.val % 4) + e.val) = 512 * (16 + t.val % 4) + e.val; omega)).trans
      ((congrFun (entry_g m c) _).trans (gates_apply _ ⟨2048 * (t.val / 4) + a.val, by omega⟩ ⟨512 * (t.val % 4) + e.val, by omega⟩)))
    (b.val / 128) (by omega) a ⟨b.val % 128, by omega⟩
  have e1 : (⟨128 * (b.val / 128) + b.val % 128, by omega⟩ : Fin 512) = b := Fin.ext (by show 128 * (b.val / 128) + b.val % 128 = b.val; omega)
  have e2 : (⟨2048 * (t.val / 4) + a.val, by omega⟩ : Fin 16384) = r := Fin.ext hr.symm
  have e3 : (⟨512 * (t.val % 4) + (128 * (b.val / 128) + b.val % 128), by omega⟩ : Fin 2048) = d :=
    Fin.ext (by show 512 * (t.val % 4) + (128 * (b.val / 128) + b.val % 128) = d.val; omega)
  simp only [e1, e2, e3] at h
  exact h

/-- The result array after the run. -/
theorem final (c : Dev nD) (hq : Finite (m ((c : Thread nD τ).loc main_arg0) : FVec Ideal S8x2048x16x192 .f32))
    (hk : Finite (m ((c : Thread nD τ).loc main_arg1) : FVec Ideal S8x2048x16x192 .f32)) (f : FVec Ideal S16384x2048 .bf16)
    (hf : ∀ r d, f (ix2 r d) = valueAt (m ((c : Thread nD τ).loc main_arg0)) (m ((c : Thread nD τ).loc main_arg1)) (m ((c : Thread nD τ).loc main_arg2)) (m ((c : Thread nD τ).loc main_arg3)) r d) :
    (dats m 0 c).arrAt 4 (cfgs 0).N = f := by
  refine (dats m 0 c).arrAt_eq_of_covers 4 _ (by decide +kernel) fun t _ y => ?_
  blk_simp
  rw [after_4]
  obtain ⟨a, b, rfl⟩ : ∃ (a : Fin 2048) (b : Fin 512), y = ix2 a b := ⟨y 0, y 1, eq_ix2 y⟩
  obtain ⟨r, d, e, hr, hd⟩ := place t a b
  rw [e, hf]
  exact point m c hq hk t a b r d hr hd

/-- The reference's result is that value, where positions compare as their indices. -/
theorem reference_value {q k : FVec Ideal S8x2048x16x192 .f32} (hq : Finite q) (hk : Finite k) {pos : IVec S8x2048 32}
    (hp : ∀ (b : Fin 8) (R j : Fin 2048), IntOp.cmpi .sge (pos (ix2 b R)) (pos (ix2 b j)) = BitVec.ofBool (decide (j.val ≤ R.val)))
    (v : FVec Ideal S8x2048x16x128 .f32) (g : FVec Ideal S8x2048x2048 .f32) (r : Fin 16384) (d : Fin 2048) :
    gated v (probs (masked q k pos)) g (ix2 r d) = valueAt q k v g r d := by
  have ht : ∀ i, masked q k pos i < ⊤ := fun i => by
    obtain ⟨b, h, R, j, rfl⟩ : ∃ (b : Fin 8) (h : Fin 16) (R j : Fin 2048), i = ix4 b h R j := ⟨i 0, i 1, i 2, i 3, eq_ix4 i⟩
    rw [masked_real hq hk hp]
    split
    · exact EReal.coe_lt_top _
    · exact bot_lt_top
  rw [gated_apply]
  unfold valueAt
  exact congrArg (· * _) (mean_apply _ _ _ _ _ ht (fun j => masked_real hq hk hp _ _ _ j) v _)

/-- The run with the result array named. -/
theorem run_blocks : θ_run defs (onTc (τ := τ) (main (F := Ideal))) ⟨m, fun _ => 0, ρ⟩ fun r => ∀ c : Dev nD,
      r.2.mem ((c : Thread nD τ).loc main_v67) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1 4, ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.Proof.AttnA

end
-- ==== Proof.AttnPre.lean ====
/-
What the precondition of the attention's equality says: the queries and keys are real numbers, and a key's position is at
most a query's exactly where the key's index is at most the query's.
-/
module

public import proofs.«01_k».proof.Proof.Gen.Pre_in_order
public import proofs.«01_k».proof.Proof.AttnLane
public import Idealize.ShloMosaic.Lib.ReduceAll

@[expose] public section

set_option maxRecDepth 16384

noncomputable section

open Idealize.ShloMosaic Idealize.ShloMosaic.TcCoe Idealize.SL.Sem

namespace Cert.Proof.AttnA

section
open Cert.Pre_in_order Cert.Pre_in_order.Gen

/-- Whether every element of an array is finite, as one word. -/
abbrev allFinite (x : FVec Ideal S8x2048x16x192 .f32) : IVec S_ 1 :=
  Host.reduce IntOp.andi (cmpf .olt (Host.absf x) (broadcastInDim S8x2048x16x192 ![] bcast_S_S8x2048x16x192 (constant S_ .f32 0x7F800000#32)))
    (constantI S_ 1 1#1) reducesTo_S8x2048x16x192_S_d0_1_2_3 h_S_

/-- The precondition over the two words. -/
abbrev conditions (pos : IVec S8x2048 32) (fq fk : IVec S_ 1) : IVec S8x2048 1 :=
  andi (andi (andi (andi (cmpi .eq pos (addi (broadcastInDim S8x2048 ![0, 1] bcast_S8x1_S8x2048_0_1 (extractStridedSlice S8x1 ![0, 0] pos slices_S8x2048_S8x1_0_0))
      (iotaInDim S8x2048 32 1)))
    (broadcastInDim S8x2048 ![0, 1] bcast_S8x1_S8x2048_0_1 (cmpi .sge (extractStridedSlice S8x1 ![0, 0] pos slices_S8x2048_S8x1_0_0) (broadcastInDim S8x1 ![] bcast_S_S8x1 (constantI S_ 32 0#32)))))
    (broadcastInDim S8x2048 ![0, 1] bcast_S8x1_S8x2048_0_1 (cmpi .slt (extractStridedSlice S8x1 ![0, 0] pos slices_S8x2048_S8x1_0_0) (broadcastInDim S8x1 ![] bcast_S_S8x1 (constantI S_ 32 1024#32)))))
    (broadcastInDim S8x2048 ![] bcast_S_S8x2048 fq)) (broadcastInDim S8x2048 ![] bcast_S_S8x2048 fk)

theorem fn_eq (q k : FVec Ideal S8x2048x16x192 .f32) (v : FVec Ideal S8x2048x16x128 .f32) (g : FVec Ideal S8x2048x2048 .f32)
    (pos : IVec S8x2048 32) (a b : FVec Ideal S192 .f32) : fn (F := Ideal) q k v g pos a b = conditions pos (allFinite q) (allFinite k) := rfl

theorem conditions_apply (pos : IVec S8x2048 32) (fq fk : IVec S_ 1) (b : Fin 8) (R : Fin 2048) :
    conditions pos fq fk (ix2 b R) = IntOp.andi (IntOp.andi (IntOp.andi (IntOp.andi (IntOp.cmpi .eq (pos (ix2 b R)) (pos (ix2 b 0) + BitVec.ofNat 32 R.val))
      (IntOp.cmpi .sge (pos (ix2 b 0)) 0#32)) (IntOp.cmpi .slt (pos (ix2 b 0)) 1024#32)) (fq ix0)) (fk ix0) := by
  pointwise [conditions]
  rfl

/-- An array every element of which is finite holds real numbers. -/
theorem finite_of {x : FVec Ideal S8x2048x16x192 .f32} (h : allFinite x ix0 = 1#1) : Finite x := fun i => by
  have hi := Host.reduce_andi_all _ _ _ _ _ h i
  have hlt : max (x i) (-(x i)) < ⊤ := by
    have e : Ideal.ofBits .f32 0x7F800000#32 = ⊤ := by simp [Ideal.ofBits, Ideal.ieee]
    rw [← e]
    exact (WordCmp.ofBool_decide_eq_one_iff _).1 hi
  obtain ⟨h1, h2⟩ := max_lt_iff.1 hlt
  refine (EReal.coe_toReal h1.ne ?_).symm
  intro hb
  rw [hb] at h2
  exact absurd h2 (by simp)

/-- Positions that count up from a small start compare as their indices. -/
theorem compare {pos : IVec S8x2048 32} {fq fk : IVec S_ 1} (h : ∀ (b : Fin 8) (R : Fin 2048), conditions pos fq fk (ix2 b R) = 1#1)
    (b : Fin 8) (R j : Fin 2048) : IntOp.cmpi .sge (pos (ix2 b R)) (pos (ix2 b j)) = BitVec.ofBool (decide (j.val ≤ R.val)) := by
  have hR := h b R
  have hj := h b j
  rw [conditions_apply] at hR hj
  simp only [IntOp.andi_eq_one] at hR hj
  obtain ⟨⟨⟨⟨e1, h0⟩, h1⟩, -⟩, -⟩ := hR
  obtain ⟨⟨⟨⟨e2, -⟩, -⟩, -⟩, -⟩ := hj
  rw [WordCmp.cmpi_eq_eq, WordCmp.ofBool_decide_eq_one_iff] at e1 e2
  rw [WordCmp.cmpi_sge_eq, WordCmp.ofBool_decide_eq_one_iff] at h0
  rw [WordCmp.cmpi_slt_eq, WordCmp.ofBool_decide_eq_one_iff] at h1
  obtain ⟨p, hp, e⟩ : ∃ p : ℕ, p < 1024 ∧ pos (ix2 b 0) = BitVec.ofNat 32 p := by
    refine ⟨(pos (ix2 b 0)).toNat, ?_, (BitVec.ofNat_toNat _ _).symm ▸ by simp⟩
    have z : (0#32 : BitVec 32).toInt = 0 := by decide
    have w : (1024#32 : BitVec 32).toInt = 1024 := by decide
    rw [z] at h0
    rw [w] at h1
    rw [BitVec.toInt_eq_toNat_cond] at h0 h1
    split at h0 <;> omega
  rw [e1, e2, e, ← BitVec.ofNat_add, ← BitVec.ofNat_add, WordCmp.cmpi_sge_ofNat (by norm_num; omega) (by norm_num; omega)]
  congr 1
  simp

/-- The precondition of arrays, read. -/
theorem of_in_order {q k : FVec Ideal S8x2048x16x192 .f32} {v : FVec Ideal S8x2048x16x128 .f32} {g : FVec Ideal S8x2048x2048 .f32}
    {pos : IVec S8x2048 32} {a b : FVec Ideal S192 .f32} (h : fn (F := Ideal) q k v g pos a b = fun _ => 1#1) :
    Finite q ∧ Finite k ∧ ∀ (b : Fin 8) (R j : Fin 2048), IntOp.cmpi .sge (pos (ix2 b R)) (pos (ix2 b j)) = BitVec.ofBool (decide (j.val ≤ R.val)) := by
  rw [fn_eq] at h
  have hc : ∀ (b : Fin 8) (R : Fin 2048), conditions pos (allFinite q) (allFinite k) (ix2 b R) = 1#1 := fun b R => congrFun h _
  have h0 := hc 0 0
  rw [conditions_apply] at h0
  obtain ⟨h0, hk⟩ := IntOp.andi_eq_one.1 h0
  obtain ⟨-, hq⟩ := IntOp.andi_eq_one.1 h0
  exact ⟨finite_of hq, finite_of hk, compare hc⟩

end

end Cert.Proof.AttnA
end
-- ==== Proof.AttnA.lean ====
/-
The claims about branch A's attention.
-/
module

public import proofs.«01_k».proof.Defs
public import proofs.«01_k».proof.Proof.Gen.Kernel
public import proofs.«01_k».proof.Proof.Gen.ReferenceIdeal.Run
public import proofs.«01_k».proof.Proof.AttnVal
public import proofs.«01_k».proof.Proof.AttnPre

@[expose] public section

set_option maxRecDepth 100000

noncomputable section

open Idealize.ShloMosaic Idealize.ShloMosaic.TcCoe Idealize.SL.Sem

namespace Cert.Proof.AttnA

/-- The two copies of the kernel over bits have one body. -/
theorem defs₀_eq : @Cert.Kernel.defs₀ Bits _ _ = @Cert.KernelIdeal.defs₀ Bits _ _ := by
  funext d p s
  cases d with
  | tc =>
    match p, s with
    | ⟨0, _⟩, (t, s) => rfl
    | ⟨_ + 1, h⟩, _ => exact absurd h (Nat.not_lt.2 (Nat.le_add_left _ _))
  | _ => rfl

/-- … and one body table. -/
theorem defs_eq : @Cert.Kernel.defs Bits _ _ = @Cert.KernelIdeal.defs Bits _ _ := by
  unfold Cert.Kernel.defs Cert.KernelIdeal.defs
  exact congrArg _ defs₀_eq

set_option maxHeartbeats 1000000 in
/-- They have one first half of the host program … -/
theorem main_part0_eq : @Cert.Kernel.main_part0 Bits _ _ = @Cert.KernelIdeal.main_part0 Bits _ _ := by
  funext d
  unfold Cert.Kernel.main_part0 Cert.KernelIdeal.main_part0
  rfl

set_option maxHeartbeats 1000000 in
/-- … one second half … -/
theorem main_part1_eq : @Cert.Kernel.main_part1 Bits _ _ = @Cert.KernelIdeal.main_part1 Bits _ _ := by
  funext d
  unfold Cert.Kernel.main_part1 Cert.KernelIdeal.main_part1
  rfl

/-- … and so one host program. -/
theorem main_eq : @Cert.Kernel.main Bits _ _ = @Cert.KernelIdeal.main Bits _ _ := by
  funext d
  unfold Cert.Kernel.main Cert.KernelIdeal.main
  rw [main_part0_eq, main_part1_eq]; rfl

/-- The attention kernel runs to the end, leaves its arguments unchanged and every counter at zero. -/
theorem frame_kernel : Cert.quiescent_Kernel := fun m ρ _ => by
  rw [defs_eq, main_eq]
  exact (θ_run Cert.KernelIdeal.defs _ _).mono (fun _ h => h) (frame (F := Bits) m ρ)

/-- The same of its exact reading. -/
theorem frame_ideal : Cert.quiescent_KernelIdeal := fun m ρ _ => frame m ρ

/-- The same of the reference. -/
theorem frame_reference : Cert.quiescent_ReferenceIdeal := fun m ρ _ =>
  (θ_run Cert.ReferenceIdeal.defs _ _).mono
    (fun r h => ⟨fun c => (h c).2, sem_eq_zero_of_no_sems rfl r.2⟩) (Cert.ReferenceIdeal.Value.run m ρ)

/-- The frames again, under the precondition. -/
theorem frame_ideal_pre : Cert.quiescent_KernelIdeal_pre_in_order := fun m ρ _ => frame m ρ
theorem frame_reference_pre : Cert.quiescent_ReferenceIdeal_pre_in_order := fun m ρ _ =>
  (θ_run Cert.ReferenceIdeal.defs _ _).mono
    (fun r h => ⟨fun c => (h c).2, sem_eq_zero_of_no_sems rfl r.2⟩) (Cert.ReferenceIdeal.Value.run m ρ)

/-- Over the extended reals the attention and the reference end with the same array, for finite queries and keys and
    positions that count up. -/
theorem equal : Cert.algebraic_KernelIdeal_ReferenceIdeal_pre_in_order := by
  intro m ρ m' ρ' hpre hargs
  refine ⟨fun c => (dats m 0 c).arrAt 4 Cert.KernelIdeal.cfg0.N, run_blocks m ρ, ?_⟩
  refine (θ_run Cert.ReferenceIdeal.defs _ _).mono (fun r h c => ⟨(h c).1.trans ?_, (h c).2⟩) (Cert.ReferenceIdeal.Value.run m' ρ')
  obtain ⟨h0, h1, h2, h3, h4, -, -⟩ := hargs c
  obtain ⟨hq, hk, hp⟩ := of_in_order (hpre c)
  rw [reference_eq, h0, h1, h2, h3, h4]
  exact (final m c hq hk _ (reference_value hq hk hp _ _)).symm

end Cert.Proof.AttnA

end
-- ==== Proof.OutProjVal.lean ====
/-
The output projection: what each grid point's block product leaves in the result array, and that it is the
reference's residual plus matrix product.
-/
module

public import proofs.«01_k».proof.Proof.Gen.OutProjIdeal.Frame
public import proofs.«01_k».proof.Proof.Gen.OutProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.OutProj

open Cert.OutProjIdeal Cert.OutProjIdeal.Gen

variable (m : (ℓ : Loc nD τ sig) → Buf (Elt Ideal) ℓ)

/-- The reference's result over its three arguments: the residual plus the merged branches times the output
    weights, as rows of tokens. -/
abbrev result (X : FVec Ideal Cert.OutProjRefIdeal.S8x2048x4096 .f32) (W : FVec Ideal Cert.OutProjRefIdeal.S4096x4096 .f32)
    (R : FVec Ideal Cert.OutProjRefIdeal.S8x2048x4096 .f32) : FVec Ideal Cert.OutProjRefIdeal.S16384x4096 .f32 :=
  shapeCast _ (addf R (Host.dotGeneral Cert.OutProjRefIdeal.dot_S8x2048x4096_S4096x4096_S8x2048x4096_2_0_01_1_n_n none X W))
    Cert.OutProjRefIdeal.Gen.shapeCasts_S8x2048x4096_S16384x4096

/-- Where each grid point's blocks lie in their arrays. -/
theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- One block's payload at a place: the residual there plus the row times the column. -/
theorem payload_apply (X : FVec Ideal S1024x4096 .bf16) (W : FVec Ideal S4096x1024 .bf16) (R : FVec Ideal S1024x1024 .f32) (r c : Fin 1024) :
    k0_pay1 R X W (ix2 r c) = R (ix2 r c) + ∑ k : Fin 4096, X (ix2 r k) * W (ix2 k c) := by
  pointwise [k0_pay1]

/-- The reference's result at a place, its row of tokens split into batch and position. -/
theorem result_apply (X : FVec Ideal Cert.OutProjRefIdeal.S8x2048x4096 .f32) (W : FVec Ideal Cert.OutProjRefIdeal.S4096x4096 .f32)
    (R : FVec Ideal Cert.OutProjRefIdeal.S8x2048x4096 .f32) (r : Fin 16384) (c : Fin 4096) :
    result X W R (ix2 r c) = R (ix3 ⟨r.val / 2048, by omega⟩ ⟨r.val % 2048, by omega⟩ c)
      + ∑ k : Fin 4096, X (ix3 ⟨r.val / 2048, by omega⟩ ⟨r.val % 2048, by omega⟩ k) * W (ix2 k c) := by
  pointwise [result]

/-- Place `(a, b)` of point `t`'s block of the result is this array index. -/
theorem place (t : Fin cfg0.N) (a b : Fin 1024) : ∃ (r : Fin 16384) (d : Fin 4096), ((cfg0.win 3).blk t).view.emb (ix2 a b) = ix2 r d
    ∧ r.val = 1024 * (grid0.coords t 0).val + a.val ∧ d.val = 1024 * (grid0.coords t 1).val + b.val := by
  have h0 : (grid0.coords t 0).val < 16 := (grid0.coords t 0).isLt
  have h1 : (grid0.coords t 1).val < 4 := (grid0.coords t 1).isLt
  refine ⟨⟨1024 * (grid0.coords t 0).val + a.val, by omega⟩, ⟨1024 * (grid0.coords t 1).val + b.val, by omega⟩, ?_, rfl, rfl⟩
  blk_ext [idx t]

/-- What the body stores at place `y` of point `t`'s block is the reference's result at the array index there. -/
theorem point (c : Dev nD) (t : Fin cfg0.N) (y) : k0_pay1 (iblk m c 2 t) (iblk m c 0 t) (iblk m c 1 t) y
    = result (m ((c : Thread nD τ).loc main_arg0)) (m ((c : Thread nD τ).loc main_arg1)) (m ((c : Thread nD τ).loc main_arg2))
        (((cfg0.win 3).blk t).view.emb y) := by
  obtain ⟨a, b, rfl⟩ : ∃ a b : Fin 1024, y = ix2 a b := ⟨y 0, y 1, eq_ix2 y⟩
  obtain ⟨r, d, e, hr, hd⟩ := place t a b
  rw [e]
  refine (payload_apply _ _ _ a b).trans (Eq.trans ?_ (result_apply _ _ _ r d).symm)
  blk_point [iblk, V, idx t]

/-- The result array after the run is the reference's result. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Proof.OutProj

end
-- ==== Proof.OutProj.lean ====
/-
The claims about the output projection.
-/
module

public import proofs.«01_k».proof.Defs
public import proofs.«01_k».proof.Proof.Gen.OutProj.Frame
public import proofs.«01_k».proof.Proof.OutProjVal

@[expose] public section

noncomputable section

open Idealize.ShloMosaic Idealize.ShloMosaic.TcCoe Idealize.SL.Sem

namespace Cert.Proof.OutProj

/-- The output projection runs to the end, leaves its arguments unchanged and every counter at zero. -/
theorem frame_kernel : Cert.quiescent_OutProj := fun m ρ _ => Cert.OutProj.Gen.frame m ρ

/-- The same of its exact reading. -/
theorem frame_ideal : Cert.quiescent_OutProjIdeal := fun m ρ _ => Cert.OutProjIdeal.Gen.frame m ρ

/-- The same of the reference. -/
theorem frame_reference : Cert.quiescent_OutProjRefIdeal := fun m ρ _ =>
  (θ_run Cert.OutProjRefIdeal.defs _ _).mono
    (fun r h => ⟨fun c => (h c).2, sem_eq_zero_of_no_sems rfl r.2⟩) (Cert.OutProjRefIdeal.Value.run m ρ)

/-- Over the extended reals the output projection and the reference end with the same array. -/
theorem equal : Cert.algebraic_OutProjIdeal_OutProjRefIdeal := by
  pair_intro
  · run_from Cert.OutProjIdeal.Gen.run_main m g
  · hlo_run
    exact (final m c).symm

end Cert.Proof.OutProj

end
-- ==== Proof.MergeVal.lean ====
/-
The merge of the two branches: what each grid point leaves in the result array, and that it is the reference's
sum of the two gated products.
-/
module

public import proofs.«01_k».proof.Proof.Gen.MergeIdeal.Frame
public import proofs.«01_k».proof.Proof.Gen.MergeRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Merge

open Cert.MergeIdeal Cert.MergeIdeal.Gen

variable (m : (ℓ : Loc nD τ sig) → Buf (Elt Ideal) ℓ)

/-- The reference's result over its six arguments: each branch times its projection, each scaled by the logistic of
    its merge gate, added; as rows of tokens. -/
abbrev result (A B : FVec Ideal Cert.MergeRefIdeal.S8x2048x2048 .f32) (PA PB : FVec Ideal Cert.MergeRefIdeal.S2048x4096 .f32)
    (GA GB : FVec Ideal Cert.MergeRefIdeal.S8x2048x4096 .f32) : FVec Ideal Cert.MergeRefIdeal.S16384x4096 .bf16 :=
  truncf .bf16 (shapeCast _ (addf (mulf (Host.divf (broadcastInDim Cert.MergeRefIdeal.S8x2048x4096 ![] Cert.MergeRefIdeal.Gen.bcast_S_S8x2048x4096 (constant Cert.MergeRefIdeal.S_ .f32 0x3F800000#32)) (addf (broadcastInDim Cert.MergeRefIdeal.S8x2048x4096 ![] Cert.MergeRefIdeal.Gen.bcast_S_S8x2048x4096 (constant Cert.MergeRefIdeal.S_ .f32 0x3F800000#32)) (Host.exp (Host.negf GA)))) (Host.dotGeneral Cert.MergeRefIdeal.dot_S8x2048x2048_S2048x4096_S8x2048x4096_2_0_01_1_n_n none A PA)) (mulf (Host.divf (broadcastInDim Cert.MergeRefIdeal.S8x2048x4096 ![] Cert.MergeRefIdeal.Gen.bcast_S_S8x2048x4096 (constant Cert.MergeRefIdeal.S_ .f32 0x3F800000#32)) (addf (broadcastInDim Cert.MergeRefIdeal.S8x2048x4096 ![] Cert.MergeRefIdeal.Gen.bcast_S_S8x2048x4096 (constant Cert.MergeRefIdeal.S_ .f32 0x3F800000#32)) (Host.exp (Host.negf GB)))) (Host.dotGeneral Cert.MergeRefIdeal.dot_S8x2048x2048_S2048x4096_S8x2048x4096_2_0_01_1_n_n none B PB))) Cert.MergeRefIdeal.Gen.shapeCasts_S8x2048x4096_S16384x4096) Cert.MergeRefIdeal.Gen.bitsLt_bf16_f32

/-- The reference's result at a place, its row of tokens split into batch and position. -/
theorem result_apply (A B : FVec Ideal Cert.MergeRefIdeal.S8x2048x2048 .f32) (PA PB : FVec Ideal Cert.MergeRefIdeal.S2048x4096 .f32)
    (GA GB : FVec Ideal Cert.MergeRefIdeal.S8x2048x4096 .f32) (r : Fin 16384) (c : Fin 4096) :
    result A B PA PB GA GB (ix2 r c)
      = Ideal.div 1 (1 + Ideal.exp (-GA (ix3 ⟨r.val / 2048, by omega⟩ ⟨r.val % 2048, by omega⟩ c)))
          * ∑ k : Fin 2048, A (ix3 ⟨r.val / 2048, by omega⟩ ⟨r.val % 2048, by omega⟩ k) * PA (ix2 k c)
        + Ideal.div 1 (1 + Ideal.exp (-GB (ix3 ⟨r.val / 2048, by omega⟩ ⟨r.val % 2048, by omega⟩ c)))
          * ∑ k : Fin 2048, B (ix3 ⟨r.val / 2048, by omega⟩ ⟨r.val % 2048, by omega⟩ k) * PB (ix2 k c) := by
  pointwise [result]

/-- One block's payload at a place. -/
theorem payload_apply (A B : FVec Ideal S1024x2048 .bf16) (PA PB : FVec Ideal S2048x1024 .bf16) (GA GB : FVec Ideal S1024x1024 .bf16)
    (r c : Fin 1024) :
    k0_pay1 (F := Ideal) A PA B PB GA GB (ix2 r c)
      = Ideal.div 1 (1 + Ideal.exp (-GA (ix2 r c))) * ∑ k : Fin 2048, A (ix2 r k) * PA (ix2 k c)
        + Ideal.div 1 (1 + Ideal.exp (-GB (ix2 r c))) * ∑ k : Fin 2048, B (ix2 r k) * PB (ix2 k c) := by
  pointwise [k0_pay1]
  rw [zero_sub, zero_sub]

/-- The array that both gates are read from: the two gates side by side, filled up with zeros. -/
abbrev gates (A B : FVec Ideal S8x2048x4096 .f32) : FVec Ideal S16384x18432 .bf16 :=
  truncf .bf16 (pad S16384x18432 ![0, 0] ![0, 10240] ![0, 0]
    (concatenate S16384x8192 1 [⟨S16384x4096, shapeCast S16384x4096 A shapeCasts_S8x2048x4096_S16384x4096⟩, ⟨S16384x4096, shapeCast S16384x4096 B shapeCasts_S8x2048x4096_S16384x4096⟩]
      concatenates_S16384x4096_S16384x4096_S16384x8192_d1)
    (sitofp .f32 (constantI S_ 32 0#32)) pads_S16384x8192_S16384x18432_000_0102400 h_S_) bitsLt_bf16_f32

/-- The gates' array at a column of the first gate. -/
theorem gates_fst (A B : FVec Ideal S8x2048x4096 .f32) (r : Fin 16384) (c : Fin 18432) (h : c.val < 4096) :
    gates A B (ix2 r c) = A (ix3 ⟨r.val / 2048, by omega⟩ ⟨r.val % 2048, by omega⟩ ⟨c.val, h⟩) := by
  pointwise [gates]
  rw [dif_pos (by omega), dif_pos h]

/-- The gates' array at a column of the second gate. -/
theorem gates_snd (A B : FVec Ideal S8x2048x4096 .f32) (r : Fin 16384) (c : Fin 18432) (h : 4096 ≤ c.val) (h' : c.val < 8192) :
    gates A B (ix2 r c) = B (ix3 ⟨r.val / 2048, by omega⟩ ⟨r.val % 2048, by omega⟩ ⟨c.val - 4096, by omega⟩) := by
  pointwise [gates]
  rw [dif_pos h', dif_neg (by omega)]

/-- The gates' array as the grid finds it. -/
theorem entry_gates (c : Dev nD) : V m c main_v4 = gates (m ((c : Thread nD τ).loc main_arg4)) (m ((c : Thread nD τ).loc main_arg5)) := by
  unfold_abbrev_sides
  simp only [List.flatten_cons, List.flatten_nil, List.append_nil, List.cons_append, List.nil_append]
  after_results
  rfl

/-- A branch's array as rows of tokens, at a place. -/
theorem rows_apply (X : FVec Ideal S8x2048x2048 .f32) (r : Fin 16384) (k : Fin 2048) :
    truncf .bf16 (shapeCast S16384x2048 X shapeCasts_S8x2048x2048_S16384x2048 : FVec Ideal S16384x2048 .f32) bitsLt_bf16_f32 (ix2 r k)
      = X (ix3 ⟨r.val / 2048, by omega⟩ ⟨r.val % 2048, by omega⟩ k) := by
  pointwise

/-- The first branch's rows as the grid finds them. -/
theorem entry_v6 (c : Dev nD) : V m c main_v6 = truncf .bf16 (shapeCast S16384x2048 (m ((c : Thread nD τ).loc main_arg0)) shapeCasts_S8x2048x2048_S16384x2048 : FVec Ideal S16384x2048 .f32) bitsLt_bf16_f32 := by
  unfold_abbrev_sides
  simp only [List.flatten_cons, List.flatten_nil, List.append_nil, List.cons_append, List.nil_append]
  after_results
  rfl

/-- The second branch's rows as the grid finds them. -/
theorem entry_v8 (c : Dev nD) : V m c main_v8 = truncf .bf16 (shapeCast S16384x2048 (m ((c : Thread nD τ).loc main_arg1)) shapeCasts_S8x2048x2048_S16384x2048 : FVec Ideal S16384x2048 .f32) bitsLt_bf16_f32 := by
  unfold_abbrev_sides
  simp only [List.flatten_cons, List.flatten_nil, List.append_nil, List.cons_append, List.nil_append]
  after_results
  rfl

/-- The first projection as the grid finds it. -/
theorem entry_v9 (c : Dev nD) (k : Fin 2048) (d : Fin 4096) :
    V m c main_v9 (ix2 k d) = m ((c : Thread nD τ).loc main_arg2) (ix2 k d) := by
  unfold_abbrev_sides
  simp only [List.flatten_cons, List.flatten_nil, List.append_nil, List.cons_append, List.nil_append]
  after_results
  rfl

/-- The second projection as the grid finds it. -/
theorem entry_v10 (c : Dev nD) (k : Fin 2048) (d : Fin 4096) :
    V m c main_v10 (ix2 k d) = m ((c : Thread nD τ).loc main_arg3) (ix2 k d) := by
  unfold_abbrev_sides
  simp only [List.flatten_cons, List.flatten_nil, List.append_nil, List.cons_append, List.nil_append]
  after_results
  rfl

/-- Where each grid point's blocks lie in their arrays. -/
theorem idx : ∀ t : Fin cfg0.N, win0_0.index t = ![(grid0.coords t 0).val, 0] ∧ win0_1.index t = ![(grid0.coords t 0).val, 0]
    ∧ win0_2.index t = ![0, (grid0.coords t 1).val] ∧ win0_3.index t = ![0, (grid0.coords t 1).val]
    ∧ win0_4.index t = ![(grid0.coords t 0).val, (grid0.coords t 1).val] ∧ win0_5.index t = ![(grid0.coords t 0).val, (grid0.coords t 1).val + 4]
    ∧ win0_6.index t = ![(grid0.coords t 0).val, (grid0.coords t 1).val] :=
  (by decide +kernel : ∀ t : Fin grid0.N, _)

/-- Place `(a, b)` of point `t`'s block of the result is this array index. -/
theorem place (t : Fin cfg0.N) (a b : Fin 1024) : ∃ (r : Fin 16384) (d : Fin 4096), ((cfg0.win 6).blk t).view.emb (ix2 a b) = ix2 r d
    ∧ r.val = 1024 * (grid0.coords t 0).val + a.val ∧ d.val = 1024 * (grid0.coords t 1).val + b.val := by
  have h0 : (grid0.coords t 0).val < 16 := (grid0.coords t 0).isLt
  have h1 : (grid0.coords t 1).val < 4 := (grid0.coords t 1).isLt
  refine ⟨⟨1024 * (grid0.coords t 0).val + a.val, by omega⟩, ⟨1024 * (grid0.coords t 1).val + b.val, by omega⟩, ?_, rfl, rfl⟩
  blk_ext [idx t]

/-- The first gate's block at a place, read off the argument. -/
theorem gate_a (c : Dev nD) (t : Fin cfg0.N) (a b : Fin 1024) (r : Fin 16384) (d : Fin 4096)
    (hr : r.val = 1024 * (grid0.coords t 0).val + a.val) (hd : d.val = 1024 * (grid0.coords t 1).val + b.val) :
    iblk m c 4 t (ix2 a b) = m ((c : Thread nD τ).loc main_arg4) (ix3 ⟨r.val / 2048, by omega⟩ ⟨r.val % 2048, by omega⟩ d) := by
  refine Eq.trans ?_ (gates_fst (m ((c : Thread nD τ).loc main_arg4)) (m ((c : Thread nD τ).loc main_arg5)) r ⟨d.val, by omega⟩ d.isLt)
  rw [← entry_gates]
  blk_ext [iblk, idx t]

/-- The second gate's block at a place, read off the argument. -/
theorem gate_b (c : Dev nD) (t : Fin cfg0.N) (a b : Fin 1024) (r : Fin 16384) (d : Fin 4096)
    (hr : r.val = 1024 * (grid0.coords t 0).val + a.val) (hd : d.val = 1024 * (grid0.coords t 1).val + b.val) :
    iblk m c 5 t (ix2 a b) = m ((c : Thread nD τ).loc main_arg5) (ix3 ⟨r.val / 2048, by omega⟩ ⟨r.val % 2048, by omega⟩ d) := by
  have e : d = ⟨4096 + d.val - 4096, by omega⟩ := Fin.ext (by simp)
  rw [e]
  refine Eq.trans ?_ (gates_snd (m ((c : Thread nD τ).loc main_arg4)) (m ((c : Thread nD τ).loc main_arg5)) r ⟨4096 + d.val, by omega⟩ (by simp)
    (by show 4096 + d.val < 8192; omega))
  rw [← entry_gates]
  blk_ext [iblk, idx t]

/-- The first branch's block at a place, read off the argument. -/
theorem rows_a (c : Dev nD) (t : Fin cfg0.N) (a : Fin 1024) (k : Fin 2048) (r : Fin 16384) (hr : r.val = 1024 * (grid0.coords t 0).val + a.val) :
    iblk m c 0 t (ix2 a k) = m ((c : Thread nD τ).loc main_arg0) (ix3 ⟨r.val / 2048, by omega⟩ ⟨r.val % 2048, by omega⟩ k) := by
  have h : V m c main_v6 (ix2 r k) = m ((c : Thread nD τ).loc main_arg0) (ix3 ⟨r.val / 2048, by omega⟩ ⟨r.val % 2048, by omega⟩ k) := by
    exact (congrFun (entry_v6 m c) _).trans (rows_apply _ r k)
  rw [← h]
  blk_ext [iblk, idx t]

/-- The second branch's block at a place, read off the argument. -/
theorem rows_b (c : Dev nD) (t : Fin cfg0.N) (a : Fin 1024) (k : Fin 2048) (r : Fin 16384) (hr : r.val = 1024 * (grid0.coords t 0).val + a.val) :
    iblk m c 1 t (ix2 a k) = m ((c : Thread nD τ).loc main_arg1) (ix3 ⟨r.val / 2048, by omega⟩ ⟨r.val % 2048, by omega⟩ k) := by
  have h : V m c main_v8 (ix2 r k) = m ((c : Thread nD τ).loc main_arg1) (ix3 ⟨r.val / 2048, by omega⟩ ⟨r.val % 2048, by omega⟩ k) := by
    exact (congrFun (entry_v8 m c) _).trans (rows_apply _ r k)
  rw [← h]
  blk_ext [iblk, idx t]

/-- The first projection's block at a place, read off the argument. -/
theorem cols_a (c : Dev nD) (t : Fin cfg0.N) (b : Fin 1024) (k : Fin 2048) (d : Fin 4096) (hd : d.val = 1024 * (grid0.coords t 1).val + b.val) :
    iblk m c 2 t (ix2 k b) = m ((c : Thread nD τ).loc main_arg2) (ix2 k d) := by
  have h : V m c main_v9 (ix2 k d) = m ((c : Thread nD τ).loc main_arg2) (ix2 k d) := by
    exact entry_v9 m c k d
  rw [← h]
  blk_ext [iblk, idx t]

/-- The second projection's block at a place, read off the argument. -/
theorem cols_b (c : Dev nD) (t : Fin cfg0.N) (b : Fin 1024) (k : Fin 2048) (d : Fin 4096) (hd : d.val = 1024 * (grid0.coords t 1).val + b.val) :
    iblk m c 3 t (ix2 k b) = m ((c : Thread nD τ).loc main_arg3) (ix2 k d) := by
  have h : V m c main_v10 (ix2 k d) = m ((c : Thread nD τ).loc main_arg3) (ix2 k d) := by
    exact entry_v10 m c k d
  rw [← h]
  blk_ext [iblk, idx t]

/-- What the body stores at place `y` of point `t`'s block is the reference's result at the array index there. -/
theorem point (c : Dev nD) (t : Fin cfg0.N) (y) :
    k0_pay1 (F := Ideal) (iblk m c 0 t) (iblk m c 2 t) (iblk m c 1 t) (iblk m c 3 t) (iblk m c 4 t) (iblk m c 5 t) y
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb y) := by
  obtain ⟨a, b, rfl⟩ : ∃ a b : Fin 1024, y = ix2 a b := ⟨y 0, y 1, eq_ix2 y⟩
  obtain ⟨r, d, e, hr, hd⟩ := place t a b
  rw [e]
  refine (payload_apply _ _ _ _ _ _ a b).trans (Eq.trans ?_ (result_apply _ _ _ _ _ _ r d).symm)
  exact congrArg₂ (· + ·)
    (congrArg₂ (· * ·) (congrArg (fun z => Ideal.div 1 (1 + Ideal.exp (-z))) (gate_a m c t a b r d hr hd))
      (Finset.sum_congr rfl fun k _ => congrArg₂ (· * ·) (rows_a m c t a k r hr) (cols_a m c t b k d hd)))
    (congrArg₂ (· * ·) (congrArg (fun z => Ideal.div 1 (1 + Ideal.exp (-z))) (gate_b m c t a b r d hr hd))
      (Finset.sum_congr rfl fun k _ => congrArg₂ (· * ·) (rows_b m c t a k r hr) (cols_b m c t b k d hd)))

/-- The result array after the run is the reference's result. -/
theorem final (c : Dev nD) : (dats m 0 c).arrAt 6 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.Proof.Merge

end
-- ==== Proof.Merge.lean ====
/-
The claims about the merge of the branches.
-/
module

public import proofs.«01_k».proof.Defs
public import proofs.«01_k».proof.Proof.Gen.Merge.Frame
public import proofs.«01_k».proof.Proof.MergeVal
public import proofs.«01_k».proof.Proof.Gen.MergeIdeal.Value

@[expose] public section

noncomputable section

open Idealize.ShloMosaic Idealize.ShloMosaic.TcCoe Idealize.SL.Sem

namespace Cert.Proof.Merge

/-- The merge of the branches runs to the end, leaves its arguments unchanged and every counter at zero. -/
theorem frame_kernel : Cert.quiescent_Merge := fun m ρ _ => Cert.Merge.Gen.frame m ρ

/-- The same of its exact reading. -/
theorem frame_ideal : Cert.quiescent_MergeIdeal := fun m ρ _ => Cert.MergeIdeal.Gen.frame m ρ

/-- The same of the reference. -/
theorem frame_reference : Cert.quiescent_MergeRefIdeal := fun m ρ _ =>
  (θ_run Cert.MergeRefIdeal.defs _ _).mono
    (fun r h => ⟨fun c => (h c).2, sem_eq_zero_of_no_sems rfl r.2⟩) (Cert.MergeRefIdeal.Value.run m ρ)

/-- Over the extended reals the merge of the branches and the reference end with the same array. -/
theorem equal : Cert.algebraic_MergeIdeal_MergeRefIdeal := by
  pair_intro
  · run_from Cert.MergeIdeal.Value.run_blocks m g
  · hlo_run
    exact (final m c).symm

end Cert.Proof.Merge

end
-- ==== Proof.InProjRun.lean ====
/-
  The input projection's run. Its body copies blocks of 1024 rows of the input into a scratch buffer itself, one block
  ahead, normalises a block once into a second scratch buffer, and multiplies that one by each block of the weights.
-/
module

public import proofs.«01_k».proof.Proof.Gen.InProjIdeal.Skeleton
public import proofs.«01_k».proof.Proof.Gen.InProjIdeal.Frame
public import Idealize.ShloMosaic.Lib.Transfers
public import Idealize.ShloMosaic.Lib.VecWindow
public import Idealize.ShloMosaic.Lib.WritesUnit
public import Idealize.ShloMosaic.Lib.Pipeline.ValueKit

@[expose] public section

set_option maxRecDepth 16384

noncomputable section

namespace Cert.Proof.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The input as rows of tokens, left in HBM; the block of rows copied in; the block normalised. -/
abbrev xM : Memref sig .tc .hbm S16384x4096 .f32 := Memref.whole main_v0
abbrev bufM : Memref sig .tc .vmem S1024x4096 .f32 := Memref.whole cc0_scratch0
abbrev hnM : Memref sig .tc .vmem S1024x4096 .bf16 := Memref.whole cc0_scratch1

/-- The rectangle of block `n`'s 1024 rows. -/
abbrev rows (n : ℕ) (h : n < 16) : Rect S16384x4096 :=
  Rect.unit (s := S16384x4096) ![1024 * n, 0] S1024x4096.size fun a => by fin_cases a <;> simp <;> omega
/-- Block `n` of the input's rows. -/
abbrev xBlk (n : ℕ) (h : n < 16) : Memref sig .tc .hbm S1024x4096 .f32 := xM.slice (rows n h) fun _ => rfl

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The cell the copies are waited for on. -/
abbrev cell (c : Dev nD) : GSem nD τ sig := ((c : Thread nD τ), SemLoc.dma cc0_scratch2.sem)

/-! ## The normalisation of a block -/

/-- The 64 rows `64 k …` of a block. -/
abbrev chunk (X : Vec F S1024x4096 .f32) (k : ℕ) (h : k < 16) : Vec F S64x4096 .f32 :=
  VecWindow.window X ![64 * k, 0] S64x4096.size fun a => by fin_cases a <;> simp <;> omega

/-- The block `X` normalised with the gains `G`, 64 rows at a time. -/
def normed (X : Vec F S1024x4096 .f32) (G : Vec F S1x4096 .f32) : Vec F S1024x4096 .bf16 := fun y =>
  k0_pay1 (chunk X ((y 0).val / 64) (by have : (y 0).val < 1024 := (y 0).isLt; omega)) G (ix2 ⟨(y 0).val % 64, by omega⟩ (y 1))

section Loop
variable (c : Dev nD) (i : grid0.Coords) (h2 : k0_cond2 i = 1#1)
    (arg3 : Memref sig .tc .vmem S1x4096 .f32) (harg3 : arg3.IsWhole) (arg4 : Memref sig .tc .vmem S1024x4096 .bf16) (harg4 : arg4.IsWhole)
    (arg5 : Memref sig .tc .vmem S1024x1024 .bf16) (harg5 : arg5.IsWhole)
    (fb : Buf (Elt F) (bufM.view.loc (c : Thread nD τ))) (f3 : Buf (Elt F) (arg3.view.loc (c : Thread nD τ)))

/-- Before trip `k` the rows below `64 k` hold the block normalised. -/
def loopAt (k : ℕ) (_ : Unit) : sProp 𝕄 :=
  iprop(pt c bufM fb ∗ (arg3.view.loc (c : Thread nD τ) ↦[arg3.view.set]{fullShare} f3)
    ∗ ∃ fh, pt c hnM fh ∗ ⌜∀ (r : Fin 1024) (d : Fin 4096), r.val < 64 * k →
        hnM.view.read (Elt F) fh (ix2 r d) = normed (bufM.view.read (Elt F) fb) (arg3.view.read (Elt F) f3) (ix2 r d)⌝)

theorem loop_step (k : Fin k0_t1_loop.trips) (acc : Unit) :
    loopAt c arg3 fb f3 k acc ⊢ wp frame (wpE (defs₀ (F := F)) Variants.none (c : Thread nD τ) none) Set.univ
      (k0_t1_body i xM (Memref.isWhole_whole _) arg3 harg3 arg4 harg4 arg5 harg5 bufM (Memref.isWhole_whole _) hnM (Memref.isWhole_whole _) cc0_scratch2 h2 k acc)
      (loopAt c arg3 fb f3 (k.val + 1)) := by
  have hk : k.val < 16 := Nat.lt_of_lt_of_le k.isLt k0_t1_abs.2.1
  unfold loopAt k0_t1_body
  iintro ⟨Hb, H3, ⟨%fh, Hh, %hfh⟩⟩
  sl_exec
  sl_step
  isplitl [Hb]; · iexact Hb
  isplitl [H3]; · iexact H3
  iexists _; isplitl [Hh]; · iexact Hh
  ipureintro
  intro r d hr
  by_cases hlt : r.val < 64 * k.val
  · refine (View.read_writes_cons_unit_of_not_mem _ _ _ _ _ _ (k0_off2_eq k) 0 (.inl hlt)).trans ?_
    exact hfh r d hlt
  · have e : r.val / 64 = k.val := by omega
    refine (View.read_writes_cons_unit_of_mem _ _ _ _ _ _ (ix2 ⟨r.val % 64, by omega⟩ d) (k0_off2_eq k) fun a => ?_).trans ?_
    · fin_cases a
      · show r.val = 64 * k.val + r.val % 64
        omega
      · show d.val = 0 + d.val
        omega
    · rw [View.readAt_full, View.readAt_unit _ _ _ (k0_off2_eq k) (fun a => by fin_cases a <;> simp <;> omega)]
      unfold normed
      have key : ∀ (q : ℕ) (hq : q < 16) (hk : k.val < 16), q = k.val →
          k0_pay1 (chunk (bufM.view.read (Elt F) fb) k.val hk) (arg3.view.read (Elt F) f3) (ix2 ⟨r.val % 64, by omega⟩ d)
            = k0_pay1 (chunk (bufM.view.read (Elt F) fb) q hq) (arg3.view.read (Elt F) f3) (ix2 ⟨r.val % 64, by omega⟩ d) := by
        rintro q hq hk rfl; rfl
      exact key _ _ hk e

/-- The loop's invariant for a run. -/
@[sl_loop, instance_reducible] def loopInv : LoopInv (M := 𝕄) frame (wpE (defs₀ (F := F)) Variants.none (c : Thread nD τ) none) Set.univ k0_t1_loop.lb k0_t1_loop.ub k0_t1_loop.st
    (k0_t1_ok i h2) ⟨⟩
    (k0_t1_body i xM (Memref.isWhole_whole _) arg3 harg3 arg4 harg4 arg5 harg5 bufM (Memref.isWhole_whole _) hnM (Memref.isWhole_whole _) cc0_scratch2 h2) where
  inv := loopAt c arg3 fb f3
  step := loop_step c i h2 arg3 harg3 arg4 harg4 arg5 harg5 fb f3

end Loop

/-! ## The body, by what a grid point does -/

/-- Block `n` of the input `x`. -/
abbrev blockOf (c : Dev nD) (x : Buf (Elt F) (xM.view.loc (c : Thread nD τ))) (n : ℕ) (h : n < 16) : Vec F S1024x4096 .f32 :=
  (xBlk n h).view.read (Elt F) x

/-- The second scratch buffer holds the block `X` normalised. -/
def Normed (c : Dev nD) (X : Vec F S1024x4096 .f32) (G : Vec F S1x4096 .f32) : sProp 𝕄 :=
  iprop(∃ fh, pt c hnM fh ∗ ⌜hnM.view.read (Elt F) fh = normed X G⌝)
/-- No copy is under way: -/
def Idle (c : Dev nD) (x : Buf (Elt F) (xM.view.loc (c : Thread nD τ))) : sProp 𝕄 :=
  iprop((∃ fb, pt c bufM fb) ∗ semVal (cell c) 0 ∗ pt c xM x)
/-- block `n` is being copied into the first scratch buffer. -/
def Flying (c : Dev nD) (x : Buf (Elt F) (xM.view.loc (c : Thread nD τ))) (n : ℕ) (hn : n < 16) : sProp 𝕄 :=
  iprop((∃ fb, Transfers.Flight (countersEmb (U := Pipeline.UD sig nD τ)) (c : Thread nD τ) (SemLoc.dma cc0_scratch2.sem) () 524288
          iprop((bufM.view.loc (c : Thread nD τ) ↦{fullShare} View.write (Elt F) bufM.view fb (ReadAs.same.apply (blockOf c x n hn)) Finset.univ)
            ∗ (xM.view.loc (c : Thread nD τ) ↦[(xBlk n hn).view.set]{fullShare} x)))
      ∗ (xM.view.loc (c : Thread nD τ) ↦[Finset.univ \ (xBlk n hn).view.set]{fullShare} x))

/-- A copy of the 1024 rows from an offset that is block `n`'s is a copy of block `n`. -/
theorem flying_of (c : Dev nD) (x : Buf (Elt F) (xM.view.loc (c : Thread nD τ))) (n : ℕ) (hn : n < 16) (off : Fin 2 → ℕ)
    (h : ∀ a : Fin 2, off a + S1024x4096.size a ≤ S16384x4096.size a) (e : off = ![1024 * n, 0]) (fb : Buf (Elt F) (bufM.view.loc (c : Thread nD τ))) :
    iprop(Transfers.Flight (countersEmb (U := Pipeline.UD sig nD τ)) (c : Thread nD τ) (SemLoc.dma cc0_scratch2.sem) () 524288
          iprop((bufM.view.loc (c : Thread nD τ) ↦{fullShare} View.write (Elt F) bufM.view fb
              (ReadAs.same.apply ((xM.view.slice (Rect.unit (s := S16384x4096) off S1024x4096.size h)).read (Elt F) x)) Finset.univ)
            ∗ (xM.view.loc (c : Thread nD τ) ↦[(xM.view.slice (Rect.unit (s := S16384x4096) off S1024x4096.size h)).set]{fullShare} x))
      ∗ (xM.view.loc (c : Thread nD τ) ↦[Finset.univ \ (xM.view.slice (Rect.unit (s := S16384x4096) off S1024x4096.size h)).set]{fullShare} x))
    ⊢ Flying c x n hn := by
  subst e
  unfold Flying
  iintro ⟨H1, H2⟩
  isplitl [H1]; · iexists fb; iexact H1
  iexact H2

section Body
variable (c : Dev nD) (i : grid0.Coords)
    (arg3 : Memref sig .tc .vmem S1x4096 .f32) (harg3 : arg3.IsWhole) (arg4 : Memref sig .tc .vmem S1024x4096 .bf16) (harg4 : arg4.IsWhole)
    (arg5 : Memref sig .tc .vmem S1024x1024 .bf16) (harg5 : arg5.IsWhole)
    (x : Buf (Elt F) (xM.view.loc (c : Thread nD τ))) (X : Vec F S1024x4096 .f32) (G : Vec F S1x4096 .f32) (w : Vec F S1024x4096 .bf16)
    (W : Waits sig Unit)

/-- After the loop the second scratch buffer reads the block normalised, whole. -/
theorem read_normed (fh : Buf (Elt F) (hnM.view.loc (c : Thread nD τ))) (fb : Buf (Elt F) (bufM.view.loc (c : Thread nD τ))) (d : Vec F S1024x4096 .f32)
    (G' : Vec F S1x4096 .f32) (hG : G' = G)
    (h : ∀ (r : Fin 1024) (e : Fin 4096), r.val < 64 * Scf.trips k0_t1_loop.lb k0_t1_loop.ub k0_t1_loop.st →
      hnM.view.read (Elt F) fh (ix2 r e) = normed (bufM.view.read (Elt F) (View.write (Elt F) bufM.view fb (ReadAs.same.apply d) Finset.univ)) G' (ix2 r e)) :
    hnM.view.read (Elt F) fh = normed d G := by
  subst hG
  funext y
  rw [eq_ix2 y]
  have ht : Scf.trips k0_t1_loop.lb k0_t1_loop.ub k0_t1_loop.st = 16 := by decide
  refine (h (y 0) (y 1) (by have : (y 0).val < 1024 := (y 0).isLt; omega)).trans ?_
  rw [View.read_write_univ]
  first | done | rfl

/-- What a grid point is run from: the windows' buffers and `P`; -/
abbrev Pre (P : sProp 𝕄) : sProp 𝕄 :=
  iprop(owns (c : Thread nD τ) arg3 fullShare G ∗ owns (c : Thread nD τ) arg4 fullShare w ∗ (∃ d, owns (c : Thread nD τ) arg5 fullShare d)
    ∗ P ∗ owes (c : Thread nD τ) 0 W)
/-- what it ends in: the result's buffer holding the product, and `Q`. -/
abbrev Post (Q : sProp 𝕄) : sProp 𝕄 :=
  iprop(owns (c : Thread nD τ) arg3 fullShare G ∗ owns (c : Thread nD τ) arg4 fullShare w ∗ owns (c : Thread nD τ) arg5 fullShare (k0_pay2 (normed X G) w)
    ∗ Q ∗ ∃ W', owes (c : Thread nD τ) 0 W')
/-- The body on these buffers. -/
abbrev body : Prog (TpuEff nD τ sig (Elt F) Λ₀ .tc) PUnit :=
  cc0_in_proj i xM (Memref.isWhole_whole _) arg3 harg3 arg4 harg4 arg5 harg5 bufM (Memref.isWhole_whole _) hnM (Memref.isWhole_whole _) cc0_scratch2

/-- A point that only multiplies. -/
theorem caseD (Kt : PUnit → sProp 𝕄) (h1 : k0_cond1 i ≠ 1#1) (h2 : k0_cond2 i ≠ 1#1) (h3 : k0_cond3 i ≠ 1#1) :
    iprop(Pre c arg3 arg4 arg5 G w W (Normed c X G) ∗ (Post c arg3 arg4 arg5 X G w (Normed c X G) -∗ Kt ⟨⟩))
    ⊢ wp frame (wpE (defs₀ (F := F)) Variants.none c none) Set.univ (body i arg3 harg3 arg4 harg4 arg5 harg5) Kt := by
  unfold body Pre Post Normed
  simp only [cc0_in_proj_eq_skeleton]; unfold cc0_in_proj_skel
  unfold owns
  iintro ⟨⟨⟨%f3, %e3, H3⟩, ⟨%f4, %e4, H4⟩, ⟨%d5, %f5, -, H5⟩, ⟨%fh, Hh, %eh⟩, HW⟩, Hk⟩
  sl_exec
  sl_step
  iapply Hk
  isplitl [H3]; · iexists _; isplitr; swap; · iexact H3
                  ipureintro; exact e3
  isplitl [H4]; · iexists _; isplitr; swap; · iexact H4
                  ipureintro; exact e4
  isplitl [H5]
  · iexists _; isplitr; swap; · iexact H5
    ipureintro
    rw [View.read_writes_full, View.readAt_full, View.readAt_full, eh, e4]
  isplitl [Hh]
  · iexists _; isplitl [Hh]; · iexact Hh
    ipureintro; exact eh
  iexists _; iexact HW

/-- A point that starts the copy of the next block. -/
theorem caseC (Kt : PUnit → sProp 𝕄) (n : ℕ) (hn : n < 16) (e : (i 0).val + 1 = n) (h1 : k0_cond1 i ≠ 1#1) (h2 : k0_cond2 i ≠ 1#1) (h3 : k0_cond3 i = 1#1) :
    iprop(Pre c arg3 arg4 arg5 G w W iprop(Normed c X G ∗ Idle c x)
      ∗ (Post c arg3 arg4 arg5 X G w iprop(Normed c X G ∗ Flying c x n hn) -∗ Kt ⟨⟩))
    ⊢ wp frame (wpE (defs₀ (F := F)) Variants.none c none) Set.univ (body i arg3 harg3 arg4 harg4 arg5 harg5) Kt := by
  subst e
  unfold body Pre Post Normed Idle
  simp only [cc0_in_proj_eq_skeleton]; unfold cc0_in_proj_skel
  unfold owns
  iintro ⟨⟨⟨%f3, %e3, H3⟩, ⟨%f4, %e4, H4⟩, ⟨%d5, %f5, -, H5⟩, ⟨⟨%fh, Hh, %eh⟩, ⟨%fb, Hb⟩, Hs, Hx⟩, HW⟩, Hk⟩
  sl_exec
  sl_step
  iapply Hk
  isplitl [H3]; · iexists _; isplitr; swap; · iexact H3
                  ipureintro; exact e3
  isplitl [H4]; · iexists _; isplitr; swap; · iexact H4
                  ipureintro; exact e4
  isplitl [H5]
  · iexists _; isplitr; swap; · iexact H5
    ipureintro
    rw [View.read_writes_full, View.readAt_full, View.readAt_full, eh, e4]
  isplitr [HW]
  · isplitl [Hh]
    · iexists _; isplitl [Hh]; · iexact Hh
      ipureintro; exact eh
    unfold caseC.sl.dma0
    iapply (flying_of c x ((i 0).val + 1) hn (k0_off3 i) _ ((k0_off3_eq i).trans (by congr 1)) fb)
    isplitl [Hs]; · iexact Hs
    iexact Hx
  iexists _; iexact HW

/-- A point that normalises the block that has been copied. -/
theorem caseB (Kt : PUnit → sProp 𝕄) (n : ℕ) (hn : n < 16) (h1 : k0_cond1 i ≠ 1#1) (h2 : k0_cond2 i = 1#1) (h3 : k0_cond3 i ≠ 1#1) :
    iprop(Pre c arg3 arg4 arg5 G w W iprop((∃ fh, pt c hnM fh) ∗ Flying c x n hn)
      ∗ (Post c arg3 arg4 arg5 (blockOf c x n hn) G w iprop(Normed c (blockOf c x n hn) G ∗ Idle c x) -∗ Kt ⟨⟩))
    ⊢ wp frame (wpE (defs₀ (F := F)) Variants.none c none) Set.univ (body i arg3 harg3 arg4 harg4 arg5 harg5) Kt := by
  unfold body Pre Post Normed Idle Flying
  simp only [cc0_in_proj_eq_skeleton]; unfold cc0_in_proj_skel
  unfold owns
  iintro ⟨⟨⟨%f3, %e3, H3⟩, ⟨%f4, %e4, H4⟩, ⟨%d5, %f5, -, H5⟩, ⟨⟨%fh, Hh⟩, ⟨%fb, Hf⟩, Hx⟩, HW⟩, Hk⟩
  sl_exec
  have eh := read_normed c G _ _ _ _ e3 hL3
  sl_step
  iapply Hk
  isplitl [H3]; · iexists _; isplitr; swap; · iexact H3
                  ipureintro; exact e3
  isplitl [H4]; · iexists _; isplitr; swap; · iexact H4
                  ipureintro; exact e4
  isplitl [H5]
  · iexists _; isplitr; swap; · iexact H5
    ipureintro
    rw [View.read_writes_full, View.readAt_full, View.readAt_full, eh, e4]
  isplitr [HW]
  · isplitl [Hh]
    · iexists _; isplitl [Hh]; · iexact Hh
      ipureintro; exact eh
    isplitl [Hf_dst]; · iexists _; iexact Hf_dst
    isplitl [Hf]; · iexact Hf
    iexact Hx
  iexists _; iexact HW

/-- The first point: it copies the first block and waits for it. -/
theorem caseA (Kt : PUnit → sProp 𝕄) (h1 : k0_cond1 i = 1#1) (h2 : k0_cond2 i = 1#1) (h3 : k0_cond3 i ≠ 1#1) :
    iprop(Pre c arg3 arg4 arg5 G w W iprop((∃ fh, pt c hnM fh) ∗ Idle c x)
      ∗ (Post c arg3 arg4 arg5 (blockOf c x 0 (by decide)) G w iprop(Normed c (blockOf c x 0 (by decide)) G ∗ Idle c x) -∗ Kt ⟨⟩))
    ⊢ wp frame (wpE (defs₀ (F := F)) Variants.none c none) Set.univ (body i arg3 harg3 arg4 harg4 arg5 harg5) Kt := by
  unfold body Pre Post Normed Idle
  simp only [cc0_in_proj_eq_skeleton]; unfold cc0_in_proj_skel
  unfold owns
  iintro ⟨⟨⟨%f3, %e3, H3⟩, ⟨%f4, %e4, H4⟩, ⟨%d5, %f5, -, H5⟩, ⟨⟨%fh, Hh⟩, ⟨%fb, Hb⟩, Hs, Hx⟩, HW⟩, Hk⟩
  sl_exec
  have eh := read_normed c G _ _ _ _ e3 hL3
  sl_step
  iapply Hk
  isplitl [H3]; · iexists _; isplitr; swap; · iexact H3
                  ipureintro; exact e3
  isplitl [H4]; · iexists _; isplitr; swap; · iexact H4
                  ipureintro; exact e4
  isplitl [H5]
  · iexists _; isplitr; swap; · iexact H5
    ipureintro
    rw [View.read_writes_full, View.readAt_full, View.readAt_full, eh, e4]
    rfl
  isplitr [HW]
  · isplitl [Hh]
    · iexists _; isplitl [Hh]; · iexact Hh
      ipureintro; exact eh
    isplitl [Hb]; · iexists _; iexact Hb
    isplitl [Hs]; · iexact Hs
    iexact Hx
  iexists _; iexact HW

end Body

end Cert.Proof.InProj

end
-- ==== Proof.InProjFrame.lean ====
/-
The input projection's frame. The invariant between grid points says which block the second scratch buffer holds
normalised, and whether the next one is being copied.
-/
module

public import proofs.«01_k».proof.Proof.InProjRun

@[expose] public section

set_option maxRecDepth 16384

noncomputable section

namespace Cert.Proof.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the body holds besides the windows -/

/-- The one cell the body's copies are waited for on, and the array they read. -/
abbrev osem0 : Fin 1 → SemLoc sig := fun j => (![SemLoc.dma 5] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal (cell c) 0 := by
  rw [Pipeline.ownSems0_eq_of_list c osem0 [0] (by decide) (by decide)]; rfl
def H0 : Finset (Ref sig .tc) := {main_v0}
theorem H0_sub : H0 ⊆ Pipeline.restRefs sig spec0 := by decide
theorem hbmPts0_eq (c : Dev nD) :
    (bigSep H0 (fun b => ((c : Thread nD τ).loc b) ↦{fullShare} V m c b) : sProp 𝕄) = pt c xM (V m c main_v0) := by
  rw [BI.bigSep_eq_bigSepL_of_eq [main_v0] (by decide) (by decide)]; rfl
theorem PhiD0_eq (c : Dev nD) :
    (Pipeline.ΦD osem0 spec0 H0 (V m) c : sProp 𝕄)
      = iprop(((∃ fb, pt c bufM fb) ∗ (∃ fh, pt c hnM fh)) ∗ (∃ r, prngReg c r) ∗ semVal (cell c) 0 ∗ pt c xM (V m c main_v0)) := by
  rw [Pipeline.ΦD_eq, scopedRest0_eq, ownSems00_eq, hbmPts0_eq]; try rfl

/-! ## The invariant between grid points -/

/-- The input's rows and the gains, as the region finds them. -/
abbrev xOf (c : Dev nD) : Buf (Elt F) (xM.view.loc (c : Thread nD τ)) := V m c main_v0
def gOf (c : Dev nD) : Vec F S1x4096 .f32 := iblk m c 0 ⟨0, by decide⟩
theorem gOf_eq (c : Dev nD) (t : Fin cfg0.N) : iblk m c 0 t = gOf m c := rfl

/-- Point `n`'s block of rows. -/
abbrev xAt (c : Dev nD) (n : ℕ) (h : n < 288) : Vec F S1024x4096 .f32 := blockOf c (xOf m c) (n / 18) (by omega)

/-- After point `n` the next block of rows is being copied, but for the first point of a row of points and the last row. -/
def Rest (c : Dev nD) (n : ℕ) : sProp 𝕄 :=
  if h : 1 ≤ n % 18 ∧ n / 18 + 1 < 16 then Flying c (xOf m c) (n / 18 + 1) h.2 else Idle c (xOf m c)

/-- Before point `n`: at first the scratch buffers are as they are; then the second one holds the last point's block normalised. -/
def PhiS (c : Dev nD) : (n : ℕ) → n ≤ cfg0.N → sProp 𝕄
  | 0, _ => iprop((∃ r, prngReg c r) ∗ (∃ fh, pt c hnM fh) ∗ Idle c (xOf m c))
  | n + 1, h => iprop((∃ r, prngReg c r) ∗ Normed c (xAt m c n h) (gOf m c) ∗ Rest m c n)

/-- What point `t` leaves in the result's buffer. -/
def outAt (c : Dev nD) (t : Fin cfg0.N) : Vec F S1024x1024 .bf16 :=
  k0_pay2 (normed (xAt m c t.val t.isLt) (gOf m c)) (iblk m c 1 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ n := PhiS m c n.val (Nat.lt_succ_iff.1 n.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body's obligation at a point from what it does there, between `P` and `Q`. -/
theorem sound_of (c : Dev nD) (t : Fin cfg0.N) (P Q : sProp 𝕄)
    (hP : PhiS m c t.val t.isLt.le ⊢ iprop((∃ r, prngReg c r) ∗ P)) (hQ : iprop((∃ r, prngReg c r) ∗ Q) ⊢ PhiS m c (t.val + 1) t.isLt)
    (h : ∀ (W : Waits sig Unit) (Kt : PUnit → sProp 𝕄),
      iprop(Pre c (st0_0 t) (st0_1 t) (st0_2 t) (gOf m c) (iblk m c 1 t) W P
        ∗ (Post c (st0_0 t) (st0_1 t) (st0_2 t) (xAt m c t.val t.isLt) (gOf m c) (iblk m c 1 t) Q -∗ Kt ⟨⟩))
      ⊢ wp frame (wpE (defs₀ (F := F)) Variants.none c none) Set.univ (bodyAt0 t) Kt) :
    bodyPre m c t ⊢ wp frame (wpE (defs₀ (F := F)) Variants.none c none) Set.univ (bodyAt0 t) (fun _ => bodyPost m c t) := by
  unfold bodyPre bodyPost
  rw [show (dats m 0 c).Φ t.castSucc = PhiS m c t.val t.isLt.le from rfl, show (dats m 0 c).Φ t.succ = PhiS m c (t.val + 1) t.isLt from rfl,
    after0_0, after0_1, after0_2]
  simp only [before0_0, before0_1, gOf_eq]
  unfold Dat.owesAt Pipeline.owesWithin
  rw [show (dats m 0 c).owed t.castSucc = 0 from rfl, show (dats m 0 c).owed t.succ = 0 from rfl]
  refine .trans (sep_mono_l hP) ?_
  show iprop(((∃ r, prngReg c r) ∗ P) ∗ _) ⊢ _
  iintro ⟨⟨Hg, HP⟩, ⟨%W, -, HW⟩, ⟨%d0, H0⟩, ⟨%d1, H1⟩, ⟨%d2, H2⟩⟩
  iapply (h W _)
  isplitl [H0 H1 H2 HP HW]
  · isplitl [H0]; · iexact H0
    isplitl [H1]; · iexact H1
    isplitl [H2]; · iexists _; iexact H2
    isplitl [HP]; · iexact HP
    iexact HW
  iintro ⟨H0, H1, H2, HQ, ⟨%W', HW'⟩⟩
  isplitl [Hg HQ]
  · iapply hQ
    isplitl [Hg]; · iexact Hg
    iexact HQ
  isplitl [HW']
  · iexists W'; isplitr; · ipureintro; exact fun _ _ => Or.inl trivial
    iexact HW'
  isplitl [H0]; · iexact H0
  isplitl [H1]; · iexact H1
  iexact H2

theorem coords0 : ∀ t : Fin grid0.N, (grid0.coords t 0).val = t.val / 18 := by decide +kernel
theorem cond1 : ∀ t : Fin grid0.N, k0_cond1 (grid0.coords t) = 1#1 ↔ t.val = 0 := by decide +kernel
theorem cond2 : ∀ t : Fin grid0.N, k0_cond2 (grid0.coords t) = 1#1 ↔ t.val % 18 = 0 := by decide +kernel
theorem cond3 : ∀ t : Fin grid0.N, k0_cond3 (grid0.coords t) = 1#1 ↔ t.val % 18 = 1 ∧ t.val / 18 + 1 < 16 := by decide +kernel

theorem Rest_idle (c : Dev nD) (n : ℕ) (h : ¬(1 ≤ n % 18 ∧ n / 18 + 1 < 16)) : Rest m c n = Idle c (xOf m c) := dif_neg h
theorem Rest_flying (c : Dev nD) (n k : ℕ) (hk : k < 16) (h : 1 ≤ n % 18) (e : n / 18 + 1 = k) : Rest m c n = Flying c (xOf m c) k hk := by
  subst e; exact dif_pos ⟨h, hk⟩
theorem Rest_same (c : Dev nD) (n n' : ℕ) (h : n' / 18 = n / 18) (h' : 1 ≤ n % 18) (h'' : 1 ≤ n' % 18) : Rest m c n' = Rest m c n := by
  unfold Rest; simp only [h, h', h'']
theorem xAt_eq (c : Dev nD) (n k : ℕ) (hn : n < 288) (hk : k < 16) (e : n / 18 = k) : xAt m c n hn = blockOf c (xOf m c) k hk := by
  subst e; rfl

theorem PhiS_succ (c : Dev nD) (k n : ℕ) (h : k ≤ cfg0.N) (e : k = n + 1) :
    PhiS m c k h = iprop((∃ r, prngReg c r) ∗ Normed c (xAt m c n (by have h288 : k ≤ 288 := h; omega)) (gOf m c) ∗ Rest m c n) := by subst e; rfl
theorem PhiS_zero (c : Dev nD) (k : ℕ) (h : k ≤ cfg0.N) (e : k = 0) :
    PhiS m c k h = iprop((∃ r, prngReg c r) ∗ (∃ fh, pt c hnM fh) ∗ Idle c (xOf m c)) := by subst e; rfl

section Points
variable (c : Dev nD) (t : Fin cfg0.N)

/-- The first point's obligation. -/
theorem sound_A (h : t.val = 0) :
    bodyPre m c t ⊢ wp frame (wpE (defs₀ (F := F)) Variants.none c none) Set.univ (bodyAt0 t) (fun _ => bodyPost m c t) := by
  refine sound_of m c t iprop((∃ fh, pt c hnM fh) ∗ Idle c (xOf m c))
    iprop(Normed c (xAt m c t.val t.isLt) (gOf m c) ∗ Idle c (xOf m c)) ?_ ?_ fun W Kt => ?_
  · rw [PhiS_zero m c t.val _ h]
  · rw [PhiS_succ m c _ t.val _ rfl, Rest_idle m c t.val (by omega)]
  · rw [xAt_eq m c t.val 0 t.isLt (by decide) (by omega)]
    exact caseA c _ _ (hstage0_0 _) _ (hstage0_1 _) _ (hstage0_2 _) (xOf m c) (gOf m c) (iblk m c 1 t) W Kt ((cond1 t).2 h) ((cond2 t).2 (by omega))
      (fun h => absurd ((cond3 t).1 h).1 (by omega))

variable (n : ℕ) (e : t.val = n + 1)
include e

/-- The obligation of a later row's first point. -/
theorem sound_B (h : t.val % 18 = 0) :
    bodyPre m c t ⊢ wp frame (wpE (defs₀ (F := F)) Variants.none c none) Set.univ (bodyAt0 t) (fun _ => bodyPost m c t) := by
  have ht : t.val < 288 := t.isLt
  obtain ⟨k, hk⟩ : ∃ k, t.val / 18 = k := ⟨_, rfl⟩
  have hk' : k < 16 := by omega
  refine sound_of m c t iprop((∃ fh, pt c hnM fh) ∗ Flying c (xOf m c) k hk')
    iprop(Normed c (xAt m c t.val t.isLt) (gOf m c) ∗ Idle c (xOf m c)) ?_ ?_ fun W Kt => ?_
  · rw [PhiS_succ m c t.val n _ e, Rest_flying m c n k hk' (by omega) (by omega)]
    unfold Normed
    iintro ⟨Hg, ⟨%fh, Hh, -⟩, HR⟩
    isplitl [Hg]; · iexact Hg
    isplitl [Hh]; · iexists fh; iexact Hh
    iexact HR
  · rw [PhiS_succ m c _ t.val _ rfl, Rest_idle m c t.val (by omega)]
  · rw [xAt_eq m c t.val k t.isLt hk' hk]
    exact caseB c _ _ (hstage0_0 _) _ (hstage0_1 _) _ (hstage0_2 _) (xOf m c) (gOf m c) (iblk m c 1 t) W Kt k hk'
      (fun h => absurd ((cond1 t).1 h) (by omega)) ((cond2 t).2 h) (fun h => absurd ((cond3 t).1 h).1 (by omega))

/-- The obligation of a row's second point, but for the last row's. -/
theorem sound_C (h : t.val % 18 = 1) (h' : t.val / 18 + 1 < 16) :
    bodyPre m c t ⊢ wp frame (wpE (defs₀ (F := F)) Variants.none c none) Set.univ (bodyAt0 t) (fun _ => bodyPost m c t) := by
  have ht : t.val < 288 := t.isLt
  obtain ⟨k, hk⟩ : ∃ k, t.val / 18 + 1 = k := ⟨_, rfl⟩
  have hk' : k < 16 := by omega
  refine sound_of m c t iprop(Normed c (xAt m c t.val t.isLt) (gOf m c) ∗ Idle c (xOf m c))
    iprop(Normed c (xAt m c t.val t.isLt) (gOf m c) ∗ Flying c (xOf m c) k hk') ?_ ?_ fun W Kt => ?_
  · rw [PhiS_succ m c t.val n _ e, Rest_idle m c n (by omega), xAt_eq m c n (t.val / 18) _ (by omega) (by omega)]
  · rw [PhiS_succ m c _ t.val _ rfl, Rest_flying m c t.val k hk' (by omega) hk]
  · exact caseC c _ _ (hstage0_0 _) _ (hstage0_1 _) _ (hstage0_2 _) (xOf m c) _ (gOf m c) (iblk m c 1 t) W Kt k hk' ((congrArg (· + 1) (coords0 t)).trans hk)
      (fun h => absurd ((cond1 t).1 h) (by omega)) (fun h => absurd ((cond2 t).1 h) (by omega)) ((cond3 t).2 ⟨h, h'⟩)

/-- Every other point's. -/
theorem sound_D (h : t.val % 18 ≠ 0) (h' : ¬(t.val % 18 = 1 ∧ t.val / 18 + 1 < 16)) :
    bodyPre m c t ⊢ wp frame (wpE (defs₀ (F := F)) Variants.none c none) Set.univ (bodyAt0 t) (fun _ => bodyPost m c t) := by
  have ht : t.val < 288 := t.isLt
  have eR : Rest m c t.val = Rest m c n := by
    by_cases hl : n % 18 = 0
    · rw [Rest_idle m c n (by omega), Rest_idle m c t.val (by omega)]
    · exact Rest_same m c n t.val (by omega) (by omega) (by omega)
  refine sound_of m c t iprop(Normed c (xAt m c t.val t.isLt) (gOf m c) ∗ Rest m c n)
    iprop(Normed c (xAt m c t.val t.isLt) (gOf m c) ∗ Rest m c n) ?_ ?_ fun W Kt => ?_
  · rw [PhiS_succ m c t.val n _ e, xAt_eq m c n (t.val / 18) _ (by omega) (by omega)]
  · rw [PhiS_succ m c _ t.val _ rfl, eR]
  · refine .trans ?_ (caseD c _ _ (hstage0_0 _) _ (hstage0_1 _) _ (hstage0_2 _) (xAt m c t.val t.isLt) (gOf m c) (iblk m c 1 t) W Kt
      (fun h => absurd ((cond1 t).1 h) (by omega)) (fun h' => h ((cond2 t).1 h')) (fun h => h' ((cond3 t).1 h)))
    unfold Pre Post
    iintro ⟨⟨H3, H4, H5, ⟨HN, HR⟩, HW⟩, Hk⟩
    isplitl [H3 H4 H5 HN HW]
    · isplitl [H3]; · iexact H3
      isplitl [H4]; · iexact H4
      isplitl [H5]; · iexact H5
      isplitl [HN]; · iexact HN
      iexact HW
    iintro ⟨H3, H4, H5, HN, HW⟩
    iapply Hk
    isplitl [H3]; · iexact H3
    isplitl [H4]; · iexact H4
    isplitl [H5]; · iexact H5
    isplitr [HW]
    · isplitl [HN]; · iexact HN
      iexact HR
    iexact HW

end Points

/-- The body's obligation at a point, by what the point does. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  · have e : t.val = (t.val - 1) + 1 := by omega
    by_cases h : t.val % 18 = 0
    · exact sound_B m c t _ e h
    · by_cases h' : t.val % 18 = 1 ∧ t.val / 18 + 1 < 16
      · exact sound_C m c t _ e h'.1 h'.2
      · exact sound_D m c t _ e h h'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem inv_in (c : Dev nD) : Pipeline.ΦD osem0 spec0 H0 (V m) c ⊢ (dats m 0 c).Φ 0 := by
  rw [PhiD0_eq]
  show _ ⊢ iprop((∃ r, prngReg c r) ∗ (∃ fh, pt c hnM fh) ∗ Idle c (xOf m c))
  unfold Idle
  iintro ⟨⟨Hb, Hh⟩, Hg, Hs, Hx⟩
  isplitl [Hg]; · iexact Hg
  isplitl [Hh]; · iexact Hh
  isplitl [Hb]; · iexact Hb
  isplitl [Hs]; · iexact Hs
  iexact Hx

theorem inv_out (c : Dev nD) : (dats m 0 c).Φ (Fin.last cfg0.N) ⊢ Pipeline.ΦD osem0 spec0 H0 (V m) c := by
  rw [PhiD0_eq]
  show iprop((∃ r, prngReg c r) ∗ Normed c (xAt m c 287 (by decide)) (gOf m c) ∗ Rest m c 287) ⊢ _
  rw [Rest_idle m c 287 (by decide)]
  unfold Idle Normed
  iintro ⟨Hg, ⟨%fh, Hh, -⟩, Hb, Hs, Hx⟩
  isplitl [Hb Hh]
  · isplitl [Hb]; · iexact Hb
    iexists fh; iexact Hh
  isplitl [Hg]; · iexact Hg
  isplitl [Hs]; · iexact Hs
  iexact Hx

set_option backward.isDefEq.respectTransparency.types false in
/-- The run: every array of the region at its blocks' last contents, every other buffer as it was, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := inv_in m) (hout := inv_out m)

/-- The frame: the three arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Proof.InProj

end
-- ==== Proof.InProjVal.lean ====
/-
The input projection's value: every block of the result is the reference's, the rows normalised by the root of their mean
square, scaled by the gains and multiplied by the weights.
-/
module

public import proofs.«01_k».proof.Proof.InProjFrame
public import proofs.«01_k».proof.Proof.Gen.InProjRefIdeal.Run
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Proof.InProj

open Cert.InProjIdeal Cert.InProjIdeal.Gen

variable (m : (ℓ : Loc nD τ sig) → Buf (Elt Ideal) ℓ) (ρ : Dev nD → PrngReg)

/-- The reference's result over its three arguments: the input normalised, scaled by the gains, times the weights. -/
abbrev result (x : FVec Ideal Cert.InProjRefIdeal.S8x2048x4096 .f32) (g : FVec Ideal Cert.InProjRefIdeal.S4096 .f32)
    (w : FVec Ideal Cert.InProjRefIdeal.S18432x4096 .f32) : FVec Ideal Cert.InProjRefIdeal.S16384x18432 .bf16 :=
  truncf .bf16 (shapeCast _ (Host.dotGeneral Cert.InProjRefIdeal.dot_S8x2048x4096_S4096x18432_S8x2048x18432_2_0_01_1_n_n none (mulf (mulf x (broadcastInDim Cert.InProjRefIdeal.S8x2048x4096 ![0, 1, 2] Cert.InProjRefIdeal.Gen.bcast_S8x2048x1_S8x2048x4096_0_1_2 (Host.rsqrt (addf (Host.divf (broadcastInDim Cert.InProjRefIdeal.S8x2048x1 ![0, 1] Cert.InProjRefIdeal.Gen.bcast_S8x2048_S8x2048x1_0_1 (Host.reduceAdd (mulf x x) (constant Cert.InProjRefIdeal.S_ .f32 0x00000000#32) Cert.InProjRefIdeal.Gen.reducesTo_S8x2048x4096_S8x2048_d2 Cert.InProjRefIdeal.Gen.h_S_)) (broadcastInDim Cert.InProjRefIdeal.S8x2048x1 ![] Cert.InProjRefIdeal.Gen.bcast_S_S8x2048x1 (constant Cert.InProjRefIdeal.S_ .f32 0x45800000#32))) (broadcastInDim Cert.InProjRefIdeal.S8x2048x1 ![] Cert.InProjRefIdeal.Gen.bcast_S_S8x2048x1 (constant Cert.InProjRefIdeal.S_ .f32 0x358637BD#32)))))) (broadcastInDim Cert.InProjRefIdeal.S8x2048x4096 ![0, 1, 2] Cert.InProjRefIdeal.Gen.bcast_S1x1x4096_S8x2048x4096_0_1_2 (broadcastInDim Cert.InProjRefIdeal.S1x1x4096 ![2] Cert.InProjRefIdeal.Gen.bcast_S4096_S1x1x4096_2 g))) (transpose Cert.InProjRefIdeal.S4096x18432 [1, 0] w Cert.InProjRefIdeal.Gen.transposes_S18432x4096_S4096x18432_1_0)) Cert.InProjRefIdeal.Gen.shapeCasts_S8x2048x18432_S16384x18432) Cert.InProjRefIdeal.Gen.bitsLt_bf16_f32

/-- A row normalised, at a column: over the row `f` and the gain `g` there. -/
def norm (f : Fin 4096 → EReal) (g : EReal) (d : Fin 4096) : EReal :=
  f d * Ideal.rsqrt (Ideal.div (∑ k : Fin 4096, f k * f k) (Ideal.ofBits .f32 0x45800000#32) + Ideal.ofBits .f32 0x358637BD#32) * g

/-- The reference's result at a place, its row of tokens split into batch and position. -/
theorem result_apply (x : FVec Ideal Cert.InProjRefIdeal.S8x2048x4096 .f32) (g : FVec Ideal Cert.InProjRefIdeal.S4096 .f32)
    (w : FVec Ideal Cert.InProjRefIdeal.S18432x4096 .f32) (r : Fin 16384) (c : Fin 18432) :
    result x g w (ix2 r c) = ∑ d : Fin 4096,
      norm (fun k => x (ix3 ⟨r.val / 2048, by omega⟩ ⟨r.val % 2048, by omega⟩ k)) (g (ix1 d)) d * w (ix2 c d) := by
  unfold norm
  pointwise [result]

/-- 64 rows normalised, at a place. -/
theorem pay1_apply (X : FVec Ideal S64x4096 .f32) (G : FVec Ideal S1x4096 .f32) (r : Fin 64) (d : Fin 4096) :
    k0_pay1 (F := Ideal) X G (ix2 r d) = norm (fun k => X (ix2 r k)) (G (ix2 0 d)) d := by
  unfold norm
  pointwise [k0_pay1]

/-- A block's product at a place. -/
theorem pay2_apply (X : FVec Ideal S1024x4096 .bf16) (W : FVec Ideal S1024x4096 .bf16) (r : Fin 1024) (c : Fin 1024) :
    k0_pay2 (F := Ideal) X W (ix2 r c) = ∑ d : Fin 4096, X (ix2 r d) * W (ix2 c d) := by
  pointwise [k0_pay2]

/-- A block normalised 64 rows at a time, at a place. -/
theorem normed_apply (X : FVec Ideal S1024x4096 .f32) (G : FVec Ideal S1x4096 .f32) (a : Fin 1024) (d : Fin 4096) :
    normed (F := Ideal) X G (ix2 a d) = norm (fun k => X (ix2 a k)) (G (ix2 0 d)) d := by
  unfold normed
  refine (pay1_apply _ _ _ _).trans ?_
  refine congrArg (fun f => norm f _ _) (funext fun k => ?_)
  refine congrArg X (funext fun z => Fin.ext ?_)
  fin_cases z
  · simp [Rect.emb, Rect.unit]; omega
  · simp [Rect.emb, Rect.unit]

/-- The input's rows as the grid finds them, -/
theorem entry_v0 (c : Dev nD) : V m c main_v0 = (shapeCast S16384x4096 (m ((c : Thread nD τ).loc main_arg0)) shapeCasts_S8x2048x4096_S16384x4096 : FVec Ideal S16384x4096 .f32) := by
  unfold_abbrev_sides
  after_results
  rfl
/-- the weights, -/
theorem entry_v1 (c : Dev nD) (k : Fin 18432) (d : Fin 4096) : V m c main_v1 (ix2 k d) = m ((c : Thread nD τ).loc main_arg2) (ix2 k d) := by
  unfold_abbrev_sides
  after_results
  rfl
/-- the gains. -/
theorem entry_v2 (c : Dev nD) : V m c main_v2 = (shapeCast S1x4096 (m ((c : Thread nD τ).loc main_arg1)) shapeCasts_S4096_S1x4096 : FVec Ideal S1x4096 .f32) := by
  unfold_abbrev_sides
  after_results
  rfl

theorem rows_apply (X : FVec Ideal S8x2048x4096 .f32) (r : Fin 16384) (k : Fin 4096) :
    (shapeCast S16384x4096 X shapeCasts_S8x2048x4096_S16384x4096 : FVec Ideal S16384x4096 .f32) (ix2 r k)
      = X (ix3 ⟨r.val / 2048, by omega⟩ ⟨r.val % 2048, by omega⟩ k) := by
  pointwise
theorem gains_apply (G : FVec Ideal S4096 .f32) (d : Fin 4096) :
    (shapeCast S1x4096 G shapeCasts_S4096_S1x4096 : FVec Ideal S1x4096 .f32) (ix2 0 d) = G (ix1 d) := by
  pointwise

/-- Where each grid point's blocks lie in their arrays. -/
theorem idx : ∀ t : Fin cfg0.N, win0_0.index t = ![0, 0] ∧ win0_1.index t = ![t.val % 18, 0] ∧ win0_2.index t = ![t.val / 18, t.val % 18] :=
  (by decide +kernel : ∀ t : Fin grid0.N, _)

/-- Place `(a, b)` of point `t`'s block of the result is this array index. -/
theorem place (t : Fin cfg0.N) (a : Fin 1024) (b : Fin 1024) : ∃ (r : Fin 16384) (d : Fin 18432), ((cfg0.win 2).blk t).view.emb (ix2 a b) = ix2 r d
    ∧ r.val = 1024 * (t.val / 18) + a.val ∧ d.val = 1024 * (t.val % 18) + b.val := by
  have ht : t.val < 288 := t.isLt
  refine ⟨⟨1024 * (t.val / 18) + a.val, by omega⟩, ⟨1024 * (t.val % 18) + b.val, by omega⟩, ?_, rfl, rfl⟩
  blk_ext [idx t]

/-- The gains at a place, read off the argument. -/
theorem gains_at (c : Dev nD) (d : Fin 4096) : gOf m c (ix2 0 d) = m ((c : Thread nD τ).loc main_arg1) (ix1 d) := by
  have h : V m c main_v2 (ix2 0 d) = m ((c : Thread nD τ).loc main_arg1) (ix1 d) := (congrFun (entry_v2 m c) _).trans (gains_apply _ d)
  rw [← h]
  have e : ∀ t : Fin cfg0.N, iblk m c 0 t (ix2 0 d) = V m c main_v2 (ix2 0 d) := fun t => by blk_ext [iblk, idx t]
  exact e ⟨0, by decide⟩

/-- The weights' block at a place, read off the argument. -/
theorem weights_at (c : Dev nD) (t : Fin cfg0.N) (b : Fin 1024) (k : Fin 4096) (d : Fin 18432) (hd : d.val = 1024 * (t.val % 18) + b.val) :
    iblk m c 1 t (ix2 b k) = m ((c : Thread nD τ).loc main_arg2) (ix2 d k) := by
  have h : V m c main_v1 (ix2 d k) = m ((c : Thread nD τ).loc main_arg2) (ix2 d k) := entry_v1 m c d k
  rw [← h]
  blk_ext [iblk, idx t]

/-- Block `n` of an array of rows, at a place. -/
theorem block_apply (c : Dev nD) (x : FVec Ideal S16384x4096 .f32) (n : ℕ) (hn : n < 16) (a : Fin 1024) (k : Fin 4096) (r : Fin 16384) (hr : r.val = 1024 * n + a.val) :
    blockOf (F := Ideal) c x n hn (ix2 a k) = x (ix2 r k) := by
  refine congrArg x (funext fun z => Fin.ext ?_)
  refine (ValueKit.rect_emb_unit_val _ _ _ _ _).trans ?_
  fin_cases z
  · exact hr.symm
  · exact Nat.zero_add _

/-- The input's block at a place, read off the argument. -/
theorem rows_at (c : Dev nD) (t : Fin cfg0.N) (a : Fin 1024) (k : Fin 4096) (r : Fin 16384) (hr : r.val = 1024 * (t.val / 18) + a.val) :
    xAt m c t.val t.isLt (ix2 a k) = m ((c : Thread nD τ).loc main_arg0) (ix3 ⟨r.val / 2048, by omega⟩ ⟨r.val % 2048, by omega⟩ k) := by
  have h : V m c main_v0 (ix2 r k) = m ((c : Thread nD τ).loc main_arg0) (ix3 ⟨r.val / 2048, by omega⟩ ⟨r.val % 2048, by omega⟩ k) :=
    (congrFun (entry_v0 m c) _).trans (rows_apply _ r k)
  exact (block_apply c _ (t.val / 18) _ a k r hr).trans h

/-- What the body stores at place `y` of point `t`'s block is the reference's result at the array index there. -/
theorem point (c : Dev nD) (t : Fin cfg0.N) (y) : outAt m c t y
    = result (m ((c : Thread nD τ).loc main_arg0)) (m ((c : Thread nD τ).loc main_arg1)) (m ((c : Thread nD τ).loc main_arg2))
        (((cfg0.win 2).blk t).view.emb y) := by
  obtain ⟨a, b, rfl⟩ : ∃ (a : Fin 1024) (b : Fin 1024), y = ix2 a b := ⟨y 0, y 1, eq_ix2 y⟩
  obtain ⟨r, d, e, hr, hd⟩ := place t a b
  rw [e]
  unfold outAt
  refine (pay2_apply _ _ a b).trans (Eq.trans ?_ (result_apply _ _ _ r d).symm)
  refine Finset.sum_congr rfl fun k _ => congrArg₂ (· * ·) ?_ (weights_at m c t b k d hd)
  refine (normed_apply _ _ a k).trans ?_
  rw [gains_at]
  exact congrArg (fun f => norm f _ k) (funext fun j => rows_at m c t a j r hr)

/-- The result array after the run is the reference's result. -/
theorem final (c : Dev nD) : (dats m 0 c).arrAt 2 (cfgs 0).N
    = result (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  exact point m c t y

/-- The run with the result array named. -/
theorem run_blocks : θ_run defs (onTc (τ := τ) (main (F := Ideal))) ⟨m, fun _ => 0, ρ⟩ fun r => ∀ c : Dev nD,
      r.2.mem ((c : Thread nD τ).loc main_v3) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 2, ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

end Cert.Proof.InProj

end
-- ==== Proof.InProj.lean ====
/-
The claims about the input projection.
-/
module

public import proofs.«01_k».proof.Defs
public import proofs.«01_k».proof.Proof.Gen.InProj
public import proofs.«01_k».proof.Proof.InProjVal

@[expose] public section

set_option maxRecDepth 100000

noncomputable section

open Idealize.ShloMosaic Idealize.ShloMosaic.TcCoe Idealize.SL.Sem

namespace Cert.Proof.InProj

/-- The kernel's bodies are those of its exact reading. -/
theorem defs₀_eq : @Cert.InProj.defs₀ Bits _ _ = @Cert.InProjIdeal.defs₀ Bits _ _ := by
  funext d p s
  cases d with
  | tc => exact (match p, s with | ⟨0, _⟩, (t, s) => rfl | ⟨_ + 1, h⟩, _ => absurd h (Nat.not_lt.2 (Nat.le_add_left _ _)))
  | _ => rfl

theorem defs_eq : @Cert.InProj.defs Bits _ _ = @Cert.InProjIdeal.defs Bits _ _ := by
  unfold Cert.InProj.defs Cert.InProjIdeal.defs
  exact congrArg _ defs₀_eq

set_option maxHeartbeats 1000000 in
theorem main_eq : @Cert.InProj.main Bits _ _ = @Cert.InProjIdeal.main Bits _ _ := rfl

/-- The input projection runs to the end, leaves its arguments unchanged and every counter at zero. -/
theorem frame_kernel : Cert.quiescent_InProj := fun m ρ _ => by
  rw [defs_eq, main_eq]
  exact (θ_run Cert.InProjIdeal.defs _ _).mono (fun _ h => h) (frame (F := Bits) m ρ)

/-- The same of its exact reading. -/
theorem frame_ideal : Cert.quiescent_InProjIdeal := fun m ρ _ => frame m ρ

/-- The same of the reference. -/
theorem frame_reference : Cert.quiescent_InProjRefIdeal := fun m ρ _ =>
  (θ_run Cert.InProjRefIdeal.defs _ _).mono
    (fun r h => ⟨fun c => (h c).2, sem_eq_zero_of_no_sems rfl r.2⟩) (Cert.InProjRefIdeal.Value.run m ρ)

/-- Over the extended reals the input projection and the reference end with the same array. -/
theorem equal : Cert.algebraic_InProjIdeal_InProjRefIdeal := by
  pair_intro
  · run_from run_blocks m g
  · hlo_run
    exact (final m c).symm

end Cert.Proof.InProj

end
-- ==== Proof.Rotary.lean ====
/-
The rotary angles: cosine and sine tables over positions that count up, computed from the first position by the
addition formulas, hold the cosine and sine of each position's own angle.
-/
module

public import proofs.«01_k».proof.Proof.Gen.QaProjIdeal.Frame
public import proofs.«01_k».proof.Proof.AttnLane

@[expose] public section

set_option maxRecDepth 16384

noncomputable section

open Idealize.ShloMosaic Idealize.ShloMosaic.TcCoe Idealize.SL.Sem

namespace Cert.Proof.Rotary

open Cert.QaProjIdeal Cert.QaProjIdeal.Gen

/-- Each row's positions count up by one from a start below 1024. -/
def CountsUp (pos : IVec S8x2048 32) : Prop :=
  ∀ b : Fin 8, ∃ p : ℕ, p < 1024 ∧ ∀ i : Fin 2048, pos (ix2 b i) = BitVec.ofNat 32 (p + i.val)

/-- The 32 frequencies: ten thousand to the power of minus the index over 32. -/
abbrev freqs : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- A small natural number's word read as a real number. -/
theorem toInt_ofNat {n : ℕ} (h : n < 2147483648) : (((BitVec.ofNat 32 n).toInt : ℝ) : EReal) = ((n : ℝ) : EReal) := by
  have e : (BitVec.ofNat 32 n).toInt = (n : ℤ) := by
    rw [BitVec.toInt_eq_toNat_cond, BitVec.toNat_ofNat, Nat.mod_eq_of_lt (by norm_num; omega), if_pos (by norm_num; omega)]
  rw [e]
  simp

/-- Each frequency is a real number. -/
theorem freqs_real (j : Fin 32) : ∃ w : ℝ, freqs (ix1 j) = (w : EReal) := by
  have a : Ideal.ofBits .f32 0x461C4000#32 = ((10000 : ℝ) : EReal) := by
    simp [Ideal.ofBits, Ideal.ieee]
    rw [← EReal.coe_mul]; norm_num
  have b : Ideal.ofBits .f32 0x42000000#32 = ((32 : ℝ) : EReal) := by
    simp [Ideal.ofBits, Ideal.ieee]
    rw [← EReal.coe_mul]; norm_num
  refine ⟨(10000 : ℝ) ^ (-(j.val : ℝ) * (1 / 32)), ?_⟩
  pointwise [freqs]
  show Ideal.pow _ (Ideal.div (-(((BitVec.ofNat 32 j.val).toInt : ℝ) : EReal)) _) = _
  rw [a, b, toInt_ofNat (by have := j.isLt; omega), ← EReal.coe_neg, Ideal.div_coe (by norm_num), ← EReal.coe_mul]
  rfl

/-- The angles of the first positions, -/
abbrev firstAngles (pos : IVec S8x2048 32) : FVec Ideal S8x1x32 .f32 :=
  mulf (broadcastInDim S8x1x32 ![0, 1, 2] bcast_S8x1x1_S8x1x32_0_1_2 (sitofp .f32 (broadcastInDim S8x1x1 ![0, 1] bcast_S8x1_S8x1x1_0_1
      (extractStridedSlice S8x1 ![0, 0] pos slices_S8x2048_S8x1_0_0))))
    (broadcastInDim S8x1x32 ![0, 1, 2] bcast_S1x1x32_S8x1x32_0_1_2 (broadcastInDim S1x1x32 ![2] bcast_S32_S1x1x32_2 freqs))
/-- and the angles of the indices. -/
abbrev indexAngles : FVec Ideal S1x2048x32 .f32 :=
  mulf (broadcastInDim S1x2048x32 ![0, 1, 2] bcast_S1x2048x1_S1x2048x32_0_1_2 (broadcastInDim S1x2048x1 ![1] bcast_S2048_S1x2048x1_1
      (sitofp .f32 (iotaInDim S2048 32 0))))
    (broadcastInDim S1x2048x32 ![0, 1, 2] bcast_S1x1x32_S1x2048x32_0_1_2 (broadcastInDim S1x1x32 ![2] bcast_S32_S1x1x32_2 freqs))

/-- A table over the first positions times a table over the indices. -/
abbrev outer (a : FVec Ideal S8x1x32 .f32) (b : FVec Ideal S1x2048x32 .f32) : FVec Ideal S8x2048x32 .f32 :=
  mulf (broadcastInDim S8x2048x32 ![0, 1, 2] bcast_S8x1x32_S8x2048x32_0_1_2 a) (broadcastInDim S8x2048x32 ![0, 1, 2] bcast_S1x2048x32_S8x2048x32_0_1_2 b)

/-- The cosines, -/
abbrev cosines (pos : IVec S8x2048 32) : FVec Ideal S8x2048x32 .f32 :=
  subf (outer (Host.cos (firstAngles pos)) (Host.cos indexAngles)) (outer (Host.sin (firstAngles pos)) (Host.sin indexAngles))
/-- and the sines, by the addition formulas. -/
abbrev sines (pos : IVec S8x2048 32) : FVec Ideal S8x2048x32 .f32 :=
  addf (outer (Host.sin (firstAngles pos)) (Host.cos indexAngles)) (outer (Host.cos (firstAngles pos)) (Host.sin indexAngles))

theorem firstAngles_apply (pos : IVec S8x2048 32) (b : Fin 8) (j : Fin 32) :
    firstAngles pos (ix3 b 0 j) = (((pos (ix2 b 0)).toInt : ℝ) : EReal) * freqs (ix1 j) := by
  unfold firstAngles
  generalize freqs = f
  pointwise
  rfl

theorem indexAngles_apply (i : Fin 2048) (j : Fin 32) :
    indexAngles (ix3 0 i j) = (((BitVec.ofNat 32 i.val).toInt : ℝ) : EReal) * freqs (ix1 j) := by
  unfold indexAngles
  generalize freqs = f
  pointwise
  rfl

theorem cosines_apply (pos : IVec S8x2048 32) (b : Fin 8) (i : Fin 2048) (j : Fin 32) :
    cosines pos (ix3 b i j) = Ideal.cos (firstAngles pos (ix3 b 0 j)) * Ideal.cos (indexAngles (ix3 0 i j))
      - Ideal.sin (firstAngles pos (ix3 b 0 j)) * Ideal.sin (indexAngles (ix3 0 i j)) := by
  unfold cosines
  generalize firstAngles pos = x
  generalize indexAngles = y
  pointwise

theorem sines_apply (pos : IVec S8x2048 32) (b : Fin 8) (i : Fin 2048) (j : Fin 32) :
    sines pos (ix3 b i j) = Ideal.sin (firstAngles pos (ix3 b 0 j)) * Ideal.cos (indexAngles (ix3 0 i j))
      + Ideal.cos (firstAngles pos (ix3 b 0 j)) * Ideal.sin (indexAngles (ix3 0 i j)) := by
  unfold sines
  generalize firstAngles pos = x
  generalize indexAngles = y
  pointwise

/-- The angle of a position. -/
def angle (pos : IVec S8x2048 32) (b : Fin 8) (i : Fin 2048) (j : Fin 32) : EReal := (((pos (ix2 b i)).toInt : ℝ) : EReal) * freqs (ix1 j)

/-- Over positions that count up, the tables hold each position's own cosine … -/
theorem cosines_eq {pos : IVec S8x2048 32} (h : CountsUp pos) (b : Fin 8) (i : Fin 2048) (j : Fin 32) :
    cosines pos (ix3 b i j) = Ideal.cos (angle pos b i j) := by
  obtain ⟨p, hp, e⟩ := h b
  obtain ⟨w, hw⟩ := freqs_real j
  have hi := i.isLt
  rw [cosines_apply, firstAngles_apply, indexAngles_apply, angle, hw, e, e, toInt_ofNat (by simp; omega), toInt_ofNat (by omega), toInt_ofNat (by omega)]
  simp only [← EReal.coe_mul, Ideal.cos_coe, Ideal.sin_coe, ← EReal.coe_sub]
  rw [← Real.cos_add]
  congr 2
  push_cast
  simp
  ring

/-- … and sine. -/
theorem sines_eq {pos : IVec S8x2048 32} (h : CountsUp pos) (b : Fin 8) (i : Fin 2048) (j : Fin 32) :
    sines pos (ix3 b i j) = Ideal.sin (angle pos b i j) := by
  obtain ⟨p, hp, e⟩ := h b
  obtain ⟨w, hw⟩ := freqs_real j
  have hi := i.isLt
  rw [sines_apply, firstAngles_apply, indexAngles_apply, angle, hw, e, e, toInt_ofNat (by simp; omega), toInt_ofNat (by omega), toInt_ofNat (by omega)]
  simp only [← EReal.coe_mul, Ideal.cos_coe, Ideal.sin_coe, ← EReal.coe_add]
  rw [← Real.sin_add]
  congr 2
  push_cast
  simp
  ring

/-- A table of 32 numbers a token spread over 128 lanes: the first 32 lanes from one table, lanes 64 to 95 from another,
    zeros elsewhere. -/
abbrev spread (a b : FVec Ideal S16384x32 .f32) : FVec Ideal S16384x128 .f32 :=
  concatenate S16384x128 1 [⟨S16384x32, a⟩, ⟨S16384x32, broadcastInDim S16384x32 ![] bcast_S_S16384x32 (constant S_ .f32 0x00000000#32)⟩,
    ⟨S16384x32, b⟩, ⟨S16384x32, broadcastInDim S16384x32 ![] bcast_S_S16384x32 (constant S_ .f32 0x00000000#32)⟩]
    concatenates_S16384x32_S16384x32_S16384x32_S16384x32_S16384x128_d1

theorem spread_low (a b : FVec Ideal S16384x32 .f32) (r : Fin 16384) (j : Fin 32) : spread a b (ix2 r ⟨j.val, by omega⟩) = a (ix2 r j) := by
  have := j.isLt
  pointwise [spread]

theorem spread_high (a b : FVec Ideal S16384x32 .f32) (r : Fin 16384) (j : Fin 32) : spread a b (ix2 r ⟨64 + j.val, by omega⟩) = b (ix2 r j) := by
  have := j.isLt
  pointwise [spread]
  rw [dif_neg (by omega), dif_neg (by omega), dif_pos (by omega)]
  refine congrArg (fun k => b (ix2 r k)) (Fin.ext ?_)
  show 64 + j.val - 32 - 32 = j.val
  omega

/-- The cosines in 128 lanes, -/
abbrev cosLanes (pos : IVec S8x2048 32) : FVec Ideal S16384x128 .f32 :=
  spread (shapeCast S16384x32 (cosines pos) shapeCasts_S8x2048x32_S16384x32) (shapeCast S16384x32 (cosines pos) shapeCasts_S8x2048x32_S16384x32)
/-- and the sines, the first half negated. -/
abbrev sinLanes (pos : IVec S8x2048 32) : FVec Ideal S16384x128 .f32 :=
  spread (Host.negf (shapeCast S16384x32 (sines pos) shapeCasts_S8x2048x32_S16384x32)) (shapeCast S16384x32 (sines pos) shapeCasts_S8x2048x32_S16384x32)

theorem rows_apply (x : FVec Ideal S8x2048x32 .f32) (r : Fin 16384) (j : Fin 32) :
    shapeCast S16384x32 x shapeCasts_S8x2048x32_S16384x32 (ix2 r j) = x (ix3 ⟨r.val / 2048, by omega⟩ ⟨r.val % 2048, by omega⟩ j) := by
  pointwise

theorem negRows_apply (x : FVec Ideal S16384x32 .f32) (r : Fin 16384) (j : Fin 32) : Host.negf x (ix2 r j) = -x (ix2 r j) := by
  pointwise

/-- A token's batch and position. -/
abbrev batch (r : Fin 16384) : Fin 8 := ⟨r.val / 2048, by omega⟩
abbrev place (r : Fin 16384) : Fin 2048 := ⟨r.val % 2048, by omega⟩

section
variable {pos : IVec S8x2048 32} (h : CountsUp pos) (r : Fin 16384) (j : Fin 32)
include h

theorem cos_low : cosLanes pos (ix2 r ⟨j.val, by omega⟩) = Ideal.cos (angle pos (batch r) (place r) j) := by
  rw [cosLanes, spread_low, rows_apply, cosines_eq h]
theorem cos_high : cosLanes pos (ix2 r ⟨64 + j.val, by omega⟩) = Ideal.cos (angle pos (batch r) (place r) j) := by
  rw [cosLanes, spread_high, rows_apply, cosines_eq h]
theorem sin_low : sinLanes pos (ix2 r ⟨j.val, by omega⟩) = -Ideal.sin (angle pos (batch r) (place r) j) := by
  rw [sinLanes, spread_low, negRows_apply, rows_apply, sines_eq h]
theorem sin_high : sinLanes pos (ix2 r ⟨64 + j.val, by omega⟩) = Ideal.sin (angle pos (batch r) (place r) j) := by
  rw [sinLanes, spread_high, rows_apply, sines_eq h]
end

end Cert.Proof.Rotary

end
-- ==== Proof.QaHost.lean ====
/-
The arrays the query projection's grid reads: the latents in their columns of the wide array, the weights and gains in
256 lanes a head, the rotary tables and the row with the shift.
-/
module

public import proofs.«01_k».proof.Proof.Rotary

@[expose] public section

set_option maxRecDepth 16384

noncomputable section

open Idealize.ShloMosaic Idealize.ShloMosaic.TcCoe Idealize.SL.Sem

namespace Cert.Proof.Qa

open Cert.QaProjIdeal Cert.QaProjIdeal.Gen
open Cert.Proof.AttnA (single setRow)

/-- The weights in 256 lanes a head: the first 128 columns, then the halves of the rest each followed by 32 zeros, -/
abbrev wide (w : FVec Ideal S1024x16x192 .f32) : FVec Ideal S1024x16x256 .f32 :=
  concatenate S1024x16x256 2 [⟨S1024x16x128, extractStridedSlice S1024x16x128 ![0, 0, 0] w slices_S1024x16x192_S1024x16x128_0_0_0⟩,
    ⟨S1024x16x128, concatenate S1024x16x128 2
      [⟨S1024x16x32, extractStridedSlice S1024x16x32 ![0, 0, 0] (extractStridedSlice S1024x16x64 ![0, 0, 128] w slices_S1024x16x192_S1024x16x64_0_0_128) slices_S1024x16x64_S1024x16x32_0_0_0⟩,
       ⟨S1024x16x32, broadcastInDim S1024x16x32 ![] bcast_S_S1024x16x32 (constant S_ .f32 0x00000000#32)⟩,
       ⟨S1024x16x32, extractStridedSlice S1024x16x32 ![0, 0, 32] (extractStridedSlice S1024x16x64 ![0, 0, 128] w slices_S1024x16x192_S1024x16x64_0_0_128) slices_S1024x16x64_S1024x16x32_0_0_32⟩,
       ⟨S1024x16x32, broadcastInDim S1024x16x32 ![] bcast_S_S1024x16x32 (constant S_ .f32 0x00000000#32)⟩]
      concatenates_S1024x16x32_S1024x16x32_S1024x16x32_S1024x16x32_S1024x16x128_d2⟩] concatenates_S1024x16x128_S1024x16x128_S1024x16x256_d2
abbrev weights (w : FVec Ideal S1024x3072 .f32) : FVec Ideal S1024x4096 .bf16 :=
  truncf .bf16 (shapeCast S1024x4096 (wide (shapeCast S1024x16x192 w shapeCasts_S1024x3072_S1024x16x192)) shapeCasts_S1024x16x256_S1024x4096) bitsLt_bf16_f32

/-- and the gains, times the queries' factor, -/
abbrev wideGain (g : FVec Ideal S192 .f32) : FVec Ideal S256 .f32 :=
  concatenate S256 0 [⟨S128, extractStridedSlice S128 ![0] g slices_S192_S128_0⟩,
    ⟨S128, concatenate S128 0
      [⟨S32, extractStridedSlice S32 ![0] (extractStridedSlice S64 ![128] g slices_S192_S64_128) slices_S64_S32_0⟩,
       ⟨S32, broadcastInDim S32 ![] bcast_S_S32 (constant S_ .f32 0x00000000#32)⟩,
       ⟨S32, extractStridedSlice S32 ![32] (extractStridedSlice S64 ![128] g slices_S192_S64_128) slices_S64_S32_32⟩,
       ⟨S32, broadcastInDim S32 ![] bcast_S_S32 (constant S_ .f32 0x00000000#32)⟩]
      concatenates_S32_S32_S32_S32_S128_d0⟩] concatenates_S128_S128_S256_d0
abbrev factor : FVec Ideal S_ .f32 :=
  Host.divf (constant S_ .f32 0x3F800000#32) (mulf (Host.sqrt (constant S_ .f32 0x43400000#32)) (Host.log (constant S_ .f32 0x40000000#32)))
abbrev allGains (g : FVec Ideal S192 .f32) : FVec Ideal S1x4096 .f32 :=
  shapeCast S1x4096 (shapeCast S4096 (broadcastInDim S16x256 ![0, 1] bcast_S1x256_S16x256_0_1
    (shapeCast S1x256 (mulf (wideGain g) (broadcastInDim S256 ![] bcast_S_S256 factor)) shapeCasts_S256_S1x256)) shapeCasts_S16x256_S4096) shapeCasts_S4096_S1x4096

/-- and the latents in their columns. -/
abbrev latents (x : FVec Ideal S8x2048x1024 .f32) : FVec Ideal S16384x18432 .bf16 :=
  truncf .bf16 (pad S16384x18432 ![0, 16384] ![0, 1024] ![0, 0] (shapeCast S16384x1024 x shapeCasts_S8x2048x1024_S16384x1024)
    (sitofp .f32 (constantI S_ 32 0#32)) pads_S16384x1024_S16384x18432_000_1638410240 h_S_) bitsLt_bf16_f32

variable (m : (ℓ : Loc nD τ sig) → Buf (Elt Ideal) ℓ)

theorem entry_latents (c : Dev nD) : V m c main_v89 = latents (m ((c : Thread nD τ).loc main_arg0)) := by
  unfold_abbrev_sides
  simp only [List.flatten_cons, List.flatten_nil, List.append_nil, List.cons_append, List.nil_append]
  after_results
  rfl

theorem entry_norm (c : Dev nD) : V m c main_v90 = shapeCast S1x1024 (m ((c : Thread nD τ).loc main_arg2)) shapeCasts_S1024_S1x1024 := by
  unfold_abbrev_sides
  simp only [List.flatten_cons, List.flatten_nil, List.append_nil, List.cons_append, List.nil_append]
  after_results
  rfl

theorem entry_weights (c : Dev nD) : V m c main_v9 = weights (m ((c : Thread nD τ).loc main_arg3)) := by
  unfold_abbrev_sides
  simp only [List.flatten_cons, List.flatten_nil, List.append_nil, List.cons_append, List.nil_append]
  after_results
  rfl

theorem entry_gains (c : Dev nD) : V m c main_v26 = allGains (m ((c : Thread nD τ).loc main_arg4)) := by
  unfold_abbrev_sides
  simp only [List.flatten_cons, List.flatten_nil, List.append_nil, List.cons_append, List.nil_append]
  after_results
  rfl

theorem entry_cos (c : Dev nD) : V m c main_v84 = Rotary.cosLanes (m ((c : Thread nD τ).loc main_arg1)) := by
  unfold_abbrev_sides
  simp only [List.flatten_cons, List.flatten_nil, List.append_nil, List.cons_append, List.nil_append]
  after_results
  rfl

theorem entry_sin (c : Dev nD) : V m c main_v86 = Rotary.sinLanes (m ((c : Thread nD τ).loc main_arg1)) := by
  unfold_abbrev_sides
  simp only [List.flatten_cons, List.flatten_nil, List.append_nil, List.cons_append, List.nil_append]
  after_results
  rfl

/-- The shift: minus 192 times the greatest scaled query gain times the greatest key gain, times 65/64. -/
abbrev shift (gq gk : FVec Ideal S192 .f32) : FVec Ideal S_ .f32 :=
  Host.negf (mulf (mulf (mulf (constant S_ .f32 0x43400000#32)
      (Host.reduce FloatOps.maximumf (Host.absf (mulf (wideGain gq) (broadcastInDim S256 ![] bcast_S_S256 factor))) (constant S_ .f32 0xFF800000#32) reducesTo_S256_S_d0 h_S_))
    (Host.reduce FloatOps.maximumf (Host.absf gk) (constant S_ .f32 0xFF800000#32) reducesTo_S192_S_d0 h_S_)) (constant S_ .f32 0x3F820000#32))

theorem entry_shift (c : Dev nD) : V m c main_v39 = setRow (shift (m ((c : Thread nD τ).loc main_arg4)) (m ((c : Thread nD τ).loc main_arg5))) := by
  unfold_abbrev_sides
  simp only [List.flatten_cons, List.flatten_nil, List.append_nil, List.cons_append, List.nil_append]
  after_results
  rfl

/-! ## By place -/

theorem latents_apply (x : FVec Ideal S8x2048x1024 .f32) (r : Fin 16384) (k : Fin 1024) :
    latents x (ix2 r ⟨16384 + k.val, by omega⟩) = x (ix3 (Rotary.batch r) (Rotary.place r) k) := by
  pointwise [latents]

theorem norm_apply (g : FVec Ideal S1024 .f32) (k : Fin 1024) : shapeCast S1x1024 g shapeCasts_S1024_S1x1024 (ix2 0 k) = g (ix1 k) := by
  pointwise

/-- A head's lane read out of its 192 columns. -/
def pick (f : ℕ → EReal) (d : ℕ) : EReal := AttnA.lane f (single 0) d

theorem pick_eq (f : ℕ → EReal) (d : ℕ) : pick f d = if d < 128 then f d else if d < 160 then f d else if d < 192 then 0 else if d < 224 then f (d - 32) else 0 := by
  unfold pick AttnA.lane single
  by_cases h : d < 128
  · rw [if_pos h, if_pos h]
  · rw [if_neg h, if_neg h]; simp

/-- The lanes' squares sum to the columns' squares. -/
theorem pick_sum (f : ℕ → EReal) : ∑ d : Fin 256, pick f d.val * pick f d.val = ∑ d : Fin 192, f d.val * f d.val := by
  rw [Fin.sum_univ_eq_sum_range (fun d => pick f d * pick f d) 256, Fin.sum_univ_eq_sum_range (fun d => f d * f d) 192]
  exact (AttnA.lane_sum f f 0 0).trans (by simp)

/-- A number times a head's lanes. -/
theorem pick_mul {ι : Type} [Fintype ι] (a : ι → EReal) (f : ι → ℕ → EReal) (d : ℕ) :
    ∑ k, a k * pick (f k) d = pick (fun n => ∑ k, a k * f k n) d := by
  simp only [pick_eq]
  split_ifs <;> simp

theorem pick_split (f : (n : ℕ) → n < 192 → EReal) (d : ℕ) (hd : d < 256) :
    (if h1 : d < 128 then f d (by omega) else if h2 : d - 128 < 32 then f (128 + (d - 128)) (by omega) else if h3 : d - 128 - 32 < 32 then 0
      else if h4 : d - 128 - 32 - 32 < 32 then f (128 + (32 + (d - 128 - 32 - 32))) (by omega) else 0)
      = pick (fun n => if hn : n < 192 then f n hn else 0) d := by
  rw [pick_eq]
  have congr : ∀ {a b : ℕ} (e : a = b) (ha : a < 192) (hb : b < 192), f a ha = f b hb := fun e _ _ => by subst e; rfl
  by_cases h1 : d < 128
  · rw [dif_pos h1, if_pos h1, dif_pos (by omega)]
  rw [dif_neg h1, if_neg h1]
  by_cases h2 : d < 160
  · rw [dif_pos (by omega), if_pos h2, dif_pos (by omega)]
    exact congr (by omega) _ _
  rw [dif_neg (by omega), if_neg h2]
  by_cases h3 : d < 192
  · rw [dif_pos (by omega), if_pos h3]
  rw [dif_neg (by omega), if_neg h3]
  by_cases h4 : d < 224
  · rw [dif_pos (by omega), if_pos h4, dif_pos (by omega)]
    exact congr (by omega) _ _
  · rw [dif_neg (by omega), if_neg h4]

theorem wide_apply (w : FVec Ideal S1024x16x192 .f32) (k : Fin 1024) (h : Fin 16) (d : Fin 256) :
    wide w (ix3 k h d) = pick (fun n => if hn : n < 192 then w (ix3 k h ⟨n, hn⟩) else 0) d.val := by
  refine Eq.trans ?_ (pick_split (fun n hn => w (ix3 k h ⟨n, hn⟩)) d.val d.isLt)
  pointwise [wide]

theorem wideGain_apply (g : FVec Ideal S192 .f32) (d : Fin 256) :
    wideGain g (ix1 d) = pick (fun n => if hn : n < 192 then g (ix1 ⟨n, hn⟩) else 0) d.val := by
  refine Eq.trans ?_ (pick_split (fun n hn => g (ix1 ⟨n, hn⟩)) d.val d.isLt)
  pointwise [wideGain]

/-- The column of head `h`'s number `n`. -/
abbrev column (h : Fin 16) (n : Fin 192) : Fin 3072 := ⟨h.val * 192 + n.val, by omega⟩

theorem columns_apply (w : FVec Ideal S1024x3072 .f32) (k : Fin 1024) (h : Fin 16) (n : Fin 192) :
    shapeCast S1024x16x192 w shapeCasts_S1024x3072_S1024x16x192 (ix3 k h n) = w (ix2 k (column h n)) := by
  pointwise

/-- A weight at a lane. -/
theorem weights_apply (w : FVec Ideal S1024x3072 .f32) (k : Fin 1024) (h : Fin 16) (d : Fin 256) (j : Fin 4096) (hj : j.val = 256 * h.val + d.val) :
    weights w (ix2 k j) = pick (fun n => if hn : n < 192 then w (ix2 k (column h ⟨n, hn⟩)) else 0) d.val := by
  have e1 : weights w (ix2 k j) = wide (shapeCast S1024x16x192 w shapeCasts_S1024x3072_S1024x16x192) (ix3 k ⟨j.val / 256, by omega⟩ ⟨j.val % 256, by omega⟩) := by
    unfold weights
    generalize wide _ = z
    pointwise
  have e2 : (⟨j.val / 256, by omega⟩ : Fin 16) = h := Fin.ext (by show j.val / 256 = h.val; omega)
  have e3 : (⟨j.val % 256, by omega⟩ : Fin 256) = d := Fin.ext (by show j.val % 256 = d.val; omega)
  rw [e1, e2, e3, wide_apply]
  simp only [columns_apply]

/-- A gain at a lane. -/
theorem allGains_apply (g : FVec Ideal S192 .f32) (h : Fin 16) (d : Fin 256) (j : Fin 4096) (hj : j.val = 256 * h.val + d.val) :
    allGains g (ix2 0 j) = pick (fun n => if hn : n < 192 then g (ix1 ⟨n, hn⟩) else 0) d.val * (AttnA.sigma : EReal) := by
  have e1 : allGains g (ix2 0 j) = wideGain g (ix1 ⟨j.val % 256, by omega⟩) * factor ix0 := by
    unfold allGains
    generalize wideGain g = z
    generalize factor = s
    pointwise
  have e3 : (⟨j.val % 256, by omega⟩ : Fin 256) = d := Fin.ext (by show j.val % 256 = d.val; omega)
  rw [e1, e3, wideGain_apply]
  exact congrArg _ (AttnA.scale_apply ix0)

theorem shift_zero (s : FVec Ideal S_ .f32) (d : Fin 128) (h : d.val ≠ 32) : setRow s (ix2 0 d) = 0 := by
  rw [AttnA.setRow_apply, if_neg h]

end Cert.Proof.Qa

end
-- ==== Proof.QaRef.lean ====
/-
The query projection written plainly: its result at a place.
-/
module

public import proofs.«01_k».proof.Proof.Gen.QaProjRefIdeal.Run
public import proofs.«01_k».proof.Proof.QaHost

@[expose] public section

set_option maxRecDepth 16384

noncomputable section

open Idealize.ShloMosaic Idealize.ShloMosaic.TcCoe Idealize.SL.Sem

namespace Cert.Proof.Qa

section
open Cert.QaProjRefIdeal Cert.QaProjRefIdeal.Gen

/-- The number added under a root. -/
abbrev eps : EReal := Ideal.ofBits .f32 0x358637BD#32

variable (x : FVec Ideal S8x2048x1024 .f32) (pos : IVec S8x2048 32) (g : FVec Ideal S1024 .f32) (w : FVec Ideal S1024x3072 .f32) (gq : FVec Ideal S192 .f32)

/-- The latents normed and multiplied by their gains, -/
abbrev normedLatents : FVec Ideal S8x2048x1024 .f32 :=
  mulf (mulf x (broadcastInDim S8x2048x1024 ![0, 1, 2] bcast_S8x2048x1_S8x2048x1024_0_1_2 (Host.rsqrt (addf (Host.divf
      (broadcastInDim S8x2048x1 ![0, 1] bcast_S8x2048_S8x2048x1_0_1 (Host.reduceAdd (mulf x x) (constant S_ .f32 0x00000000#32) reducesTo_S8x2048x1024_S8x2048_d2 h_S_))
      (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- projected to the heads, -/
abbrev projected : FVec Ideal S8x2048x16x192 .f32 :=
  shapeCast _ (Host.dotGeneral dot_S8x2048x1024_S1024x3072_S8x2048x3072_2_0_01_1_n_n none (normedLatents x g) w) shapeCasts_S8x2048x3072_S8x2048x16x192

/-- each head's row normed and multiplied by its gains. -/
abbrev normedHeads (y : FVec Ideal S8x2048x16x192 .f32) : FVec Ideal S8x2048x16x192 .f32 :=
  mulf (mulf y (broadcastInDim S8x2048x16x192 ![0, 1, 2, 3] bcast_S8x2048x16x1_S8x2048x16x192_0_1_2_3 (Host.rsqrt (addf (Host.divf
      (broadcastInDim S8x2048x16x1 ![0, 1, 2] bcast_S8x2048x16_S8x2048x16x1_0_1_2 (Host.reduceAdd (mulf y y) (constant S_ .f32 0x00000000#32) reducesTo_S8x2048x16x192_S8x2048x16_d3 h_S_))
      (broadcastInDim S8x2048x16x1 ![] bcast_S_S8x2048x16x1 (constant S_ .f32 0x43400000#32))) (broadcastInDim S8x2048x16x1 ![] bcast_S_S8x2048x16x1 (constant S_ .f32 0x358637BD#32))))))
    (broadcastInDim S8x2048x16x192 ![0, 1, 2, 3] bcast_S1x1x1x192_S8x2048x16x192_0_1_2_3 (broadcastInDim S1x1x1x192 ![3] bcast_S192_S1x1x1x192_3 gq))

/-- The angles of the positions. -/
abbrev angles : FVec Ideal S8x2048x1x32 .f32 :=
  mulf (broadcastInDim S8x2048x1x32 ![0, 1, 2, 3] bcast_S8x2048x1x1_S8x2048x1x32_0_1_2_3 (broadcastInDim S8x2048x1x1 ![0, 1] bcast_S8x2048_S8x2048x1x1_0_1 (sitofp .f32 pos)))
    (broadcastInDim S8x2048x1x32 ![0, 1, 2, 3] bcast_S1x1x1x32_S8x2048x1x32_0_1_2_3 (broadcastInDim S1x1x1x32 ![3] bcast_S32_S1x1x1x32_3 Rotary.freqs))

/-- The last 64 numbers of a head, as two halves. -/
abbrev firstHalf (n : FVec Ideal S8x2048x16x192 .f32) : FVec Ideal S8x2048x16x32 .f32 :=
  extractStridedSlice S8x2048x16x32 ![0, 0, 0, 0] (extractStridedSlice S8x2048x16x64 ![0, 0, 0, 128] n slices_S8x2048x16x192_S8x2048x16x64_0_0_0_128) slices_S8x2048x16x64_S8x2048x16x32_0_0_0_0
abbrev lastHalf (n : FVec Ideal S8x2048x16x192 .f32) : FVec Ideal S8x2048x16x32 .f32 :=
  extractStridedSlice S8x2048x16x32 ![0, 0, 0, 32] (extractStridedSlice S8x2048x16x64 ![0, 0, 0, 128] n slices_S8x2048x16x192_S8x2048x16x64_0_0_0_128) slices_S8x2048x16x64_S8x2048x16x32_0_0_0_32
/-- A table over positions, for every head. -/
abbrev everyHead (t : FVec Ideal S8x2048x1x32 .f32) : FVec Ideal S8x2048x16x32 .f32 :=
  broadcastInDim S8x2048x16x32 ![0, 1, 2, 3] bcast_S8x2048x1x32_S8x2048x16x32_0_1_2_3 t

/-- The heads with their last 64 numbers turned by the angles. -/
abbrev turned (n : FVec Ideal S8x2048x16x192 .f32) (a : FVec Ideal S8x2048x1x32 .f32) : FVec Ideal S8x2048x16x192 .f32 :=
  concatenate S8x2048x16x192 3 [⟨S8x2048x16x128, extractStridedSlice S8x2048x16x128 ![0, 0, 0, 0] n slices_S8x2048x16x192_S8x2048x16x128_0_0_0_0⟩,
    ⟨S8x2048x16x64, concatenate S8x2048x16x64 3
      [⟨S8x2048x16x32, subf (mulf (firstHalf n) (everyHead (Host.cos a))) (mulf (lastHalf n) (everyHead (Host.sin a)))⟩,
       ⟨S8x2048x16x32, addf (mulf (firstHalf n) (everyHead (Host.sin a))) (mulf (lastHalf n) (everyHead (Host.cos a)))⟩]
      concatenates_S8x2048x16x32_S8x2048x16x32_S8x2048x16x64_d3⟩] concatenates_S8x2048x16x128_S8x2048x16x64_S8x2048x16x192_d3

/-- The reference's result over its arguments. -/
abbrev result : FVec Ideal S8x2048x16x192 .f32 := turned (normedHeads gq (projected x g w)) (angles pos)

theorem reference_eq (m : (ℓ : Loc nD τ sig) → Buf (Elt Ideal) ℓ) (c : Dev nD) : Value.res_main_v57 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-- A normed latent at a place. -/
def latentAt (b : Fin 8) (l : Fin 2048) (k : Fin 1024) : EReal :=
  x (ix3 b l k) * Ideal.rsqrt (Ideal.div (∑ i : Fin 1024, x (ix3 b l i) * x (ix3 b l i)) (Ideal.ofBits .f32 0x44800000#32) + eps) * g (ix1 k)

theorem normedLatents_apply (b : Fin 8) (l : Fin 2048) (k : Fin 1024) : normedLatents x g (ix3 b l k) = latentAt x g b l k := by
  unfold latentAt
  pointwise [normedLatents]

/-- A head's number `n` at a token, -/
def headAt (b : Fin 8) (l : Fin 2048) (h : Fin 16) (n : Fin 192) : EReal := ∑ k : Fin 1024, latentAt x g b l k * w (ix2 k (column h n))

theorem projected_apply' (b : Fin 8) (l : Fin 2048) (h : Fin 16) (n : Fin 192) : projected x g w (ix4 b l h n) = headAt x g w b l h n := by
  unfold headAt
  simp only [← normedLatents_apply]
  unfold projected
  generalize normedLatents x g = z
  pointwise

/-- and normed. -/
def normAt (b : Fin 8) (l : Fin 2048) (h : Fin 16) (n : Fin 192) : EReal :=
  headAt x g w b l h n * Ideal.rsqrt ((∑ i : Fin 192, headAt x g w b l h i * headAt x g w b l h i) * ((1 / 192 : ℝ) : EReal) + eps) * gq (ix1 n)

theorem normedHeads_apply (b : Fin 8) (l : Fin 2048) (h : Fin 16) (n : Fin 192) :
    normedHeads gq (projected x g w) (ix4 b l h n) = normAt x g w gq b l h n := by
  unfold normAt
  rw [← Ideal.div_coe (by norm_num), ← AttnA.ofBits_192]
  simp only [← projected_apply']
  generalize projected x g w = z
  pointwise [normedHeads]

theorem angles_apply (b : Fin 8) (l : Fin 2048) (j : Fin 32) : angles pos (ix4 b l 0 j) = Rotary.angle pos b l j := by
  unfold angles Rotary.angle
  generalize Rotary.freqs = f
  pointwise
  rfl

theorem turned_plain (n : FVec Ideal S8x2048x16x192 .f32) (a : FVec Ideal S8x2048x1x32 .f32) (b : Fin 8) (l : Fin 2048) (h : Fin 16) (d : Fin 128) :
    turned n a (ix4 b l h ⟨d.val, by omega⟩) = n (ix4 b l h ⟨d.val, by omega⟩) := by
  have := d.isLt
  pointwise [turned]

theorem turned_low (n : FVec Ideal S8x2048x16x192 .f32) (a : FVec Ideal S8x2048x1x32 .f32) (b : Fin 8) (l : Fin 2048) (h : Fin 16) (j : Fin 32) :
    turned n a (ix4 b l h ⟨128 + j.val, by omega⟩) = n (ix4 b l h ⟨128 + j.val, by omega⟩) * Ideal.cos (a (ix4 b l 0 j))
      - n (ix4 b l h ⟨160 + j.val, by omega⟩) * Ideal.sin (a (ix4 b l 0 j)) := by
  have := j.isLt
  pointwise [turned]
  rw [show (⟨128 + (32 + j.val), by omega⟩ : Fin 192) = ⟨160 + j.val, by omega⟩ from Fin.ext (by show 128 + (32 + j.val) = 160 + j.val; omega)]

theorem turned_high (n : FVec Ideal S8x2048x16x192 .f32) (a : FVec Ideal S8x2048x1x32 .f32) (b : Fin 8) (l : Fin 2048) (h : Fin 16) (j : Fin 32) :
    turned n a (ix4 b l h ⟨160 + j.val, by omega⟩) = n (ix4 b l h ⟨128 + j.val, by omega⟩) * Ideal.sin (a (ix4 b l 0 j))
      + n (ix4 b l h ⟨160 + j.val, by omega⟩) * Ideal.cos (a (ix4 b l 0 j)) := by
  have := j.isLt
  pointwise [turned]
  rw [dif_neg (by omega), dif_neg (by omega),
    show (⟨128 + (160 + j.val - 128 - 32), by omega⟩ : Fin 192) = ⟨128 + j.val, by omega⟩ from Fin.ext (by show 128 + (160 + j.val - 128 - 32) = 128 + j.val; omega),
    show (⟨128 + (32 + (160 + j.val - 128 - 32)), by omega⟩ : Fin 192) = ⟨160 + j.val, by omega⟩ from
      Fin.ext (by show 128 + (32 + (160 + j.val - 128 - 32)) = 160 + j.val; omega),
    show (⟨160 + j.val - 128 - 32, by omega⟩ : Fin 32) = j from Fin.ext (by show 160 + j.val - 128 - 32 = j.val; omega)]

end

end Cert.Proof.Qa

end
-- ==== Proof.QaBody.lean ====
/-
The query projection's kernel: what it leaves at a place of one block of 512 tokens, head by head.
-/
module

public import proofs.«01_k».proof.Proof.QaRef
public import Idealize.ShloMosaic.Lib.Pipeline.ValueKit

@[expose] public section

set_option maxRecDepth 16384

noncomputable section

open Idealize.ShloMosaic Idealize.ShloMosaic.TcCoe Idealize.SL.Sem

namespace Cert.Proof.Qa

open Cert.QaProjIdeal Cert.QaProjIdeal.Gen

theorem head_slices (h : Fin 16) : S512x4096.Slices ![0, 256 * h.val] S512x256 :=
  ⟨rfl, fun a => by have := h.isLt; fin_cases a <;> simp <;> omega⟩

/-- Lane `d` of head `h`. -/
abbrev lane (h : Fin 16) (d : Fin 256) : Fin 4096 := ⟨256 * h.val + d.val, by omega⟩

/-- One head of the projected rows `y` normed over its lanes and multiplied by its gains. -/
def normed (y : FVec Ideal S512x4096 .f32) (g : FVec Ideal S1x256 .f32) (h : Fin 16) : FVec Ideal S512x256 .f32 :=
  mulf (mulf (extractStridedSlice S512x256 ![0, 256 * h.val] y (head_slices h))
    (broadcastTo S512x256 (rsqrt (addf (mulf (shapeCast S512x1 (multiReduction .add [1] S512
        (mulf (extractStridedSlice S512x256 ![0, 256 * h.val] y (head_slices h)) (extractStridedSlice S512x256 ![0, 256 * h.val] y (head_slices h)))
        0x00000000#32 reduces_S512x256_S512 (.inl rfl) rfl) shapeCasts_S512_S512x1)
      (broadcast S512x1 (Named.named κ "inv_qk_dim" 0x3BAAAAAB#32))) (broadcast S512x1 (Scalar.ofBits .f32 0x358637BD#32)))) broadcasts_S512x1_S512x256))
    (broadcastTo S512x256 (shapeCast S1x256 g shapeCasts_S1x256_S1x256) broadcasts_S1x256_S512x256)

/-- The head's lanes without a rotation, -/
def nope (y : FVec Ideal S512x4096 .f32) (g : FVec Ideal S1x256 .f32) (h : Fin 16) : FVec Ideal S512x128 .bf16 :=
  truncf .bf16 (extractStridedSlice S512x128 ![0, 0] (normed y g h) slices_S512x256_o0_0_S512x128) bitsLt_bf16_f32

/-- and the lanes turned by the angles whose cosines and sines are `c` and `s`. -/
def rope (y : FVec Ideal S512x4096 .f32) (g : FVec Ideal S1x256 .f32) (c s : FVec Ideal S512x128 .f32) (sh : FVec Ideal S1x128 .f32) (h : Fin 16) :
    FVec Ideal S512x128 .bf16 :=
  truncf .bf16 (addf (addf
      (mulf (extractStridedSlice S512x128 ![0, 128] (normed y g h) slices_S512x256_o0_128_S512x128) (shapeCast S512x128 c shapeCasts_S512x128_S512x128))
      (mulf (dynamicRotate 1 64#32 none (extractStridedSlice S512x128 ![0, 128] (normed y g h) slices_S512x256_o0_128_S512x128) rotates_S512x128_d1)
        (shapeCast S512x128 s shapeCasts_S512x128_S512x128)))
    (broadcastTo S512x128 (shapeCast S1x128 sh shapeCasts_S1x128_S1x128) broadcasts_S1x128_S512x128)) bitsLt_bf16_f32

/-- A normed head at a place. -/
theorem normed_apply (y : FVec Ideal S512x4096 .f32) (g : FVec Ideal S1x256 .f32) (h : Fin 16) (a : Fin 512) (d : Fin 256) :
    normed y g h (ix2 a d) = y (ix2 a (lane h d)) * Ideal.rsqrt ((∑ e : Fin 256, y (ix2 a (lane h e)) * y (ix2 a (lane h e))) * ((1 / 192 : ℝ) : EReal) + eps) * g (ix2 0 d) := by
  pointwise [normed]
  rfl

theorem nope_apply (y : FVec Ideal S512x4096 .f32) (g : FVec Ideal S1x256 .f32) (h : Fin 16) (a : Fin 512) (d : Fin 128) :
    nope y g h (ix2 a d) = normed y g h (ix2 a ⟨d.val, by omega⟩) := by
  unfold nope
  generalize normed y g h = z
  pointwise

theorem rope_apply (y : FVec Ideal S512x4096 .f32) (g : FVec Ideal S1x256 .f32) (c s : FVec Ideal S512x128 .f32) (sh : FVec Ideal S1x128 .f32) (h : Fin 16)
    (a : Fin 512) (d : Fin 128) :
    rope y g c s sh h (ix2 a d) = normed y g h (ix2 a ⟨128 + d.val, by omega⟩) * c (ix2 a d)
      + normed y g h (ix2 a ⟨128 + (d.val + 128 - 64) % 128, by omega⟩) * s (ix2 a d) + sh (ix2 0 d) := by
  unfold rope
  generalize normed y g h = z
  pointwise

/-- A projected row's entry: the normed latents times a weight column. -/
theorem projected_apply (x : FVec Ideal S512x1024 .bf16) (g : FVec Ideal S1x1024 .f32) (w : FVec Ideal S1024x4096 .bf16) (a : Fin 512) (j : Fin 4096) :
    k0_pay2 (F := Ideal) x g w (ix2 a j) = ∑ k : Fin 1024, x (ix2 a k) * Ideal.rsqrt (Ideal.div (∑ l : Fin 1024, x (ix2 a l) * x (ix2 a l)) (Ideal.ofBits .f32 0x44800000#32) + eps)
      * g (ix2 0 k) * w (ix2 k j) := by
  pointwise [k0_pay2]

/-- One head's gains out of the array of all heads' gains. -/
abbrev gains (h : Fin 16) : Rect S1x4096 := Rect.unit (s := S1x4096) ![0, 256 * h.val] S1x256.size
  (fun a => by have := h.isLt; fin_cases a <;> simp [Shape.size] <;> omega)

theorem gains_apply (x : FVec Ideal S1x4096 .f32) (h : Fin 16) (d : Fin 256) : View.ld (Val := Elt Ideal) (e' := .f32) x (gains h) (ix2 0 d) = x (ix2 0 (lane h d)) := by
  show x ((gains h).emb (ix2 0 d)) = _
  congr 1
  funext a
  apply Fin.ext
  refine (Rect.emb_apply _ _ a).trans ?_
  fin_cases a <;> simp [lane]

/-- The projected rows of a block, read out of the loaded arrays. -/
abbrev rows (x0 : Vec Ideal S512x1024 .bf16) (x1 : Vec Ideal S1x1024 .f32) (x2 : Vec Ideal S1024x4096 .bf16) : FVec Ideal S512x4096 .f32 :=
  k0_pay2 (View.ld x0 r0_0) (View.ld x1 r0_1) (View.ld x2 r0_2)

/-- What the body leaves in its block, by place. -/
def block (x0 : Vec Ideal S512x1024 .bf16) (x1 : Vec Ideal S1x1024 .f32) (x2 : Vec Ideal S1024x4096 .bf16) (x3 : Vec Ideal S1x4096 .f32)
    (x4 x5 : Vec Ideal S512x128 .f32) (x6 : Vec Ideal S1x128 .f32) (y : S512x4096.Idx) : EReal :=
  if ((y 1).val % 256) < 128 then
    nope (rows x0 x1 x2) (View.ld x3 (gains ⟨(y 1).val / 256, by have : (y 1).val < 4096 := (y 1).isLt; omega⟩)) ⟨(y 1).val / 256, by have : (y 1).val < 4096 := (y 1).isLt; omega⟩
      (ix2 (y 0) ⟨(y 1).val % 128, Nat.mod_lt _ (by decide)⟩)
  else
    rope (rows x0 x1 x2) (View.ld x3 (gains ⟨(y 1).val / 256, by have : (y 1).val < 4096 := (y 1).isLt; omega⟩)) (View.ld x4 r0_5) (View.ld x5 r0_5) (View.ld x6 r0_6)
      ⟨(y 1).val / 256, by have : (y 1).val < 4096 := (y 1).isLt; omega⟩ (ix2 (y 0) ⟨(y 1).val % 128, Nat.mod_lt _ (by decide)⟩)

section
variable (x0 : Vec Ideal S512x1024 .bf16) (x1 : Vec Ideal S1x1024 .f32) (x2 : Vec Ideal S1024x4096 .bf16) (x3 : Vec Ideal S1x4096 .f32)
  (x4 x5 : Vec Ideal S512x128 .f32) (x6 : Vec Ideal S1x128 .f32)

theorem place_fits (o : ℕ) (h : o + 128 ≤ 4096) : ∀ a, (![0, o] : Fin 2 → ℕ) a + S512x128.size a ≤ S512x4096.size a := fun a => by
  fin_cases a <;> simp [Shape.size] <;> omega

/-- The rectangle of 128 lanes from lane `o`. -/
abbrev lanes (o : ℕ) (h : o + 128 ≤ 4096) : Rect S512x4096 := Rect.unit (s := S512x4096) ![0, o] S512x128.size (place_fits o h)

theorem lanes_emb (o : ℕ) (h : o + 128 ≤ 4096) (a : Fin 512) (d : Fin 128) : (lanes o h).emb (ix2 a d) = ix2 a ⟨o + d.val, by omega⟩ := by
  funext k
  apply Fin.ext
  refine (Rect.emb_apply _ _ k).trans ?_
  fin_cases k <;> simp

theorem nope_piece (h : Fin 16) (x : S512x128.Idx) :
    nope (rows x0 x1 x2) (View.ld x3 (gains h)) h x = block x0 x1 x2 x3 x4 x5 x6 ((lanes (256 * h.val) (by omega)).emb x) := by
  obtain ⟨a, d, rfl⟩ : ∃ (a : Fin 512) (d : Fin 128), x = ix2 a d := ⟨x 0, x 1, eq_ix2 x⟩
  rw [lanes_emb]
  unfold block
  have hd := d.isLt
  rw [if_pos (by show (256 * h.val + d.val) % 256 < 128; omega)]
  have e : (⟨(256 * h.val + d.val) / 256, by omega⟩ : Fin 16) = h := Fin.ext (by show (256 * h.val + d.val) / 256 = h.val; omega)
  have e' : (⟨(256 * h.val + d.val) % 128, Nat.mod_lt _ (by decide)⟩ : Fin 128) = d := Fin.ext (by show (256 * h.val + d.val) % 128 = d.val; omega)
  show _ = nope (rows x0 x1 x2) (View.ld x3 (gains ⟨(256 * h.val + d.val) / 256, _⟩)) ⟨(256 * h.val + d.val) / 256, _⟩ (ix2 a ⟨(256 * h.val + d.val) % 128, _⟩)
  rw [e, e']

theorem rope_piece (h : Fin 16) (x : S512x128.Idx) :
    rope (rows x0 x1 x2) (View.ld x3 (gains h)) (View.ld x4 r0_5) (View.ld x5 r0_5) (View.ld x6 r0_6) h x
      = block x0 x1 x2 x3 x4 x5 x6 ((lanes (256 * h.val + 128) (by omega)).emb x) := by
  obtain ⟨a, d, rfl⟩ : ∃ (a : Fin 512) (d : Fin 128), x = ix2 a d := ⟨x 0, x 1, eq_ix2 x⟩
  rw [lanes_emb]
  unfold block
  have hd := d.isLt
  rw [if_neg (by show ¬ (256 * h.val + 128 + d.val) % 256 < 128; omega)]
  have e : (⟨(256 * h.val + 128 + d.val) / 256, by omega⟩ : Fin 16) = h := Fin.ext (by show (256 * h.val + 128 + d.val) / 256 = h.val; omega)
  have e' : (⟨(256 * h.val + 128 + d.val) % 128, Nat.mod_lt _ (by decide)⟩ : Fin 128) = d := Fin.ext (by show (256 * h.val + 128 + d.val) % 128 = d.val; omega)
  show _ = rope (rows x0 x1 x2) (View.ld x3 (gains ⟨(256 * h.val + 128 + d.val) / 256, _⟩)) (View.ld x4 r0_5) (View.ld x5 r0_5) (View.ld x6 r0_6) ⟨(256 * h.val + 128 + d.val) / 256, _⟩ (ix2 a ⟨(256 * h.val + 128 + d.val) % 128, _⟩)
  rw [e, e']

/-- The block the body leaves, by place. -/
theorem out_apply (y : S512x4096.Idx) : out0_7 x0 x1 x2 x3 x4 x5 x6 y = block x0 x1 x2 x3 x4 x5 x6 y := by
  unfold out0_7
  refine View.canon_apply_of_pieces (Val := Elt Ideal) (e := .bf16) (block x0 x1 x2 x3 x4 x5 x6) _ ?_ y (cover0_7 _ _ _ _ _ _ _ _ _ _ _ _ _ _ _ _ _ _ _ _ _ _ _ _ _ _ _ _ _ _ _ _ y)
  simp only [List.forall_mem_cons]
  refine ⟨rope_piece x0 x1 x2 x3 x4 x5 x6 15, nope_piece x0 x1 x2 x3 x4 x5 x6 15, rope_piece x0 x1 x2 x3 x4 x5 x6 14, nope_piece x0 x1 x2 x3 x4 x5 x6 14,
    rope_piece x0 x1 x2 x3 x4 x5 x6 13, nope_piece x0 x1 x2 x3 x4 x5 x6 13, rope_piece x0 x1 x2 x3 x4 x5 x6 12, nope_piece x0 x1 x2 x3 x4 x5 x6 12,
    rope_piece x0 x1 x2 x3 x4 x5 x6 11, nope_piece x0 x1 x2 x3 x4 x5 x6 11, rope_piece x0 x1 x2 x3 x4 x5 x6 10, nope_piece x0 x1 x2 x3 x4 x5 x6 10,
    rope_piece x0 x1 x2 x3 x4 x5 x6 9, nope_piece x0 x1 x2 x3 x4 x5 x6 9, rope_piece x0 x1 x2 x3 x4 x5 x6 8, nope_piece x0 x1 x2 x3 x4 x5 x6 8,
    rope_piece x0 x1 x2 x3 x4 x5 x6 7, nope_piece x0 x1 x2 x3 x4 x5 x6 7, rope_piece x0 x1 x2 x3 x4 x5 x6 6, nope_piece x0 x1 x2 x3 x4 x5 x6 6,
    rope_piece x0 x1 x2 x3 x4 x5 x6 5, nope_piece x0 x1 x2 x3 x4 x5 x6 5, rope_piece x0 x1 x2 x3 x4 x5 x6 4, nope_piece x0 x1 x2 x3 x4 x5 x6 4,
    rope_piece x0 x1 x2 x3 x4 x5 x6 3, nope_piece x0 x1 x2 x3 x4 x5 x6 3, rope_piece x0 x1 x2 x3 x4 x5 x6 2, nope_piece x0 x1 x2 x3 x4 x5 x6 2,
    rope_piece x0 x1 x2 x3 x4 x5 x6 1, nope_piece x0 x1 x2 x3 x4 x5 x6 1, rope_piece x0 x1 x2 x3 x4 x5 x6 0, nope_piece x0 x1 x2 x3 x4 x5 x6 0, ?_⟩
  simp

end

end Cert.Proof.Qa

end
-- ==== Proof.QaVal.lean ====
/-
The query projection: the array its grid leaves, the result the host takes out of it, and that this is the plain
computation's.
-/
module

public import proofs.«01_k».proof.Proof.QaBody

@[expose] public section

set_option maxRecDepth 16384

noncomputable section

open Idealize.ShloMosaic Idealize.ShloMosaic.TcCoe Idealize.SL.Sem
open Idealize.ShloMosaic.Pipeline (Dat)

namespace Cert.Proof.Qa

open Cert.QaProjIdeal Cert.QaProjIdeal.Gen
open Cert.Proof.AttnA (single setRow sigma)
open Cert.Proof.Rotary (batch place)

variable (m : (ℓ : Loc nD τ sig) → Buf (Elt Ideal) ℓ)

section
variable (x : FVec Ideal S8x2048x1024 .f32) (pos : IVec S8x2048 32) (g : FVec Ideal S1024 .f32) (w : FVec Ideal S1024x3072 .f32)
  (gq gk : FVec Ideal S192 .f32)

/-- A head's lane at a token, normed, multiplied by its gain and the queries' factor. -/
def laneAt (r : Fin 16384) (h : Fin 16) (d : ℕ) : EReal :=
  pick (fun n => if hn : n < 192 then headAt x g w (batch r) (place r) h ⟨n, hn⟩ else 0) d
    * Ideal.rsqrt ((∑ i : Fin 192, headAt x g w (batch r) (place r) h i * headAt x g w (batch r) (place r) h i) * ((1 / 192 : ℝ) : EReal) + eps)
    * (pick (fun n => if hn : n < 192 then gq (ix1 ⟨n, hn⟩) else 0) d * (sigma : EReal))

/-- What the grid leaves at lane `d` of head `h`. -/
def lanesAt (r : Fin 16384) (h : Fin 16) (d : ℕ) : EReal :=
  if hd : d < 128 then laneAt x g w gq r h d
  else laneAt x g w gq r h d * Rotary.cosLanes pos (ix2 r ⟨(d - 128) % 128, Nat.mod_lt _ (by decide)⟩)
    + laneAt x g w gq r h (128 + (d - 128 + 128 - 64) % 128) * Rotary.sinLanes pos (ix2 r ⟨(d - 128) % 128, Nat.mod_lt _ (by decide)⟩)
    + setRow (shift gq gk) (ix2 0 ⟨(d - 128) % 128, Nat.mod_lt _ (by decide)⟩)

/-- The array the grid leaves. -/
def grid (y : S16384x4096.Idx) : EReal :=
  lanesAt x pos g w gq gk (y 0) ⟨(y 1).val / 256, by have : (y 1).val < 4096 := (y 1).isLt; omega⟩ ((y 1).val % 256)

theorem grid_lane (r : Fin 16384) (h : Fin 16) (d : Fin 256) : grid x pos g w gq gk (ix2 r (lane h d)) = lanesAt x pos g w gq gk r h d.val := by
  have e1 : (⟨(256 * h.val + d.val) / 256, by omega⟩ : Fin 16) = h := Fin.ext (by show (256 * h.val + d.val) / 256 = h.val; omega)
  have e2 : (256 * h.val + d.val) % 256 = d.val := by omega
  show lanesAt x pos g w gq gk r ⟨(256 * h.val + d.val) / 256, _⟩ ((256 * h.val + d.val) % 256) = _
  rw [e1, e2]

end

/-- Where each grid point's blocks lie in their arrays. -/
theorem idx : ∀ t : Fin cfg0.N, win0_0.index t = ![(grid0.coords t 0).val, 16] ∧ win0_1.index t = ![0, 0] ∧ win0_2.index t = ![0, 0]
    ∧ win0_3.index t = ![0, 0] ∧ win0_4.index t = ![(grid0.coords t 0).val, 0] ∧ win0_5.index t = ![(grid0.coords t 0).val, 0]
    ∧ win0_6.index t = ![0, 0] ∧ win0_7.index t = ![(grid0.coords t 0).val, 0] :=
  (by decide +kernel : ∀ t : Fin grid0.N, _)

/-- The token of row `a` of point `t`'s block. -/
abbrev token (t : Fin cfg0.N) (a : Fin 512) : Fin 16384 :=
  ⟨512 * (grid0.coords t 0).val + a.val, by have : (grid0.coords t 0).val < 32 := (grid0.coords t 0).isLt; omega⟩

theorem emb7 (t : Fin cfg0.N) (a : Fin 512) (j : Fin 4096) : ((cfg0.win 7).blk t).view.emb (ix2 a j) = ix2 (token t a) j := by
  blk_ext [idx t]

theorem read0 (c : Dev nD) (t : Fin cfg0.N) (a : Fin 512) (k : Fin 1024) :
    iblk m c 0 t (ix2 a k) = m ((c : Thread nD τ).loc main_arg0) (ix3 (batch (token t a)) (place (token t a)) k) := by
  refine Eq.trans ?_ ((congrFun (entry_latents m c) _).trans (latents_apply _ (token t a) k))
  refine congrArg (V m c main_v89) ?_
  blk_ext [iblk, idx t]

theorem read1 (c : Dev nD) (t : Fin cfg0.N) (k : Fin 1024) : iblk m c 1 t (ix2 0 k) = m ((c : Thread nD τ).loc main_arg2) (ix1 k) := by
  refine Eq.trans ?_ ((congrFun (entry_norm m c) _).trans (norm_apply _ k))
  refine congrArg (V m c main_v90) ?_
  blk_ext [iblk, idx t]

theorem read2 (c : Dev nD) (t : Fin cfg0.N) (k : Fin 1024) (h : Fin 16) (d : Fin 256) : iblk m c 2 t (ix2 k (lane h d))
    = pick (fun n => if hn : n < 192 then m ((c : Thread nD τ).loc main_arg3) (ix2 k (column h ⟨n, hn⟩)) else 0) d.val := by
  refine Eq.trans ?_ ((congrFun (entry_weights m c) _).trans (weights_apply _ k h d (lane h d) rfl))
  refine congrArg (V m c main_v9) ?_
  blk_ext [iblk, idx t]

theorem read3 (c : Dev nD) (t : Fin cfg0.N) (h : Fin 16) (d : Fin 256) : iblk m c 3 t (ix2 0 (lane h d))
    = pick (fun n => if hn : n < 192 then m ((c : Thread nD τ).loc main_arg4) (ix1 ⟨n, hn⟩) else 0) d.val * (sigma : EReal) := by
  refine Eq.trans ?_ ((congrFun (entry_gains m c) _).trans (allGains_apply _ h d (lane h d) rfl))
  refine congrArg (V m c main_v26) ?_
  blk_ext [iblk, idx t]

theorem read4 (c : Dev nD) (t : Fin cfg0.N) (a : Fin 512) (d : Fin 128) :
    iblk m c 4 t (ix2 a d) = Rotary.cosLanes (m ((c : Thread nD τ).loc main_arg1)) (ix2 (token t a) d) := by
  refine Eq.trans ?_ (congrFun (entry_cos m c) _)
  refine congrArg (V m c main_v84) ?_
  blk_ext [iblk, idx t]

theorem read5 (c : Dev nD) (t : Fin cfg0.N) (a : Fin 512) (d : Fin 128) :
    iblk m c 5 t (ix2 a d) = Rotary.sinLanes (m ((c : Thread nD τ).loc main_arg1)) (ix2 (token t a) d) := by
  refine Eq.trans ?_ (congrFun (entry_sin m c) _)
  refine congrArg (V m c main_v86) ?_
  blk_ext [iblk, idx t]

theorem read6 (c : Dev nD) (t : Fin cfg0.N) (d : Fin 128) :
    iblk m c 6 t (ix2 0 d) = setRow (shift (m ((c : Thread nD τ).loc main_arg4)) (m ((c : Thread nD τ).loc main_arg5))) (ix2 0 d) := by
  refine Eq.trans ?_ (congrFun (entry_shift m c) _)
  refine congrArg (V m c main_v39) ?_
  blk_ext [iblk, idx t]

section
variable (x : FVec Ideal S8x2048x1024 .f32) (pos : IVec S8x2048 32) (g : FVec Ideal S1024 .f32) (w : FVec Ideal S1024x3072 .f32)
  (gq gk : FVec Ideal S192 .f32)

/-- A rectangle that starts at zero and is as large as the array is the array. -/
theorem ld_whole {s : Shape} {e : EltTy} (x : s.Idx → Elt Ideal e) (o : Fin s.rank → ℕ) (ho : o = 0) (h) :
    View.ld (Val := Elt Ideal) (e' := e) x (Rect.unit (s := s) o s.size h) = x := by
  funext i
  refine congrArg x ?_
  funext a
  apply Fin.ext
  refine (Rect.emb_apply _ _ a).trans ?_
  subst ho
  show 0 + 1 * (i a).val = (i a).val
  omega

theorem zero2 : (![0, 0] : Fin 2 → ℕ) = 0 := by
  funext a; fin_cases a <;> rfl

/-- A projected row at a lane of a head. -/
theorem rows_apply (c : Dev nD) (t : Fin cfg0.N) (a : Fin 512) (h : Fin 16) (d : Fin 256) :
    rows (iblk m c 0 t) (iblk m c 1 t) (iblk m c 2 t) (ix2 a (lane h d))
      = pick (fun n => if hn : n < 192 then headAt (m ((c : Thread nD τ).loc main_arg0)) (m ((c : Thread nD τ).loc main_arg2)) (m ((c : Thread nD τ).loc main_arg3))
          (batch (token t a)) (place (token t a)) h ⟨n, hn⟩ else 0) d.val := by
  unfold rows
  rw [ld_whole (s := S512x1024) (e := .bf16) _ _ zero2, ld_whole (s := S1x1024) (e := .f32) _ _ zero2, ld_whole (s := S1024x4096) (e := .bf16) _ _ zero2]
  refine (projected_apply _ _ _ a (lane h d)).trans ?_
  simp only [read0, read1, read2]
  refine (pick_mul _ _ d.val).trans ?_
  refine congrArg (fun f => pick f d.val) (funext fun n => ?_)
  by_cases hn : n < 192
  · simp only [dif_pos hn]; rfl
  · simp only [dif_neg hn, mul_zero, Finset.sum_const_zero]

/-- A normed lane. -/
theorem normed_at (c : Dev nD) (t : Fin cfg0.N) (a : Fin 512) (h : Fin 16) (d : Fin 256) :
    normed (rows (iblk m c 0 t) (iblk m c 1 t) (iblk m c 2 t)) (View.ld (Val := Elt Ideal) (e' := .f32) (iblk m c 3 t) (gains h)) h (ix2 a d)
      = laneAt (m ((c : Thread nD τ).loc main_arg0)) (m ((c : Thread nD τ).loc main_arg2)) (m ((c : Thread nD τ).loc main_arg3)) (m ((c : Thread nD τ).loc main_arg4))
          (token t a) h d.val := by
  rw [normed_apply, gains_apply, read3]
  simp only [rows_apply]
  rw [pick_sum]
  unfold laneAt
  simp only [Fin.is_lt, dite_true, Fin.eta]

/-- What the body leaves at place `y` of point `t`'s block is the grid's array there. -/
theorem point (c : Dev nD) (t : Fin cfg0.N) (y : S512x4096.Idx) :
    out0_7 (iblk m c 0 t) (iblk m c 1 t) (iblk m c 2 t) (iblk m c 3 t) (iblk m c 4 t) (iblk m c 5 t) (iblk m c 6 t) y
      = grid (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (((cfg0.win 7).blk t).view.emb y) := by
  obtain ⟨a, j, rfl⟩ : ∃ (a : Fin 512) (j : Fin 4096), y = ix2 a j := ⟨y 0, y 1, eq_ix2 y⟩
  rw [emb7, out_apply]
  have hj := j.isLt
  unfold block grid lanesAt
  show (if j.val % 256 < 128 then
      nope (rows (iblk m c 0 t) (iblk m c 1 t) (iblk m c 2 t)) (View.ld (iblk m c 3 t) (gains ⟨j.val / 256, by omega⟩)) ⟨j.val / 256, by omega⟩ (ix2 a ⟨j.val % 128, Nat.mod_lt _ (by decide)⟩)
    else rope (rows (iblk m c 0 t) (iblk m c 1 t) (iblk m c 2 t)) (View.ld (iblk m c 3 t) (gains ⟨j.val / 256, by omega⟩)) (View.ld (iblk m c 4 t) r0_5) (View.ld (iblk m c 5 t) r0_5)
      (View.ld (iblk m c 6 t) r0_6) ⟨j.val / 256, by omega⟩ (ix2 a ⟨j.val % 128, Nat.mod_lt _ (by decide)⟩))
    = (if hd : j.val % 256 < 128 then _ else _)
  by_cases hd : j.val % 256 < 128
  · rw [if_pos hd, dif_pos hd, nope_apply]
    refine (normed_at m c t a ⟨j.val / 256, by omega⟩ ⟨j.val % 128, by omega⟩).trans ?_
    exact congrArg (laneAt _ _ _ _ (token t a) ⟨j.val / 256, by omega⟩) (by show j.val % 128 = j.val % 256; omega)
  · rw [if_neg hd, dif_neg hd, rope_apply]
    have e : (⟨(j.val % 256 - 128) % 128, Nat.mod_lt _ (by decide)⟩ : Fin 128) = ⟨j.val % 128, Nat.mod_lt _ (by decide)⟩ :=
      Fin.ext (by show (j.val % 256 - 128) % 128 = j.val % 128; omega)
    have e1 : 128 + j.val % 128 = j.val % 256 := by omega
    have e2 : 128 + (j.val % 128 + 128 - 64) % 128 = 128 + (j.val % 256 - 128 + 128 - 64) % 128 := by omega
    rw [normed_at, normed_at, ld_whole (s := S512x128) (e := .f32) _ _ zero2, ld_whole (s := S512x128) (e := .f32) _ _ zero2, ld_whole (s := S1x128) (e := .f32) _ _ zero2,
      read4, read5, read6]
    simp only [e1, e2]
    show _ = laneAt _ _ _ _ (token t a) ⟨j.val / 256, _⟩ (j.val % 256) * Rotary.cosLanes _ (ix2 (token t a) ⟨(j.val % 256 - 128) % 128, _⟩)
      + laneAt _ _ _ _ (token t a) ⟨j.val / 256, _⟩ (128 + (j.val % 256 - 128 + 128 - 64) % 128) * Rotary.sinLanes _ (ix2 (token t a) ⟨(j.val % 256 - 128) % 128, _⟩)
      + setRow _ (ix2 0 ⟨(j.val % 256 - 128) % 128, _⟩)
    rw [e]

end

/-- The array after the run. -/
theorem final (c : Dev nD) : (dats m 0 c).arrAt 7 (cfgs 0).N
    = grid (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 7 _ (by decide +kernel) fun t _ y => ?_
  blk_simp
  rw [after0_7]
  exact point m c t y

end Cert.Proof.Qa

end
-- ==== Proof.QaEq.lean ====
/-
The query projection: what the host takes out of the grid's array is the plain computation's result.
-/
module

public import proofs.«01_k».proof.Proof.QaVal

@[expose] public section

set_option maxRecDepth 16384

noncomputable section

open Idealize.ShloMosaic Idealize.ShloMosaic.TcCoe Idealize.SL.Sem

namespace Cert.Proof.Qa

open Cert.QaProjIdeal Cert.QaProjIdeal.Gen
open Cert.Proof.AttnA (setRow sigma)
open Cert.Proof.Rotary (batch place CountsUp angle)

/-- The 192 columns of each head out of its 256 lanes, -/
abbrev columns (a : FVec Ideal S16384x4096 .bf16) : FVec Ideal S8x2048x16x192 .bf16 :=
  concatenate S8x2048x16x192 3
    [⟨S8x2048x16x128, extractStridedSlice S8x2048x16x128 ![0, 0, 0, 0] (shapeCast S8x2048x16x256 a shapeCasts_S16384x4096_S8x2048x16x256) slices_S8x2048x16x256_S8x2048x16x128_0_0_0_0⟩,
     ⟨S8x2048x16x32, extractStridedSlice S8x2048x16x32 ![0, 0, 0, 128] (shapeCast S8x2048x16x256 a shapeCasts_S16384x4096_S8x2048x16x256) slices_S8x2048x16x256_S8x2048x16x32_0_0_0_128⟩,
     ⟨S8x2048x16x32, extractStridedSlice S8x2048x16x32 ![0, 0, 0, 192] (shapeCast S8x2048x16x256 a shapeCasts_S16384x4096_S8x2048x16x256) slices_S8x2048x16x256_S8x2048x16x32_0_0_0_192⟩]
    concatenates_S8x2048x16x128_S8x2048x16x32_S8x2048x16x32_S8x2048x16x192_d3
/-- divided by the queries' factor. -/
abbrev taken (a : FVec Ideal S16384x4096 .bf16) : FVec Ideal S8x2048x16x192 .f32 :=
  Host.divf (extf .f32 (columns a) bitsLt_bf16_f32) (broadcastInDim S8x2048x16x192 ![] bcast_S_S8x2048x16x192 factor)

/-- The host operations after the grid take the result out of the grid's array. -/
theorem tail_eq (W : Valuation τ sig (Elt Ideal)) :
    StableHlo.after (List.flatten [hostOps1]) W (Proc.devRef .tc main_v103) = taken (W (Proc.devRef .tc main_v91)) := by
  unfold_abbrev_sides
  simp only [List.flatten_cons, List.flatten_nil, List.append_nil, List.cons_append, List.nil_append]
  after_results
  rfl

/-- The row of a token. -/
abbrev row (b : Fin 8) (l : Fin 2048) : Fin 16384 := ⟨2048 * b.val + l.val, by omega⟩

theorem batch_row (b : Fin 8) (l : Fin 2048) : batch (row b l) = b := Fin.ext (by show (2048 * b.val + l.val) / 2048 = b.val; omega)
theorem place_row (b : Fin 8) (l : Fin 2048) : place (row b l) = l := Fin.ext (by show (2048 * b.val + l.val) % 2048 = l.val; omega)

theorem split_apply (a : FVec Ideal S16384x4096 .bf16) (b : Fin 8) (l : Fin 2048) (h : Fin 16) (d : Fin 256) :
    shapeCast S8x2048x16x256 a shapeCasts_S16384x4096_S8x2048x16x256 (ix4 b l h d) = a (ix2 (row b l) (lane h d)) := by
  pointwise
  exact congrArg₂ (fun r k => a (ix2 r k)) (Fin.ext (by show b.val * 2048 + l.val = 2048 * b.val + l.val; omega))
    (Fin.ext (by show h.val * 256 + d.val = 256 * h.val + d.val; omega))

theorem columns_plain (a : FVec Ideal S16384x4096 .bf16) (b : Fin 8) (l : Fin 2048) (h : Fin 16) (d : Fin 128) :
    columns a (ix4 b l h ⟨d.val, by omega⟩) = a (ix2 (row b l) (lane h ⟨d.val, by omega⟩)) := by
  rw [← split_apply a]
  unfold columns
  generalize shapeCast S8x2048x16x256 a shapeCasts_S16384x4096_S8x2048x16x256 = z
  have := d.isLt
  pointwise

theorem columns_low (a : FVec Ideal S16384x4096 .bf16) (b : Fin 8) (l : Fin 2048) (h : Fin 16) (j : Fin 32) :
    columns a (ix4 b l h ⟨128 + j.val, by omega⟩) = a (ix2 (row b l) (lane h ⟨128 + j.val, by omega⟩)) := by
  rw [← split_apply a]
  unfold columns
  generalize shapeCast S8x2048x16x256 a shapeCasts_S16384x4096_S8x2048x16x256 = z
  have := j.isLt
  pointwise

theorem columns_high (a : FVec Ideal S16384x4096 .bf16) (b : Fin 8) (l : Fin 2048) (h : Fin 16) (j : Fin 32) :
    columns a (ix4 b l h ⟨160 + j.val, by omega⟩) = a (ix2 (row b l) (lane h ⟨192 + j.val, by omega⟩)) := by
  rw [← split_apply a]
  unfold columns
  generalize shapeCast S8x2048x16x256 a shapeCasts_S16384x4096_S8x2048x16x256 = z
  have := j.isLt
  pointwise
  rw [dif_neg (by omega), dif_neg (by omega)]
  refine congrArg (fun k => z (ix4 b l h k)) (Fin.ext ?_)
  show 192 + (160 + j.val - 128 - 32) = 192 + j.val
  omega

theorem sigma_pos : 0 < sigma := by
  unfold sigma
  have := Real.log_pos (by norm_num : (1 : ℝ) < 2)
  positivity

theorem taken_apply (a : FVec Ideal S16384x4096 .bf16) (i : S8x2048x16x192.Idx) : taken a i = columns a i * ((1 / sigma : ℝ) : EReal) := by
  have hf : factor ix0 = (sigma : EReal) := AttnA.scale_apply ix0
  rw [← Ideal.div_coe sigma_pos.ne', ← hf]
  unfold taken
  generalize columns a = z
  generalize factor = s
  pointwise

/-- Multiplied by a positive real number and by its inverse. -/
theorem mul_cancel (x : EReal) {s : ℝ} (hs : 0 < s) : x * (s : EReal) * ((1 / s : ℝ) : EReal) = x := by
  rw [mul_assoc, ← EReal.coe_mul, mul_one_div_cancel hs.ne']
  exact mul_one x

/-- A positive real factor of two products that are added. -/
theorem factor_out (u v p q : EReal) {s : ℝ} (hs : 0 < s) : u * (s : EReal) * p + v * (s : EReal) * q = (u * p + v * q) * (s : EReal) := by
  rw [mul_comm (u * p + v * q), EReal.left_distrib_of_nonneg_of_ne_top (by exact_mod_cast hs.le) (EReal.coe_ne_top s)]
  congr 1
  · rw [mul_right_comm, mul_comm]
  · rw [mul_right_comm, mul_comm]

section
variable (x : FVec Ideal S8x2048x1024 .f32) {pos : IVec S8x2048 32} (g : FVec Ideal S1024 .f32) (w : FVec Ideal S1024x3072 .f32)
  (gq gk : FVec Ideal S192 .f32) (b : Fin 8) (l : Fin 2048) (h : Fin 16)

theorem laneAt_of (d : ℕ) (n : Fin 192) (e : ∀ f : ℕ → EReal, pick f d = f n.val) :
    laneAt x g w gq (row b l) h d = normAt x g w gq b l h n * (sigma : EReal) := by
  unfold laneAt normAt
  rw [e, e, batch_row, place_row]
  simp only [Fin.is_lt, dite_true, Fin.eta]
  exact (mul_assoc _ _ _).symm

theorem taken_plain (d : Fin 128) : taken (grid x pos g w gq gk) (ix4 b l h ⟨d.val, by omega⟩) = normAt x g w gq b l h ⟨d.val, by omega⟩ := by
  rw [taken_apply, columns_plain, grid_lane, lanesAt, dif_pos d.isLt,
    laneAt_of x g w gq b l h d.val ⟨d.val, by omega⟩ (fun f => by rw [pick_eq, if_pos d.isLt]), mul_cancel _ sigma_pos]

variable (hp : CountsUp pos) (j : Fin 32)
include hp

theorem taken_low : taken (grid x pos g w gq gk) (ix4 b l h ⟨128 + j.val, by omega⟩)
    = normAt x g w gq b l h ⟨128 + j.val, by omega⟩ * Ideal.cos (angle pos b l j) - normAt x g w gq b l h ⟨160 + j.val, by omega⟩ * Ideal.sin (angle pos b l j) := by
  have hj := j.isLt
  have e : (⟨(128 + j.val - 128) % 128, Nat.mod_lt _ (by decide)⟩ : Fin 128) = ⟨j.val, by omega⟩ := Fin.ext (by show (128 + j.val - 128) % 128 = j.val; omega)
  rw [taken_apply, columns_low, grid_lane]
  show lanesAt x pos g w gq gk (row b l) h (128 + j.val) * _ = _
  rw [lanesAt, dif_neg (by omega), e, shift_zero _ _ (by show j.val ≠ 32; omega), Rotary.cos_low hp, Rotary.sin_low hp, batch_row, place_row,
    laneAt_of x g w gq b l h (128 + j.val) ⟨128 + j.val, by omega⟩ (fun f => by rw [pick_eq, if_neg (by omega), if_pos (by omega)]),
    laneAt_of x g w gq b l h (128 + (128 + j.val - 128 + 128 - 64) % 128) ⟨160 + j.val, by omega⟩
      (fun f => by rw [pick_eq, if_neg (by omega), if_neg (by omega), if_neg (by omega), if_pos (by omega)]; exact congrArg f (by show _ = 160 + j.val; omega)),
    add_zero, factor_out _ _ _ _ sigma_pos, mul_cancel _ sigma_pos, mul_neg]
  rfl

theorem taken_high : taken (grid x pos g w gq gk) (ix4 b l h ⟨160 + j.val, by omega⟩)
    = normAt x g w gq b l h ⟨128 + j.val, by omega⟩ * Ideal.sin (angle pos b l j) + normAt x g w gq b l h ⟨160 + j.val, by omega⟩ * Ideal.cos (angle pos b l j) := by
  have hj := j.isLt
  have e : (⟨(192 + j.val - 128) % 128, Nat.mod_lt _ (by decide)⟩ : Fin 128) = ⟨64 + j.val, by omega⟩ := Fin.ext (by show (192 + j.val - 128) % 128 = 64 + j.val; omega)
  rw [taken_apply, columns_high, grid_lane]
  show lanesAt x pos g w gq gk (row b l) h (192 + j.val) * _ = _
  rw [lanesAt, dif_neg (by omega), e, shift_zero _ _ (by show 64 + j.val ≠ 32; omega), Rotary.cos_high hp, Rotary.sin_high hp, batch_row, place_row,
    laneAt_of x g w gq b l h (192 + j.val) ⟨160 + j.val, by omega⟩
      (fun f => by rw [pick_eq, if_neg (by omega), if_neg (by omega), if_neg (by omega), if_pos (by omega)]; exact congrArg f (by show _ = 160 + j.val; omega)),
    laneAt_of x g w gq b l h (128 + (192 + j.val - 128 + 128 - 64) % 128) ⟨128 + j.val, by omega⟩
      (fun f => by rw [pick_eq, if_neg (by omega), if_pos (by omega)]; exact congrArg f (by show _ = 128 + j.val; omega)),
    add_zero, factor_out _ _ _ _ sigma_pos, mul_cancel _ sigma_pos, add_comm]

/-- What the host takes out of the grid's array is the plain result, for positions that count up. -/
theorem value_eq : taken (grid x pos g w gq gk) = result x pos g w gq := by
  funext i
  obtain ⟨b, l, h, n, rfl⟩ : ∃ (b : Fin 8) (l : Fin 2048) (h : Fin 16) (n : Fin 192), i = ix4 b l h n := ⟨i 0, i 1, i 2, i 3, eq_ix4 i⟩
  unfold result
  by_cases h1 : n.val < 128
  · obtain ⟨d, hn⟩ : ∃ d : Fin 128, n = ⟨d.val, by omega⟩ := ⟨⟨n.val, h1⟩, rfl⟩
    rw [hn, taken_plain, turned_plain, normedHeads_apply]
  by_cases h2 : n.val < 160
  · obtain ⟨j, hn⟩ : ∃ j : Fin 32, n = ⟨128 + j.val, by omega⟩ := ⟨⟨n.val - 128, by omega⟩, Fin.ext (by show n.val = 128 + (n.val - 128); omega)⟩
    rw [hn, taken_low x g w gq gk b l h hp, turned_low, normedHeads_apply, normedHeads_apply, angles_apply]
  · obtain ⟨j, hn⟩ : ∃ j : Fin 32, n = ⟨160 + j.val, by omega⟩ := ⟨⟨n.val - 160, by omega⟩, Fin.ext (by show n.val = 160 + (n.val - 160); omega)⟩
    rw [hn, taken_high x g w gq gk b l h hp, turned_high, normedHeads_apply, normedHeads_apply, angles_apply]

end

end Cert.Proof.Qa

end
-- ==== Proof.RotaryPre.lean ====
/-
What the projections' precondition says: a batch's positions count up from its first, which is at least 0 and below 1024.
-/
module

public import proofs.«01_k».proof.Proof.Gen.Pre_counts_up_qa
public import proofs.«01_k».proof.Proof.Gen.Pre_counts_up_kva
public import proofs.«01_k».proof.Proof.Rotary

@[expose] public section

set_option maxRecDepth 16384

noncomputable section

open Idealize.ShloMosaic Idealize.ShloMosaic.TcCoe Idealize.SL.Sem

namespace Cert.Proof.Rotary

section
open Cert.Pre_counts_up_qa Cert.Pre_counts_up_qa.Gen

/-- The precondition over the positions. -/
abbrev conditions (pos : IVec S8x2048 32) : IVec S8x2048 1 :=
  andi (andi (cmpi .eq pos (addi (broadcastInDim S8x2048 ![0, 1] bcast_S8x1_S8x2048_0_1 (extractStridedSlice S8x1 ![0, 0] pos slices_S8x2048_S8x1_0_0))
      (iotaInDim S8x2048 32 1)))
    (broadcastInDim S8x2048 ![0, 1] bcast_S8x1_S8x2048_0_1 (cmpi .sge (extractStridedSlice S8x1 ![0, 0] pos slices_S8x2048_S8x1_0_0) (broadcastInDim S8x1 ![] bcast_S_S8x1 (constantI S_ 32 0#32)))))
    (broadcastInDim S8x2048 ![0, 1] bcast_S8x1_S8x2048_0_1 (cmpi .slt (extractStridedSlice S8x1 ![0, 0] pos slices_S8x2048_S8x1_0_0) (broadcastInDim S8x1 ![] bcast_S_S8x1 (constantI S_ 32 1024#32))))

theorem conditions_apply (pos : IVec S8x2048 32) (b : Fin 8) (i : Fin 2048) :
    conditions pos (ix2 b i) = IntOp.andi (IntOp.andi (IntOp.cmpi .eq (pos (ix2 b i)) (pos (ix2 b 0) + BitVec.ofNat 32 i.val))
      (IntOp.cmpi .sge (pos (ix2 b 0)) 0#32)) (IntOp.cmpi .slt (pos (ix2 b 0)) 1024#32) := by
  pointwise [conditions]
  rfl

/-- Where the precondition holds the positions count up. -/
theorem countsUp_of {pos : IVec S8x2048 32} (hp : conditions pos = fun _ => 1#1) : CountsUp pos := by
  intro b
  have h : ∀ i : Fin 2048, pos (ix2 b i) = pos (ix2 b 0) + BitVec.ofNat 32 i.val ∧ (0 : ℤ) ≤ (pos (ix2 b 0)).toInt ∧ (pos (ix2 b 0)).toInt < 1024 := fun i => by
    have hi := congrFun hp (ix2 b i)
    rw [conditions_apply] at hi
    simp only [IntOp.andi_eq_one] at hi
    obtain ⟨⟨e1, h0⟩, h1⟩ := hi
    rw [WordCmp.cmpi_eq_eq, WordCmp.ofBool_decide_eq_one_iff] at e1
    rw [WordCmp.cmpi_sge_eq, WordCmp.ofBool_decide_eq_one_iff, show (0#32 : BitVec 32).toInt = 0 by decide] at h0
    rw [WordCmp.cmpi_slt_eq, WordCmp.ofBool_decide_eq_one_iff, show (1024#32 : BitVec 32).toInt = 1024 by decide] at h1
    exact ⟨e1, h0, h1⟩
  refine ⟨(pos (ix2 b 0)).toNat, ?_, fun i => ?_⟩
  · obtain ⟨-, h0, h1⟩ := h 0
    rw [BitVec.toInt_eq_toNat_cond] at h0 h1
    split at h0 <;> omega
  · rw [(h i).1, BitVec.ofNat_add, BitVec.ofNat_toNat]
    simp

/-- The query projection's precondition, read. -/
theorem of_counts_up_qa {x : FVec Ideal S8x2048x1024 .f32} {pos : IVec S8x2048 32} {g : FVec Ideal S1024 .f32} {w : FVec Ideal S1024x3072 .f32}
    {gq gk : FVec Ideal S192 .f32} (h : fn (F := Ideal) x pos g w gq gk = fun _ => 1#1) : CountsUp pos :=
  countsUp_of h

/-- The key and value projection's, read. -/
theorem of_counts_up_kva {x : FVec Ideal Cert.Pre_counts_up_kva.S8x2048x512 .f32} {k : FVec Ideal Cert.Pre_counts_up_kva.S8x2048x64 .f32} {pos : IVec S8x2048 32}
    {g : FVec Ideal Cert.Pre_counts_up_kva.S512 .f32} {w : FVec Ideal Cert.Pre_counts_up_kva.S512x4096 .f32} {gk : FVec Ideal S192 .f32} (h : Cert.Pre_counts_up_kva.fn (F := Ideal) x k pos g w gk = fun _ => 1#1) : CountsUp pos :=
  countsUp_of h

end

end Cert.Proof.Rotary

end
-- ==== Proof.Qa.lean ====
/-
The claims about branch A's query projection.
-/
module

public import proofs.«01_k».proof.Defs
public import proofs.«01_k».proof.Proof.Gen.QaProj.Frame
public import proofs.«01_k».proof.Proof.QaEq
public import proofs.«01_k».proof.Proof.RotaryPre

@[expose] public section

set_option maxRecDepth 16384

noncomputable section

open Idealize.ShloMosaic Idealize.ShloMosaic.TcCoe Idealize.SL.Sem

namespace Cert.Proof.Qa

section
open Cert.QaProjIdeal Cert.QaProjIdeal.Gen

variable (m : (ℓ : Loc nD τ sig) → Buf (Elt Ideal) ℓ) (ρ : Dev nD → PrngReg)

/-- After the run the result is what the host takes out of the array the grid leaves. -/
theorem tail_value (c : Dev nD) : Pipeline.afterTail₀ cfgs (dats m) 0 (V0 m) [hostOps1] c main_v103
    = taken (grid (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5))) := by
  unfold Pipeline.afterTail₀
  rw [tail_eq, ← final m c]
  exact congrArg taken (Pipeline.withArrays_arr spec0 (by decide) c (V0 m c) (fun w => (dats m 0 c).arrAt w (cfgs 0).N) 7)

/-- The run: the result, and the arguments as they were. -/
theorem run : θ_run defs (onTc (τ := τ) (main (F := Ideal))) ⟨m, fun _ => 0, ρ⟩ (fun r => ∀ c : Dev nD,
      r.2.mem ((c.tc : Thread nD τ).loc main_v103) = taken (grid (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v103 (Pipeline.mem_restRefs_of main_v103 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end

/-- The query projection runs to the end, leaves its arguments unchanged and every counter at zero. -/
theorem frame_kernel : Cert.quiescent_QaProj := fun m ρ _ => Cert.QaProj.Gen.frame m ρ

/-- The same of its exact reading, of the reference, and of both under the precondition. -/
theorem frame_ideal : Cert.quiescent_QaProjIdeal := fun m ρ _ => Cert.QaProjIdeal.Gen.frame m ρ
theorem frame_ideal_pre : Cert.quiescent_QaProjIdeal_pre_counts_up_qa := fun m ρ _ => Cert.QaProjIdeal.Gen.frame m ρ
theorem frame_reference : Cert.quiescent_QaProjRefIdeal := fun m ρ _ =>
  (θ_run Cert.QaProjRefIdeal.defs _ _).mono
    (fun r h => ⟨fun c => (h c).2, sem_eq_zero_of_no_sems rfl r.2⟩) (Cert.QaProjRefIdeal.Value.run m ρ)
theorem frame_reference_pre : Cert.quiescent_QaProjRefIdeal_pre_counts_up_qa := fun m ρ _ =>
  (θ_run Cert.QaProjRefIdeal.defs _ _).mono
    (fun r h => ⟨fun c => (h c).2, sem_eq_zero_of_no_sems rfl r.2⟩) (Cert.QaProjRefIdeal.Value.run m ρ)

/-- The kernel's literal may be read as the named constant 1/192. -/
theorem preserved : Cert.preserves_QaProj_QaProjIdeal := IdealRules.named_const.statement _ _ _ _ _ rfl

/-- Over the extended reals the projection and the reference end with the same array, for positions that count up. -/
theorem equal : Cert.algebraic_QaProjIdeal_QaProjRefIdeal_pre_counts_up_qa := by
  intro m ρ m' ρ' hpre hargs
  refine ⟨_, run m ρ, ?_⟩
  refine (θ_run Cert.QaProjRefIdeal.defs _ _).mono (fun r h c => ⟨(h c).1.trans ?_, (h c).2⟩) (Cert.QaProjRefIdeal.Value.run m' ρ')
  obtain ⟨h0, h1, h2, h3, h4, -⟩ := hargs c
  rw [reference_eq, h0, h1, h2, h3, h4]
  exact (value_eq _ _ _ _ _ (Rotary.of_counts_up_qa (hpre c))).symm

end Cert.Proof.Qa

end
-- ==== Proof.KvaHost.lean ====
/-
The arrays the key and value projection's grid reads: the latents and the shared rotary key in their columns of the wide
array, the weights' two halves, and the gains in 128 lanes.
-/
module

public import proofs.«01_k».proof.Proof.Gen.KvaProjIdeal.Frame
public import proofs.«01_k».proof.Proof.QaEq

@[expose] public section

set_option maxRecDepth 16384

noncomputable section

open Idealize.ShloMosaic Idealize.ShloMosaic.TcCoe Idealize.SL.Sem

namespace Cert.Proof.Kva

open Cert.KvaProjIdeal Cert.KvaProjIdeal.Gen
open Cert.Proof.Rotary (batch place)

/-- The weights of the keys' first 128 numbers, -/
abbrev keyWeights (w : FVec Ideal S512x4096 .f32) : FVec Ideal S512x2048 .bf16 :=
  truncf .bf16 (shapeCast S512x2048 (extractStridedSlice S512x16x128 ![0, 0, 0] (shapeCast S512x16x256 w shapeCasts_S512x4096_S512x16x256)
    slices_S512x16x256_S512x16x128_0_0_0) shapeCasts_S512x16x128_S512x2048) bitsLt_bf16_f32
/-- and of the values. -/
abbrev valueWeights (w : FVec Ideal S512x4096 .f32) : FVec Ideal S512x2048 .bf16 :=
  truncf .bf16 (shapeCast S512x2048 (extractStridedSlice S512x16x128 ![0, 0, 128] (shapeCast S512x16x256 w shapeCasts_S512x4096_S512x16x256)
    slices_S512x16x256_S512x16x128_0_0_128) shapeCasts_S512x16x128_S512x2048) bitsLt_bf16_f32

/-- The gains of the first 128 numbers, -/
abbrev plainGains (g : FVec Ideal S192 .f32) : FVec Ideal S1x128 .f32 :=
  shapeCast S1x128 (extractStridedSlice S128 ![0] g slices_S192_S128_0) shapeCasts_S128_S1x128
/-- and of the rest, each half followed by 32 zeros. -/
abbrev turnedGains (g : FVec Ideal S192 .f32) : FVec Ideal S1x128 .f32 :=
  shapeCast S1x128 (concatenate S128 0
      [⟨S32, extractStridedSlice S32 ![0] (extractStridedSlice S64 ![128] g slices_S192_S64_128) slices_S64_S32_0⟩,
       ⟨S32, broadcastInDim S32 ![] bcast_S_S32 (constant S_ .f32 0x00000000#32)⟩,
       ⟨S32, extractStridedSlice S32 ![32] (extractStridedSlice S64 ![128] g slices_S192_S64_128) slices_S64_S32_32⟩,
       ⟨S32, broadcastInDim S32 ![] bcast_S_S32 (constant S_ .f32 0x00000000#32)⟩]
      concatenates_S32_S32_S32_S32_S128_d0) shapeCasts_S128_S1x128

/-- The shared rotary key in 128 lanes, -/
abbrev spreadKey (k : FVec Ideal S8x2048x64 .f32) : FVec Ideal S16384x128 .f32 :=
  concatenate S16384x128 1
      [⟨S16384x32, extractStridedSlice S16384x32 ![0, 0] (shapeCast S16384x64 k shapeCasts_S8x2048x64_S16384x64) slices_S16384x64_S16384x32_0_0⟩,
       ⟨S16384x32, broadcastInDim S16384x32 ![] bcast_S_S16384x32 (constant S_ .f32 0x00000000#32)⟩,
       ⟨S16384x32, extractStridedSlice S16384x32 ![0, 32] (shapeCast S16384x64 k shapeCasts_S8x2048x64_S16384x64) slices_S16384x64_S16384x32_0_32⟩,
       ⟨S16384x32, broadcastInDim S16384x32 ![] bcast_S_S16384x32 (constant S_ .f32 0x00000000#32)⟩]
      concatenates_S16384x32_S16384x32_S16384x32_S16384x32_S16384x128_d1
/-- behind the latents, -/
abbrev joined (x : FVec Ideal S8x2048x512 .f32) (k : FVec Ideal S16384x128 .f32) : FVec Ideal S16384x768 .f32 :=
  concatenate S16384x768 1 [⟨S16384x512, shapeCast S16384x512 x shapeCasts_S8x2048x512_S16384x512⟩,
    ⟨S16384x128, broadcastInDim S16384x128 ![] bcast_S_S16384x128 (constant S_ .f32 0x00000000#32)⟩, ⟨S16384x128, k⟩]
    concatenates_S16384x512_S16384x128_S16384x128_S16384x768_d1
/-- in their columns. -/
abbrev padded (z : FVec Ideal S16384x768 .f32) : FVec Ideal S16384x18432 .bf16 :=
  truncf .bf16 (pad S16384x18432 ![0, 17408] ![0, 256] ![0, 0] z
    (sitofp .f32 (constantI S_ 32 0#32)) pads_S16384x768_S16384x18432_000_174082560 h_S_) bitsLt_bf16_f32

variable (m : (ℓ : Loc nD τ sig) → Buf (Elt Ideal) ℓ)

theorem entry_latents (c : Dev nD) : V m c main_v71 = padded (joined (m ((c : Thread nD τ).loc main_arg0)) (spreadKey (m ((c : Thread nD τ).loc main_arg1)))) := by
  unfold_abbrev_sides
  simp only [List.flatten_cons, List.flatten_nil, List.append_nil, List.cons_append, List.nil_append]
  after_results
  rfl

theorem entry_norm (c : Dev nD) : V m c main_v72 = shapeCast S1x512 (m ((c : Thread nD τ).loc main_arg3)) shapeCasts_S512_S1x512 := by
  unfold_abbrev_sides
  simp only [List.flatten_cons, List.flatten_nil, List.append_nil, List.cons_append, List.nil_append]
  after_results
  rfl

theorem entry_keyWeights (c : Dev nD) : V m c main_v3 = keyWeights (m ((c : Thread nD τ).loc main_arg4)) := by
  unfold_abbrev_sides
  simp only [List.flatten_cons, List.flatten_nil, List.append_nil, List.cons_append, List.nil_append]
  after_results
  rfl

theorem entry_valueWeights (c : Dev nD) : V m c main_v6 = valueWeights (m ((c : Thread nD τ).loc main_arg4)) := by
  unfold_abbrev_sides
  simp only [List.flatten_cons, List.flatten_nil, List.append_nil, List.cons_append, List.nil_append]
  after_results
  rfl

theorem entry_plainGains (c : Dev nD) : V m c main_v8 = plainGains (m ((c : Thread nD τ).loc main_arg5)) := by
  unfold_abbrev_sides
  simp only [List.flatten_cons, List.flatten_nil, List.append_nil, List.cons_append, List.nil_append]
  after_results
  rfl

theorem entry_turnedGains (c : Dev nD) : V m c main_v14 = turnedGains (m ((c : Thread nD τ).loc main_arg5)) := by
  unfold_abbrev_sides
  simp only [List.flatten_cons, List.flatten_nil, List.append_nil, List.cons_append, List.nil_append]
  after_results
  rfl

theorem entry_cos (c : Dev nD) : V m c main_v59 = Rotary.cosLanes (m ((c : Thread nD τ).loc main_arg2)) := by
  unfold_abbrev_sides
  simp only [List.flatten_cons, List.flatten_nil, List.append_nil, List.cons_append, List.nil_append]
  after_results
  rfl

theorem entry_sin (c : Dev nD) : V m c main_v61 = Rotary.sinLanes (m ((c : Thread nD τ).loc main_arg2)) := by
  unfold_abbrev_sides
  simp only [List.flatten_cons, List.flatten_nil, List.append_nil, List.cons_append, List.nil_append]
  after_results
  rfl

/-! ## By place -/

/-- A lane of the 128 read out of 64 numbers: each half followed by 32 zeros. -/
def spreadAt (f : ℕ → EReal) (d : ℕ) : EReal := if d < 32 then f d else if d < 64 then 0 else if d < 96 then f (d - 32) else 0

theorem spreadAt_split (f : (n : ℕ) → n < 64 → EReal) (d : ℕ) (hd : d < 128) :
    (if h1 : d < 32 then f d (by omega) else if h2 : d - 32 < 32 then 0 else if h3 : d - 32 - 32 < 32 then f (32 + (d - 32 - 32)) (by omega) else 0)
      = spreadAt (fun n => if hn : n < 64 then f n hn else 0) d := by
  have congr : ∀ {a b : ℕ} (e : a = b) (ha : a < 64) (hb : b < 64), f a ha = f b hb := fun e _ _ => by subst e; rfl
  unfold spreadAt
  by_cases h1 : d < 32
  · rw [dif_pos h1, if_pos h1]
    exact (dif_pos (by omega)).symm
  rw [dif_neg h1, if_neg h1]
  by_cases h2 : d < 64
  · rw [dif_pos (by omega), if_pos h2]
  rw [dif_neg (by omega), if_neg h2]
  by_cases h3 : d < 96
  · rw [dif_pos (by omega), if_pos h3]
    exact (congr (by omega) _ _).trans (dif_pos (by omega)).symm
  · rw [dif_neg (by omega), if_neg h3]

/-- The squares of the first 128 of 192 numbers and of the rest's lanes sum to the squares of all. -/
theorem total (F : ℕ → EReal) : (∑ d : Fin 128, F d.val * F d.val) + (∑ d : Fin 128, spreadAt (fun j => F (128 + j)) d.val * spreadAt (fun j => F (128 + j)) d.val)
    = ∑ n : Fin 192, F n.val * F n.val := by
  rw [← Qa.pick_sum F]
  refine Eq.symm ((Fin.sum_univ_add (a := 128) (b := 128) (fun d : Fin (128 + 128) => Qa.pick F d.val * Qa.pick F d.val)).trans ?_)
  refine congrArg₂ (· + ·) ?_ ?_
  · refine Finset.sum_congr rfl fun d _ => ?_
    have e : Qa.pick F d.val = F d.val := by rw [Qa.pick_eq, if_pos d.isLt]
    show Qa.pick F d.val * Qa.pick F d.val = _
    rw [e]
  · refine Finset.sum_congr rfl fun d _ => ?_
    have e : Qa.pick F (128 + d.val) = spreadAt (fun j => F (128 + j)) d.val := by
      rw [Qa.pick_eq, if_neg (by omega)]
      unfold spreadAt
      by_cases h1 : d.val < 32
      · rw [if_pos (by omega), if_pos h1]
      rw [if_neg (by omega), if_neg h1]
      by_cases h2 : d.val < 64
      · rw [if_pos (by omega), if_pos h2]
      rw [if_neg (by omega), if_neg h2]
      by_cases h3 : d.val < 96
      · rw [if_pos (by omega), if_pos h3]
        exact congrArg F (by omega)
      · rw [if_neg (by omega), if_neg h3]
    show Qa.pick F (128 + d.val) * Qa.pick F (128 + d.val) = _
    rw [e]

/-- The shared rotary key of a token, number by number. -/
def ropeAt (k : FVec Ideal S8x2048x64 .f32) (b : Fin 8) (l : Fin 2048) (n : ℕ) : EReal := if hn : n < 64 then k (ix3 b l ⟨n, hn⟩) else 0
/-- A key gain, number by number. -/
def gainAt (g : FVec Ideal S192 .f32) (n : ℕ) : EReal := if hn : n < 192 then g (ix1 ⟨n, hn⟩) else 0

theorem padded_apply (z : FVec Ideal S16384x768 .f32) (r : Fin 16384) (k : Fin 768) : padded z (ix2 r ⟨17408 + k.val, by omega⟩) = z (ix2 r k) := by
  pointwise [padded]

theorem joined_low (x : FVec Ideal S8x2048x512 .f32) (z : FVec Ideal S16384x128 .f32) (r : Fin 16384) (k : Fin 512) :
    joined x z (ix2 r ⟨k.val, by omega⟩) = x (ix3 (batch r) (place r) k) := by
  have := k.isLt
  pointwise [joined]

theorem joined_high (x : FVec Ideal S8x2048x512 .f32) (z : FVec Ideal S16384x128 .f32) (r : Fin 16384) (d : Fin 128) :
    joined x z (ix2 r ⟨640 + d.val, by omega⟩) = z (ix2 r d) := by
  have := d.isLt
  pointwise [joined]
  rw [dif_neg (by omega), dif_neg (by omega)]
  refine congrArg (fun k => z (ix2 r k)) (Fin.ext ?_)
  show 640 + d.val - 512 - 128 = d.val
  omega

theorem spreadKey_apply (k : FVec Ideal S8x2048x64 .f32) (r : Fin 16384) (d : Fin 128) : spreadKey k (ix2 r d) = spreadAt (ropeAt k (batch r) (place r)) d.val := by
  refine Eq.trans ?_ (spreadAt_split (fun n hn => k (ix3 (batch r) (place r) ⟨n, hn⟩)) d.val d.isLt)
  pointwise [spreadKey]

theorem latent_apply (x : FVec Ideal S8x2048x512 .f32) (z : FVec Ideal S16384x128 .f32) (r : Fin 16384) (k : Fin 512) :
    padded (joined x z) (ix2 r ⟨17408 + k.val, by omega⟩) = x (ix3 (batch r) (place r) k) :=
  (padded_apply _ r ⟨k.val, by omega⟩).trans (joined_low x z r k)

theorem rope_apply (x : FVec Ideal S8x2048x512 .f32) (k : FVec Ideal S8x2048x64 .f32) (r : Fin 16384) (d : Fin 128) :
    padded (joined x (spreadKey k)) (ix2 r ⟨18048 + d.val, by omega⟩) = spreadAt (ropeAt k (batch r) (place r)) d.val := by
  have e : (⟨18048 + d.val, by omega⟩ : Fin 18432) = ⟨17408 + (640 + d.val), by omega⟩ := Fin.ext (by show 18048 + d.val = 17408 + (640 + d.val); omega)
  rw [e]
  exact (padded_apply _ r ⟨640 + d.val, by omega⟩).trans ((joined_high x _ r d).trans (spreadKey_apply k r d))

theorem norm_apply (g : FVec Ideal S512 .f32) (k : Fin 512) : shapeCast S1x512 g shapeCasts_S512_S1x512 (ix2 0 k) = g (ix1 k) := by
  pointwise

theorem plainGains_apply (g : FVec Ideal S192 .f32) (d : Fin 128) : plainGains g (ix2 0 d) = gainAt g d.val := by
  unfold gainAt
  rw [dif_pos (by omega)]
  pointwise [plainGains]

theorem turnedGains_apply (g : FVec Ideal S192 .f32) (d : Fin 128) : turnedGains g (ix2 0 d) = spreadAt (fun j => gainAt g (128 + j)) d.val := by
  refine Eq.trans ?_ ((spreadAt_split (fun n hn => g (ix1 ⟨128 + n, by omega⟩)) d.val d.isLt).trans ?_)
  · pointwise [turnedGains]
  · congr 1
    funext n
    unfold gainAt
    by_cases hn : n < 64
    · rw [dif_pos hn, dif_pos (by omega)]
    · rw [dif_neg hn, dif_neg (by omega)]

/-- The column of head `h`'s number `n`. -/
abbrev column (h : Fin 16) (n : Fin 256) : Fin 4096 := ⟨h.val * 256 + n.val, by omega⟩
/-- Lane `d` of head `h` among the heads' 128. -/
abbrev half (h : Fin 16) (d : Fin 128) : Fin 2048 := ⟨128 * h.val + d.val, by omega⟩

theorem columns_apply (w : FVec Ideal S512x4096 .f32) (k : Fin 512) (h : Fin 16) (n : Fin 256) :
    shapeCast S512x16x256 w shapeCasts_S512x4096_S512x16x256 (ix3 k h n) = w (ix2 k (column h n)) := by
  pointwise

theorem keyWeights_apply (w : FVec Ideal S512x4096 .f32) (k : Fin 512) (h : Fin 16) (d : Fin 128) :
    keyWeights w (ix2 k (half h d)) = w (ix2 k (column h ⟨d.val, by omega⟩)) := by
  rw [← columns_apply w]
  unfold keyWeights
  generalize shapeCast S512x16x256 w shapeCasts_S512x4096_S512x16x256 = z
  pointwise
  have e1 : (⟨(128 * h.val + d.val) / 128, by omega⟩ : Fin 16) = h := Fin.ext (by show (128 * h.val + d.val) / 128 = h.val; omega)
  have e2 : (⟨(128 * h.val + d.val) % 128, by omega⟩ : Fin 256) = ⟨d.val, by omega⟩ := Fin.ext (by show (128 * h.val + d.val) % 128 = d.val; omega)
  rw [e1, e2]

theorem valueWeights_apply (w : FVec Ideal S512x4096 .f32) (k : Fin 512) (h : Fin 16) (d : Fin 128) :
    valueWeights w (ix2 k (half h d)) = w (ix2 k (column h ⟨128 + d.val, by omega⟩)) := by
  rw [← columns_apply w]
  unfold valueWeights
  generalize shapeCast S512x16x256 w shapeCasts_S512x4096_S512x16x256 = z
  pointwise
  have e1 : (⟨(128 * h.val + d.val) / 128, by omega⟩ : Fin 16) = h := Fin.ext (by show (128 * h.val + d.val) / 128 = h.val; omega)
  have e2 : (⟨128 + (128 * h.val + d.val) % 128, by omega⟩ : Fin 256) = ⟨128 + d.val, by omega⟩ := Fin.ext (by show 128 + (128 * h.val + d.val) % 128 = 128 + d.val; omega)
  rw [e1, e2]

end Cert.Proof.Kva

end
-- ==== Proof.KvaRef.lean ====
/-
The key and value projection written plainly: its two results at a place.
-/
module

public import proofs.«01_k».proof.Proof.Gen.KvaProjRefIdeal.Run
public import proofs.«01_k».proof.Proof.KvaHost

@[expose] public section

set_option maxRecDepth 16384

noncomputable section

open Idealize.ShloMosaic Idealize.ShloMosaic.TcCoe Idealize.SL.Sem

namespace Cert.Proof.Kva

open Cert.KvaProjRefIdeal Cert.KvaProjRefIdeal.Gen
open Cert.Proof.Qa (eps turned normedHeads angles)
open Cert.Proof.Rotary (batch place)

variable (x : FVec Ideal S8x2048x512 .f32) (kr : FVec Ideal S8x2048x64 .f32) (pos : IVec S8x2048 32) (g : FVec Ideal S512 .f32) (w : FVec Ideal S512x4096 .f32)
  (gk : FVec Ideal S192 .f32)

/-- The latents normed and multiplied by their gains, -/
abbrev normedLatents : FVec Ideal S8x2048x512 .f32 :=
  mulf (mulf x (broadcastInDim S8x2048x512 ![0, 1, 2] bcast_S8x2048x1_S8x2048x512_0_1_2 (Host.rsqrt (addf (Host.divf
      (broadcastInDim S8x2048x1 ![0, 1] bcast_S8x2048_S8x2048x1_0_1 (Host.reduceAdd (mulf x x) (constant S_ .f32 0x00000000#32) reducesTo_S8x2048x512_S8x2048_d2 h_S_))
      (broadcastInDim S8x2048x1 ![] bcast_S_S8x2048x1 (constant S_ .f32 0x44000000#32))) (broadcastInDim S8x2048x1 ![] bcast_S_S8x2048x1 (constant S_ .f32 0x358637BD#32))))))
    (broadcastInDim S8x2048x512 ![0, 1, 2] bcast_S1x1x512_S8x2048x512_0_1_2 (broadcastInDim S1x1x512 ![2] bcast_S512_S1x1x512_2 g))

/-- and projected: 256 numbers a head, -/
abbrev projected : FVec Ideal S8x2048x16x256 .f32 :=
  shapeCast _ (Host.dotGeneral dot_S8x2048x512_S512x4096_S8x2048x4096_2_0_01_1_n_n none (normedLatents x g) w) shapeCasts_S8x2048x4096_S8x2048x16x256

/-- the first 128 and the shared rotary key being the head's key, -/
abbrev joinedKeys (y : FVec Ideal S8x2048x16x256 .f32) : FVec Ideal S8x2048x16x192 .f32 :=
  concatenate S8x2048x16x192 3 [⟨S8x2048x16x128, extractStridedSlice S8x2048x16x128 ![0, 0, 0, 0] y slices_S8x2048x16x256_S8x2048x16x128_0_0_0_0⟩,
    ⟨S8x2048x16x64, broadcastInDim S8x2048x16x64 ![0, 1, 2, 3] bcast_S8x2048x1x64_S8x2048x16x64_0_1_2_3
      (broadcastInDim S8x2048x1x64 ![0, 1, 3] bcast_S8x2048x64_S8x2048x1x64_0_1_3 kr)⟩] concatenates_S8x2048x16x128_S8x2048x16x64_S8x2048x16x192_d3

/-- the last 128 its value. -/
abbrev valuePart (y : FVec Ideal S8x2048x16x256 .f32) : FVec Ideal S16384x2048 .f32 :=
  shapeCast _ (extractStridedSlice S8x2048x16x128 ![0, 0, 0, 128] y slices_S8x2048x16x256_S8x2048x16x128_0_0_0_128) shapeCasts_S8x2048x16x128_S16384x2048

/-- The reference's first result over its arguments, -/
abbrev keys : FVec Ideal S8x2048x16x192 .bf16 := truncf .bf16 (turned (normedHeads gk (joinedKeys kr (projected x g w))) (angles pos)) bitsLt_bf16_f32
/-- and its second. -/
abbrev values : FVec Ideal S16384x2048 .bf16 := truncf .bf16 (valuePart (projected x g w)) bitsLt_bf16_f32

theorem keys_eq (m : (ℓ : Loc nD τ sig) → Buf (Elt Ideal) ℓ) (c : Dev nD) : Value.res_main_v63 m c
    = keys (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

/-- A normed latent at a place. -/
def latentAt (b : Fin 8) (l : Fin 2048) (k : Fin 512) : EReal :=
  x (ix3 b l k) * Ideal.rsqrt (Ideal.div (∑ i : Fin 512, x (ix3 b l i) * x (ix3 b l i)) (Ideal.ofBits .f32 0x44000000#32) + eps) * g (ix1 k)

theorem normedLatents_apply (b : Fin 8) (l : Fin 2048) (k : Fin 512) : normedLatents x g (ix3 b l k) = latentAt x g b l k := by
  unfold latentAt
  pointwise [normedLatents]

/-- A head's projected number `n` at a token, -/
def projAt (b : Fin 8) (l : Fin 2048) (h : Fin 16) (n : Fin 256) : EReal := ∑ k : Fin 512, latentAt x g b l k * w (ix2 k (column h n))

theorem projected_apply (b : Fin 8) (l : Fin 2048) (h : Fin 16) (n : Fin 256) : projected x g w (ix4 b l h n) = projAt x g w b l h n := by
  unfold projAt
  simp only [← normedLatents_apply]
  unfold projected
  generalize normedLatents x g = z
  pointwise

/-- and its key's. -/
def keyAt (b : Fin 8) (l : Fin 2048) (h : Fin 16) (n : ℕ) : EReal := if hn : n < 128 then projAt x g w b l h ⟨n, by omega⟩ else ropeAt kr b l (n - 128)

theorem joinedKeys_apply (b : Fin 8) (l : Fin 2048) (h : Fin 16) (n : Fin 192) : joinedKeys kr (projected x g w) (ix4 b l h n) = keyAt x kr g w b l h n.val := by
  unfold keyAt ropeAt
  simp only [← projected_apply]
  generalize projected x g w = z
  have hn := n.isLt
  by_cases h1 : n.val < 128
  · rw [dif_pos h1]
    pointwise [joinedKeys]
    exact dif_pos h1
  · rw [dif_neg h1, dif_pos (by omega)]
    pointwise [joinedKeys]
    exact dif_neg h1

/-- What a head's key is multiplied by at a token, -/
def rootAt (b : Fin 8) (l : Fin 2048) (h : Fin 16) : EReal :=
  Ideal.rsqrt ((∑ i : Fin 192, keyAt x kr g w b l h i.val * keyAt x kr g w b l h i.val) * ((1 / 192 : ℝ) : EReal) + eps)

/-- and the key normed and multiplied by its gains. -/
def normAt (b : Fin 8) (l : Fin 2048) (h : Fin 16) (n : ℕ) : EReal := keyAt x kr g w b l h n * rootAt x kr g w b l h * gainAt gk n

theorem normedHeads_apply (b : Fin 8) (l : Fin 2048) (h : Fin 16) (n : Fin 192) :
    normedHeads gk (joinedKeys kr (projected x g w)) (ix4 b l h n) = normAt x kr g w gk b l h n.val := by
  unfold normAt rootAt gainAt
  rw [← Ideal.div_coe (by norm_num), ← AttnA.ofBits_192, dif_pos n.isLt]
  simp only [← joinedKeys_apply]
  generalize joinedKeys kr (projected x g w) = z
  pointwise [normedHeads]

theorem values_apply (r : Fin 16384) (h : Fin 16) (d : Fin 128) :
    values x g w (ix2 r (half h d)) = projAt x g w (batch r) (place r) h ⟨128 + d.val, by omega⟩ := by
  rw [← projected_apply]
  unfold values
  generalize projected x g w = z
  pointwise [valuePart]
  have e1 : (⟨(128 * h.val + d.val) / 128, by omega⟩ : Fin 16) = h := Fin.ext (by show (128 * h.val + d.val) / 128 = h.val; omega)
  have e2 : (⟨128 + (128 * h.val + d.val) % 128, by omega⟩ : Fin 256) = ⟨128 + d.val, by omega⟩ := Fin.ext (by show 128 + (128 * h.val + d.val) % 128 = 128 + d.val; omega)
  rw [e1, e2]

end Cert.Proof.Kva

end
-- ==== Proof.KvaBody.lean ====
/-
The key and value projection's kernel: what it leaves at a place of one block of 512 tokens, head by head.
-/
module

public import proofs.«01_k».proof.Proof.KvaRef
public import Idealize.ShloMosaic.Lib.Pipeline.ValueKit

@[expose] public section

set_option maxRecDepth 16384

noncomputable section

open Idealize.ShloMosaic Idealize.ShloMosaic.TcCoe Idealize.SL.Sem

namespace Cert.Proof.Kva

open Cert.KvaProjIdeal Cert.KvaProjIdeal.Gen
open Cert.Proof.Qa (eps lanes lanes_emb)

theorem head_slices (h : Fin 16) : S512x2048.Slices ![0, 128 * h.val] S512x128 :=
  ⟨rfl, fun a => by have := h.isLt; fin_cases a <;> simp <;> omega⟩

/-- What head `h`'s key is multiplied by: from its 128 projected numbers among the rows `y`, and the sum `s` of the squares of
    the rotary key shared by all heads. -/
def root (y : FVec Ideal S512x2048 .f32) (s : FVec Ideal S512x1 .f32) (h : Fin 16) : FVec Ideal S512x1 .f32 :=
  rsqrt (addf (mulf (addf (shapeCast S512x1 (multiReduction .add [1] S512
        (mulf (extractStridedSlice S512x128 ![0, 128 * h.val] y (head_slices h)) (extractStridedSlice S512x128 ![0, 128 * h.val] y (head_slices h)))
        0x00000000#32 reduces_S512x128_S512 (.inl rfl) rfl) shapeCasts_S512_S512x1) s)
      (broadcast S512x1 (Named.named κ "inv_qk_dim" 0x3BAAAAAB#32))) (broadcast S512x1 (Scalar.ofBits .f32 0x358637BD#32)))

/-- The head's lanes without a rotation, -/
def nope (y : FVec Ideal S512x2048 .f32) (s : FVec Ideal S512x1 .f32) (g : FVec Ideal S1x128 .f32) (h : Fin 16) : FVec Ideal S512x128 .bf16 :=
  truncf .bf16 (mulf (mulf (extractStridedSlice S512x128 ![0, 128 * h.val] y (head_slices h)) (broadcastTo S512x128 (root y s h) broadcasts_S512x1_S512x128))
    (broadcastTo S512x128 (shapeCast S1x128 g shapeCasts_S1x128_S1x128) broadcasts_S1x128_S512x128)) bitsLt_bf16_f32

/-- and the turned lanes `t`, with the row `o` added. -/
def rope (t : FVec Ideal S512x128 .f32) (o : FVec Ideal S1x128 .f32) (y : FVec Ideal S512x2048 .f32) (s : FVec Ideal S512x1 .f32) (h : Fin 16) : FVec Ideal S512x128 .bf16 :=
  truncf .bf16 (addf (mulf t (broadcastTo S512x128 (root y s h) broadcasts_S512x1_S512x128)) (broadcastTo S512x128 o broadcasts_S1x128_S512x128)) bitsLt_bf16_f32

theorem root_apply (y : FVec Ideal S512x2048 .f32) (s : FVec Ideal S512x1 .f32) (h : Fin 16) (a : Fin 512) :
    root y s h (ix2 a 0) = Ideal.rsqrt (((∑ e : Fin 128, y (ix2 a (half h e)) * y (ix2 a (half h e))) + s (ix2 a 0)) * ((1 / 192 : ℝ) : EReal) + eps) := by
  pointwise [root]
  rfl

theorem nope_apply (y : FVec Ideal S512x2048 .f32) (s : FVec Ideal S512x1 .f32) (g : FVec Ideal S1x128 .f32) (h : Fin 16) (a : Fin 512) (d : Fin 128) :
    nope y s g h (ix2 a d) = y (ix2 a (half h d)) * root y s h (ix2 a 0) * g (ix2 0 d) := by
  unfold nope
  generalize root y s h = z
  pointwise

theorem rope_at (t : FVec Ideal S512x128 .f32) (o : FVec Ideal S1x128 .f32) (y : FVec Ideal S512x2048 .f32) (s : FVec Ideal S512x1 .f32) (h : Fin 16) (a : Fin 512) (d : Fin 128) :
    rope t o y s h (ix2 a d) = t (ix2 a d) * root y s h (ix2 a 0) + o (ix2 0 d) := by
  unfold rope
  generalize root y s h = z
  pointwise

/-- A projected row's entry: the normed latents times a weight column, -/
theorem keyRows_apply (x : FVec Ideal S512x512 .bf16) (g : FVec Ideal S1x512 .f32) (w : FVec Ideal S512x2048 .bf16) (a : Fin 512) (j : Fin 2048) :
    k0_pay6 (F := Ideal) x g w (ix2 a j) = ∑ k : Fin 512, x (ix2 a k) * Ideal.rsqrt (Ideal.div (∑ l : Fin 512, x (ix2 a l) * x (ix2 a l)) (Ideal.ofBits .f32 0x44000000#32) + eps)
      * g (ix2 0 k) * w (ix2 k j) := by
  pointwise [k0_pay6, k0_pay5]

/-- for the values too. -/
theorem valueRows_apply (x : FVec Ideal S512x512 .bf16) (g : FVec Ideal S1x512 .f32) (w : FVec Ideal S512x2048 .bf16) (a : Fin 512) (j : Fin 2048) :
    k0_pay7 (F := Ideal) x g w (ix2 a j) = ∑ k : Fin 512, x (ix2 a k) * Ideal.rsqrt (Ideal.div (∑ l : Fin 512, x (ix2 a l) * x (ix2 a l)) (Ideal.ofBits .f32 0x44000000#32) + eps)
      * g (ix2 0 k) * w (ix2 k j) := by
  pointwise [k0_pay7, k0_pay5]

/-- The sum of the shared rotary key's squares, -/
theorem squares_apply (k : FVec Ideal S512x128 .bf16) (a : Fin 512) : k0_pay9 (F := Ideal) k (ix2 a 0) = ∑ d : Fin 128, k (ix2 a d) * k (ix2 a d) := by
  pointwise [k0_pay9, k0_pay8]

/-- the key multiplied by its gains -/
theorem gained_apply (k : FVec Ideal S512x128 .bf16) (g : FVec Ideal S1x128 .f32) (a : Fin 512) (d : Fin 128) :
    k0_pay10 (F := Ideal) k g (ix2 a d) = k (ix2 a d) * g (ix2 0 d) := by
  pointwise [k0_pay10, k0_pay8]

/-- and turned. -/
theorem turn_apply (v c s : FVec Ideal S512x128 .f32) (a : Fin 512) (d : Fin 128) :
    k0_pay11 (F := Ideal) v c s (ix2 a d) = v (ix2 a d) * c (ix2 a d) + v (ix2 a ⟨(d.val + 128 - 64) % 128, Nat.mod_lt _ (by decide)⟩) * s (ix2 a d) := by
  pointwise [k0_pay11]

/-- The added row is zero outside lane 32. -/
theorem added_zero (d : Fin 128) (hd : d.val ≠ 32) : k0_pay12 (F := Ideal) (ix2 0 d) = 0 := by
  have e : IntOp.cmpi .eq (BitVec.ofNat 32 d.val) 32#32 = 0#1 :=
    (by decide : ∀ e : Fin 128, e.val ≠ 32 → IntOp.cmpi .eq (BitVec.ofNat 32 e.val) 32#32 = 0#1) d hd
  pointwise [k0_pay12]
  rw [e]
  show (((0#32 : BitVec 32).toInt : ℝ) : EReal) = 0
  simp

section
variable (x0 : Vec Ideal S512x512 .bf16) (x1 : Vec Ideal S512x128 .bf16) (x2 : Vec Ideal S1x512 .f32) (x3 x4 : Vec Ideal S512x2048 .bf16)
  (x5 x6 : Vec Ideal S1x128 .f32) (x7 x8 : Vec Ideal S512x128 .f32)

/-- The projected rows of a block, -/
abbrev rows : FVec Ideal S512x2048 .f32 := k0_pay6 (View.ld x0 r0_0) (View.ld x2 r0_1) (View.ld x3 r0_2)
/-- its shared keys' sums of squares, -/
abbrev squares : FVec Ideal S512x1 .f32 := k0_pay9 (View.ld x1 r0_3)
/-- and these keys turned. -/
abbrev turnedRows : FVec Ideal S512x128 .f32 := k0_pay11 (k0_pay10 (View.ld x1 r0_3) (View.ld x6 r0_4)) (View.ld x7 r0_3) (View.ld x8 r0_3)

/-- What the body leaves in the keys' block, by place. -/
def block (y : S512x4096.Idx) : EReal :=
  if ((y 1).val % 256) < 128 then
    nope (rows x0 x2 x3) (squares x1) (View.ld x5 r0_4) ⟨(y 1).val / 256, by have : (y 1).val < 4096 := (y 1).isLt; omega⟩ (ix2 (y 0) ⟨(y 1).val % 128, Nat.mod_lt _ (by decide)⟩)
  else
    rope (turnedRows x1 x6 x7 x8) k0_pay12 (rows x0 x2 x3) (squares x1) ⟨(y 1).val / 256, by have : (y 1).val < 4096 := (y 1).isLt; omega⟩
      (ix2 (y 0) ⟨(y 1).val % 128, Nat.mod_lt _ (by decide)⟩)

theorem nope_piece (h : Fin 16) (x : S512x128.Idx) :
    nope (rows x0 x2 x3) (squares x1) (View.ld x5 r0_4) h x = block x0 x1 x2 x3 x5 x6 x7 x8 ((lanes (256 * h.val) (by omega)).emb x) := by
  obtain ⟨a, d, rfl⟩ : ∃ (a : Fin 512) (d : Fin 128), x = ix2 a d := ⟨x 0, x 1, eq_ix2 x⟩
  rw [lanes_emb]
  unfold block
  have hd := d.isLt
  rw [if_pos (by show (256 * h.val + d.val) % 256 < 128; omega)]
  have e : (⟨(256 * h.val + d.val) / 256, by omega⟩ : Fin 16) = h := Fin.ext (by show (256 * h.val + d.val) / 256 = h.val; omega)
  have e' : (⟨(256 * h.val + d.val) % 128, Nat.mod_lt _ (by decide)⟩ : Fin 128) = d := Fin.ext (by show (256 * h.val + d.val) % 128 = d.val; omega)
  show _ = nope (rows x0 x2 x3) (squares x1) (View.ld x5 r0_4) ⟨(256 * h.val + d.val) / 256, _⟩ (ix2 a ⟨(256 * h.val + d.val) % 128, _⟩)
  rw [e, e']

theorem rope_piece (h : Fin 16) (x : S512x128.Idx) :
    rope (turnedRows x1 x6 x7 x8) k0_pay12 (rows x0 x2 x3) (squares x1) h x
      = block x0 x1 x2 x3 x5 x6 x7 x8 ((lanes (256 * h.val + 128) (by omega)).emb x) := by
  obtain ⟨a, d, rfl⟩ : ∃ (a : Fin 512) (d : Fin 128), x = ix2 a d := ⟨x 0, x 1, eq_ix2 x⟩
  rw [lanes_emb]
  unfold block
  have hd := d.isLt
  rw [if_neg (by show ¬ (256 * h.val + 128 + d.val) % 256 < 128; omega)]
  have e : (⟨(256 * h.val + 128 + d.val) / 256, by omega⟩ : Fin 16) = h := Fin.ext (by show (256 * h.val + 128 + d.val) / 256 = h.val; omega)
  have e' : (⟨(256 * h.val + 128 + d.val) % 128, Nat.mod_lt _ (by decide)⟩ : Fin 128) = d := Fin.ext (by show (256 * h.val + 128 + d.val) % 128 = d.val; omega)
  show _ = rope (turnedRows x1 x6 x7 x8) k0_pay12 (rows x0 x2 x3) (squares x1) ⟨(256 * h.val + 128 + d.val) / 256, _⟩ (ix2 a ⟨(256 * h.val + 128 + d.val) % 128, _⟩)
  rw [e, e']

/-- The keys' block the body leaves, by place, -/
theorem keys_out (y : S512x4096.Idx) : out0_9 x0 x1 x2 x3 x4 x5 x6 x7 x8 y = block x0 x1 x2 x3 x5 x6 x7 x8 y := by
  unfold out0_9
  refine View.canon_apply_of_pieces (Val := Elt Ideal) (e := .bf16) (block x0 x1 x2 x3 x5 x6 x7 x8) _ ?_ y (cover0_9 _ _ _ _ _ _ _ _ _ _ _ _ _ _ _ _ _ _ _ _ _ _ _ _ _ _ _ _ _ _ _ _ y)
  simp only [List.forall_mem_cons]
  refine ⟨rope_piece x0 x1 x2 x3 x5 x6 x7 x8 15, nope_piece x0 x1 x2 x3 x5 x6 x7 x8 15, rope_piece x0 x1 x2 x3 x5 x6 x7 x8 14, nope_piece x0 x1 x2 x3 x5 x6 x7 x8 14,
    rope_piece x0 x1 x2 x3 x5 x6 x7 x8 13, nope_piece x0 x1 x2 x3 x5 x6 x7 x8 13, rope_piece x0 x1 x2 x3 x5 x6 x7 x8 12, nope_piece x0 x1 x2 x3 x5 x6 x7 x8 12,
    rope_piece x0 x1 x2 x3 x5 x6 x7 x8 11, nope_piece x0 x1 x2 x3 x5 x6 x7 x8 11, rope_piece x0 x1 x2 x3 x5 x6 x7 x8 10, nope_piece x0 x1 x2 x3 x5 x6 x7 x8 10,
    rope_piece x0 x1 x2 x3 x5 x6 x7 x8 9, nope_piece x0 x1 x2 x3 x5 x6 x7 x8 9, rope_piece x0 x1 x2 x3 x5 x6 x7 x8 8, nope_piece x0 x1 x2 x3 x5 x6 x7 x8 8,
    rope_piece x0 x1 x2 x3 x5 x6 x7 x8 7, nope_piece x0 x1 x2 x3 x5 x6 x7 x8 7, rope_piece x0 x1 x2 x3 x5 x6 x7 x8 6, nope_piece x0 x1 x2 x3 x5 x6 x7 x8 6,
    rope_piece x0 x1 x2 x3 x5 x6 x7 x8 5, nope_piece x0 x1 x2 x3 x5 x6 x7 x8 5, rope_piece x0 x1 x2 x3 x5 x6 x7 x8 4, nope_piece x0 x1 x2 x3 x5 x6 x7 x8 4,
    rope_piece x0 x1 x2 x3 x5 x6 x7 x8 3, nope_piece x0 x1 x2 x3 x5 x6 x7 x8 3, rope_piece x0 x1 x2 x3 x5 x6 x7 x8 2, nope_piece x0 x1 x2 x3 x5 x6 x7 x8 2,
    rope_piece x0 x1 x2 x3 x5 x6 x7 x8 1, nope_piece x0 x1 x2 x3 x5 x6 x7 x8 1, rope_piece x0 x1 x2 x3 x5 x6 x7 x8 0, nope_piece x0 x1 x2 x3 x5 x6 x7 x8 0, ?_⟩
  simp

/-- and the values'. -/
theorem values_out (y : S512x2048.Idx) : out0_10 x0 x1 x2 x3 x4 x5 x6 x7 x8 y
    = k0_pay7 (F := Ideal) (View.ld x0 r0_0) (View.ld x2 r0_1) (View.ld x4 r0_2) y := by
  unfold out0_10
  refine View.canon_apply_of_pieces (Val := Elt Ideal) (e := .bf16) (k0_pay7 (F := Ideal) (View.ld x0 r0_0) (View.ld x2 r0_1) (View.ld x4 r0_2)) _ ?_ y (cover0_10 _ y)
  simp only [List.forall_mem_cons]
  refine ⟨fun x => congrArg _ ?_, ?_⟩
  · funext a
    apply Fin.ext
    refine Eq.trans ?_ (Rect.emb_apply _ _ a).symm
    fin_cases a <;> simp
  · simp

end

end Cert.Proof.Kva

end
-- ==== Proof.KvaVal.lean ====
/-
The key and value projection: the two arrays its grid leaves.
-/
module

public import proofs.«01_k».proof.Proof.KvaBody

@[expose] public section

set_option maxRecDepth 16384

noncomputable section

open Idealize.ShloMosaic Idealize.ShloMosaic.TcCoe Idealize.SL.Sem
open Idealize.ShloMosaic.Pipeline (Dat)

namespace Cert.Proof.Kva

open Cert.KvaProjIdeal Cert.KvaProjIdeal.Gen
open Cert.Proof.Qa (lane ld_whole zero2)
open Cert.Proof.Rotary (batch place)

section
variable (x : FVec Ideal S8x2048x512 .f32) (kr : FVec Ideal S8x2048x64 .f32) (pos : IVec S8x2048 32) (g : FVec Ideal S512 .f32) (w : FVec Ideal S512x4096 .f32)
  (gk : FVec Ideal S192 .f32)

/-- A lane of a token's shared rotary key multiplied by its gain, -/
def gainedAt (r : Fin 16384) (d : ℕ) : EReal := spreadAt (ropeAt kr (batch r) (place r)) d * spreadAt (fun j => gainAt gk (128 + j)) d

/-- and turned. -/
def turnAt (r : Fin 16384) (d : Fin 128) : EReal :=
  gainedAt kr gk r d.val * Rotary.cosLanes pos (ix2 r d) + gainedAt kr gk r ((d.val + 128 - 64) % 128) * Rotary.sinLanes pos (ix2 r d)

/-- What the grid leaves at lane `d` of head `h`. -/
def lanesAt (r : Fin 16384) (h : Fin 16) (d : ℕ) : EReal :=
  if hd : d < 128 then keyAt x kr g w (batch r) (place r) h d * rootAt x kr g w (batch r) (place r) h * gainAt gk d
  else turnAt kr pos gk r ⟨(d - 128) % 128, Nat.mod_lt _ (by decide)⟩ * rootAt x kr g w (batch r) (place r) h
    + k0_pay12 (F := Ideal) (ix2 0 ⟨(d - 128) % 128, Nat.mod_lt _ (by decide)⟩)

/-- The keys' array the grid leaves. -/
def grid (y : S16384x4096.Idx) : EReal :=
  lanesAt x kr pos g w gk (y 0) ⟨(y 1).val / 256, by have : (y 1).val < 4096 := (y 1).isLt; omega⟩ ((y 1).val % 256)

theorem grid_lane (r : Fin 16384) (h : Fin 16) (d : Fin 256) : grid x kr pos g w gk (ix2 r (lane h d)) = lanesAt x kr pos g w gk r h d.val := by
  have e1 : (⟨(256 * h.val + d.val) / 256, by omega⟩ : Fin 16) = h := Fin.ext (by show (256 * h.val + d.val) / 256 = h.val; omega)
  have e2 : (256 * h.val + d.val) % 256 = d.val := by omega
  show lanesAt x kr pos g w gk r ⟨(256 * h.val + d.val) / 256, _⟩ ((256 * h.val + d.val) % 256) = _
  rw [e1, e2]

/-- The squares a key's factor is computed from. -/
theorem key_total (b : Fin 8) (l : Fin 2048) (h : Fin 16) :
    (∑ d : Fin 128, projAt x g w b l h ⟨d.val, by omega⟩ * projAt x g w b l h ⟨d.val, by omega⟩) + (∑ d : Fin 128, spreadAt (ropeAt kr b l) d.val * spreadAt (ropeAt kr b l) d.val)
      = ∑ i : Fin 192, keyAt x kr g w b l h i.val * keyAt x kr g w b l h i.val := by
  rw [← total (keyAt x kr g w b l h)]
  have e : (fun j => keyAt x kr g w b l h (128 + j)) = ropeAt kr b l := by
    funext j
    unfold keyAt
    rw [dif_neg (by omega)]
    exact congrArg _ (by omega)
  rw [e]
  refine congrArg (· + _) (Finset.sum_congr rfl fun d _ => ?_)
  unfold keyAt
  rw [dif_pos d.isLt]

end

variable (m : (ℓ : Loc nD τ sig) → Buf (Elt Ideal) ℓ)

/-- Where each grid point's blocks lie in their arrays. -/
theorem idx : ∀ t : Fin cfg0.N, win0_0.index t = ![(grid0.coords t 0).val, 34] ∧ win0_1.index t = ![(grid0.coords t 0).val, 141] ∧ win0_2.index t = ![0, 0]
    ∧ win0_3.index t = ![0, 0] ∧ win0_4.index t = ![0, 0] ∧ win0_5.index t = ![0, 0] ∧ win0_6.index t = ![0, 0]
    ∧ win0_7.index t = ![(grid0.coords t 0).val, 0] ∧ win0_8.index t = ![(grid0.coords t 0).val, 0]
    ∧ win0_9.index t = ![(grid0.coords t 0).val, 0] ∧ win0_10.index t = ![(grid0.coords t 0).val, 0] :=
  (by decide +kernel : ∀ t : Fin grid0.N, _)

/-- The token of row `a` of point `t`'s block. -/
abbrev token (t : Fin cfg0.N) (a : Fin 512) : Fin 16384 :=
  ⟨512 * (grid0.coords t 0).val + a.val, by have : (grid0.coords t 0).val < 32 := (grid0.coords t 0).isLt; omega⟩

theorem emb9 (t : Fin cfg0.N) (a : Fin 512) (j : Fin 4096) : ((cfg0.win 9).blk t).view.emb (ix2 a j) = ix2 (token t a) j := by
  blk_ext [idx t]

theorem emb10 (t : Fin cfg0.N) (a : Fin 512) (j : Fin 2048) : ((cfg0.win 10).blk t).view.emb (ix2 a j) = ix2 (token t a) j := by
  blk_ext [idx t]

theorem read0 (c : Dev nD) (t : Fin cfg0.N) (a : Fin 512) (k : Fin 512) :
    iblk m c 0 t (ix2 a k) = m ((c : Thread nD τ).loc main_arg0) (ix3 (batch (token t a)) (place (token t a)) k) := by
  refine Eq.trans ?_ ((congrFun (entry_latents m c) _).trans (latent_apply _ _ (token t a) k))
  refine congrArg (V m c main_v71) ?_
  blk_ext [iblk, idx t]

theorem read1 (c : Dev nD) (t : Fin cfg0.N) (a : Fin 512) (d : Fin 128) :
    iblk m c 1 t (ix2 a d) = spreadAt (ropeAt (m ((c : Thread nD τ).loc main_arg1)) (batch (token t a)) (place (token t a))) d.val := by
  refine Eq.trans ?_ ((congrFun (entry_latents m c) _).trans (rope_apply _ _ (token t a) d))
  refine congrArg (V m c main_v71) ?_
  blk_ext [iblk, idx t]

theorem read2 (c : Dev nD) (t : Fin cfg0.N) (k : Fin 512) : iblk m c 2 t (ix2 0 k) = m ((c : Thread nD τ).loc main_arg3) (ix1 k) := by
  refine Eq.trans ?_ ((congrFun (entry_norm m c) _).trans (norm_apply _ k))
  refine congrArg (V m c main_v72) ?_
  blk_ext [iblk, idx t]

theorem read3 (c : Dev nD) (t : Fin cfg0.N) (k : Fin 512) (h : Fin 16) (d : Fin 128) :
    iblk m c 3 t (ix2 k (half h d)) = m ((c : Thread nD τ).loc main_arg4) (ix2 k (column h ⟨d.val, by omega⟩)) := by
  refine Eq.trans ?_ ((congrFun (entry_keyWeights m c) _).trans (keyWeights_apply _ k h d))
  refine congrArg (V m c main_v3) ?_
  blk_ext [iblk, idx t]

theorem read4 (c : Dev nD) (t : Fin cfg0.N) (k : Fin 512) (h : Fin 16) (d : Fin 128) :
    iblk m c 4 t (ix2 k (half h d)) = m ((c : Thread nD τ).loc main_arg4) (ix2 k (column h ⟨128 + d.val, by omega⟩)) := by
  refine Eq.trans ?_ ((congrFun (entry_valueWeights m c) _).trans (valueWeights_apply _ k h d))
  refine congrArg (V m c main_v6) ?_
  blk_ext [iblk, idx t]

theorem read5 (c : Dev nD) (t : Fin cfg0.N) (d : Fin 128) : iblk m c 5 t (ix2 0 d) = gainAt (m ((c : Thread nD τ).loc main_arg5)) d.val := by
  refine Eq.trans ?_ ((congrFun (entry_plainGains m c) _).trans (plainGains_apply _ d))
  refine congrArg (V m c main_v8) ?_
  blk_ext [iblk, idx t]

theorem read6 (c : Dev nD) (t : Fin cfg0.N) (d : Fin 128) :
    iblk m c 6 t (ix2 0 d) = spreadAt (fun j => gainAt (m ((c : Thread nD τ).loc main_arg5)) (128 + j)) d.val := by
  refine Eq.trans ?_ ((congrFun (entry_turnedGains m c) _).trans (turnedGains_apply _ d))
  refine congrArg (V m c main_v14) ?_
  blk_ext [iblk, idx t]

theorem read7 (c : Dev nD) (t : Fin cfg0.N) (a : Fin 512) (d : Fin 128) :
    iblk m c 7 t (ix2 a d) = Rotary.cosLanes (m ((c : Thread nD τ).loc main_arg2)) (ix2 (token t a) d) := by
  refine Eq.trans ?_ (congrFun (entry_cos m c) _)
  refine congrArg (V m c main_v59) ?_
  blk_ext [iblk, idx t]

theorem read8 (c : Dev nD) (t : Fin cfg0.N) (a : Fin 512) (d : Fin 128) :
    iblk m c 8 t (ix2 a d) = Rotary.sinLanes (m ((c : Thread nD τ).loc main_arg2)) (ix2 (token t a) d) := by
  refine Eq.trans ?_ (congrFun (entry_sin m c) _)
  refine congrArg (V m c main_v61) ?_
  blk_ext [iblk, idx t]

/-- A projected row at a lane of a head. -/
theorem rows_apply (c : Dev nD) (t : Fin cfg0.N) (a : Fin 512) (h : Fin 16) (d : Fin 128) :
    (rows (iblk m c 0 t) (iblk m c 2 t) (iblk m c 3 t)) (ix2 a (half h d))
      = projAt (m ((c : Thread nD τ).loc main_arg0)) (m ((c : Thread nD τ).loc main_arg3)) (m ((c : Thread nD τ).loc main_arg4)) (batch (token t a)) (place (token t a)) h ⟨d.val, by omega⟩ := by
  unfold rows
  rw [ld_whole (s := S512x512) (e := .bf16) _ _ zero2, ld_whole (s := S1x512) (e := .f32) _ _ zero2, ld_whole (s := S512x2048) (e := .bf16) _ _ zero2]
  refine (keyRows_apply _ _ _ a (half h d)).trans ?_
  simp only [read0, read2, read3]
  rfl

theorem rows_key (c : Dev nD) (t : Fin cfg0.N) (a : Fin 512) (h : Fin 16) (d : Fin 128) :
    (rows (iblk m c 0 t) (iblk m c 2 t) (iblk m c 3 t)) (ix2 a (half h d))
      = keyAt (m ((c : Thread nD τ).loc main_arg0)) (m ((c : Thread nD τ).loc main_arg1)) (m ((c : Thread nD τ).loc main_arg3)) (m ((c : Thread nD τ).loc main_arg4))
          (batch (token t a)) (place (token t a)) h d.val := by
  rw [rows_apply, keyAt, dif_pos d.isLt]

theorem squares_at (c : Dev nD) (t : Fin cfg0.N) (a : Fin 512) : (squares (iblk m c 1 t)) (ix2 a 0)
    = ∑ d : Fin 128, spreadAt (ropeAt (m ((c : Thread nD τ).loc main_arg1)) (batch (token t a)) (place (token t a))) d.val
        * spreadAt (ropeAt (m ((c : Thread nD τ).loc main_arg1)) (batch (token t a)) (place (token t a))) d.val := by
  unfold squares
  rw [ld_whole (s := S512x128) (e := .bf16) _ _ zero2]
  refine (squares_apply _ a).trans ?_
  simp only [read1]

theorem root_at (c : Dev nD) (t : Fin cfg0.N) (a : Fin 512) (h : Fin 16) :
    root (rows (iblk m c 0 t) (iblk m c 2 t) (iblk m c 3 t)) (squares (iblk m c 1 t)) h (ix2 a 0)
      = rootAt (m ((c : Thread nD τ).loc main_arg0)) (m ((c : Thread nD τ).loc main_arg1)) (m ((c : Thread nD τ).loc main_arg3)) (m ((c : Thread nD τ).loc main_arg4)) (batch (token t a)) (place (token t a)) h := by
  rw [root_apply, squares_at]
  simp only [rows_apply]
  rw [key_total]
  rfl

theorem turned_at (c : Dev nD) (t : Fin cfg0.N) (a : Fin 512) (d : Fin 128) : (turnedRows (iblk m c 1 t) (iblk m c 6 t) (iblk m c 7 t) (iblk m c 8 t)) (ix2 a d)
    = turnAt (m ((c : Thread nD τ).loc main_arg1)) (m ((c : Thread nD τ).loc main_arg2)) (m ((c : Thread nD τ).loc main_arg5)) (token t a) d := by
  unfold turnedRows
  rw [ld_whole (s := S512x128) (e := .bf16) _ _ zero2, ld_whole (s := S1x128) (e := .f32) _ _ zero2, ld_whole (s := S512x128) (e := .f32) _ _ zero2,
    ld_whole (s := S512x128) (e := .f32) _ _ zero2]
  refine (turn_apply _ _ _ a d).trans ?_
  rw [gained_apply, gained_apply, read1, read1, read6, read6, read7, read8]
  rfl

/-- What the body leaves at place `y` of point `t`'s block of keys is the keys' array there, -/
theorem keys_point (c : Dev nD) (t : Fin cfg0.N) (y : S512x4096.Idx) : out0_9 (iblk m c 0 t) (iblk m c 1 t) (iblk m c 2 t) (iblk m c 3 t) (iblk m c 4 t) (iblk m c 5 t) (iblk m c 6 t) (iblk m c 7 t) (iblk m c 8 t) y
      = grid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb y) := by
  obtain ⟨a, j, rfl⟩ : ∃ (a : Fin 512) (j : Fin 4096), y = ix2 a j := ⟨y 0, y 1, eq_ix2 y⟩
  rw [emb9, keys_out]
  have hj := j.isLt
  unfold block grid lanesAt
  show (if j.val % 256 < 128 then
      nope (rows (iblk m c 0 t) (iblk m c 2 t) (iblk m c 3 t)) (squares (iblk m c 1 t)) (View.ld (iblk m c 5 t) r0_4) ⟨j.val / 256, by omega⟩ (ix2 a ⟨j.val % 128, Nat.mod_lt _ (by decide)⟩)
    else rope (turnedRows (iblk m c 1 t) (iblk m c 6 t) (iblk m c 7 t) (iblk m c 8 t)) k0_pay12 (rows (iblk m c 0 t) (iblk m c 2 t) (iblk m c 3 t)) (squares (iblk m c 1 t)) ⟨j.val / 256, by omega⟩ (ix2 a ⟨j.val % 128, Nat.mod_lt _ (by decide)⟩))
    = (if hd : j.val % 256 < 128 then _ else _)
  by_cases hd : j.val % 256 < 128
  · have e : j.val % 128 = j.val % 256 := by omega
    rw [if_pos hd, dif_pos hd, nope_apply, rows_key, root_at, ld_whole (s := S1x128) (e := .f32) _ _ zero2, read5]
    show keyAt _ _ _ _ _ _ _ (j.val % 128) * _ * gainAt _ (j.val % 128) = keyAt _ _ _ _ _ _ _ (j.val % 256) * _ * gainAt _ (j.val % 256)
    rw [e]
    rfl
  · rw [if_neg hd, dif_neg hd, rope_at, turned_at, root_at]
    have e : (⟨(j.val % 256 - 128) % 128, Nat.mod_lt _ (by decide)⟩ : Fin 128) = ⟨j.val % 128, Nat.mod_lt _ (by decide)⟩ :=
      Fin.ext (by show (j.val % 256 - 128) % 128 = j.val % 128; omega)
    show _ = turnAt _ _ _ (token t a) ⟨(j.val % 256 - 128) % 128, _⟩ * _ + k0_pay12 (F := Ideal) (ix2 0 ⟨(j.val % 256 - 128) % 128, _⟩)
    rw [e]
    rfl

/-- and of its block of values the reference's. -/
theorem values_point (c : Dev nD) (t : Fin cfg0.N) (y : S512x2048.Idx) : out0_10 (iblk m c 0 t) (iblk m c 1 t) (iblk m c 2 t) (iblk m c 3 t) (iblk m c 4 t) (iblk m c 5 t) (iblk m c 6 t) (iblk m c 7 t) (iblk m c 8 t) y
      = values (m ((c : Thread nD τ).loc main_arg0)) (m ((c : Thread nD τ).loc main_arg3)) (m ((c : Thread nD τ).loc main_arg4)) (((cfg0.win 10).blk t).view.emb y) := by
  obtain ⟨a, j, rfl⟩ : ∃ (a : Fin 512) (j : Fin 2048), y = ix2 a j := ⟨y 0, y 1, eq_ix2 y⟩
  obtain ⟨h, d, rfl⟩ : ∃ (h : Fin 16) (d : Fin 128), j = half h d :=
    ⟨⟨j.val / 128, by omega⟩, ⟨j.val % 128, Nat.mod_lt _ (by decide)⟩, Fin.ext (by show j.val = 128 * (j.val / 128) + j.val % 128; omega)⟩
  rw [emb10, values_out, values_apply]
  rw [ld_whole (s := S512x512) (e := .bf16) _ _ zero2, ld_whole (s := S1x512) (e := .f32) _ _ zero2, ld_whole (s := S512x2048) (e := .bf16) _ _ zero2]
  refine (valueRows_apply _ _ _ a (half h d)).trans ?_
  simp only [read0, read2, read4]
  rfl

/-- The two arrays after the run. -/
theorem keys_final (c : Dev nD) : (dats m 0 c).arrAt 9 (cfgs 0).N
    = grid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  exact keys_point m c t y

theorem values_final (c : Dev nD) : (dats m 0 c).arrAt 10 (cfgs 0).N
    = values (m ((c : Thread nD τ).loc main_arg0)) (m ((c : Thread nD τ).loc main_arg3)) (m ((c : Thread nD τ).loc main_arg4)) := by
  refine (dats m 0 c).arrAt_eq_of_covers 10 _ (by decide +kernel) fun t _ y => ?_
  blk_simp
  rw [after0_10]
  exact values_point m c t y

end Cert.Proof.Kva

end
-- ==== Proof.KvaEq.lean ====
/-
The key and value projection: what the host takes out of the keys' array is the plain computation's.
-/
module

public import proofs.«01_k».proof.Proof.KvaVal

@[expose] public section

set_option maxRecDepth 16384

noncomputable section

open Idealize.ShloMosaic Idealize.ShloMosaic.TcCoe Idealize.SL.Sem

namespace Cert.Proof.Kva

open Cert.KvaProjIdeal Cert.KvaProjIdeal.Gen
open Cert.Proof.Qa (eps lane columns row batch_row place_row columns_plain columns_low columns_high turned_plain turned_low turned_high angles_apply)
open Cert.Proof.Rotary (batch place CountsUp angle)

/-- The host operations after the grid take the heads' 192 columns out of the keys' array. -/
theorem tail_eq (W : Valuation τ sig (Elt Ideal)) :
    StableHlo.after (List.flatten [hostOps1]) W (Proc.devRef .tc main_v78) = columns (W (Proc.devRef .tc main_v73_0)) := by
  unfold_abbrev_sides
  simp only [List.flatten_cons, List.flatten_nil, List.append_nil, List.cons_append, List.nil_append]
  after_results
  rfl

/-! ## The factor of a key is a real number -/

theorem square_nonneg (x : EReal) : 0 ≤ x * x := by
  rcases le_total 0 x with h | h
  · exact mul_nonneg h h
  · rw [← neg_mul_neg]
    exact mul_nonneg (EReal.neg_nonneg.2 h) (EReal.neg_nonneg.2 h)

theorem eps_pos : 0 < eps := by
  unfold eps
  simp [Ideal.ofBits, Ideal.ieee]
  rw [← EReal.coe_mul]
  exact EReal.coe_pos.2 (by norm_num)

theorem rsqrt_real {z : EReal} (hz : 0 < z) : 0 ≤ Ideal.rsqrt z ∧ Ideal.rsqrt z ≠ ⊤ := by
  induction z with
  | bot => exact absurd hz (by simp)
  | top => simp
  | coe r =>
    have hr : 0 < r := by exact_mod_cast hz
    rw [Ideal.rsqrt_coe, if_neg (by linarith), if_neg (by linarith)]
    exact ⟨by exact_mod_cast (inv_nonneg.2 (Real.sqrt_nonneg r)), EReal.coe_ne_top _⟩

section
variable (x : FVec Ideal S8x2048x512 .f32) (kr : FVec Ideal S8x2048x64 .f32) {pos : IVec S8x2048 32} (g : FVec Ideal S512 .f32) (w : FVec Ideal S512x4096 .f32)
  (gk : FVec Ideal S192 .f32) (b : Fin 8) (l : Fin 2048) (h : Fin 16)

theorem rootAt_real : 0 ≤ rootAt x kr g w b l h ∧ rootAt x kr g w b l h ≠ ⊤ := by
  refine rsqrt_real (lt_of_lt_of_le eps_pos ?_)
  refine le_add_of_nonneg_left (mul_nonneg (Finset.sum_nonneg fun i _ => square_nonneg _) ?_)
  exact_mod_cast (by norm_num : (0 : ℝ) ≤ 1 / 192)

theorem keyAt_rope (n : ℕ) : keyAt x kr g w b l h (128 + n) = ropeAt kr b l n := by
  unfold keyAt
  rw [dif_neg (by omega)]
  exact congrArg _ (by omega)

/-- Two turned products times a head's factor. -/
theorem turn_out (k1 g1 k2 g2 p q : EReal) {s : EReal} (hs : 0 ≤ s ∧ s ≠ ⊤) :
    (k1 * g1 * p + k2 * g2 * q) * s = k1 * s * g1 * p + k2 * s * g2 * q := by
  rw [mul_comm, EReal.left_distrib_of_nonneg_of_ne_top hs.1 hs.2]
  congr 1 <;> ac_rfl

theorem gained_low (j : Fin 32) : gainedAt kr gk (row b l) j.val = ropeAt kr b l j.val * gainAt gk (128 + j.val) := by
  unfold gainedAt spreadAt
  rw [if_pos j.isLt, if_pos j.isLt, batch_row, place_row]

theorem gained_high (j : Fin 32) : gainedAt kr gk (row b l) (64 + j.val) = ropeAt kr b l (32 + j.val) * gainAt gk (160 + j.val) := by
  have hj := j.isLt
  have e : 64 + j.val - 32 = 32 + j.val := by omega
  have e' : 128 + (32 + j.val) = 160 + j.val := by omega
  unfold gainedAt spreadAt
  rw [if_neg (by omega), if_neg (by omega), if_pos (by omega), if_neg (by omega), if_neg (by omega), if_pos (by omega), batch_row, place_row, e]
  simp only [e']

theorem taken_plain (d : Fin 128) : columns (grid x kr pos g w gk) (ix4 b l h ⟨d.val, by omega⟩) = normAt x kr g w gk b l h d.val := by
  rw [columns_plain, grid_lane, lanesAt, dif_pos d.isLt, batch_row, place_row]
  rfl

theorem rope_first (j : Fin 32) : normAt x kr g w gk b l h (128 + j.val) = ropeAt kr b l j.val * rootAt x kr g w b l h * gainAt gk (128 + j.val) := by
  rw [normAt, keyAt_rope]

theorem rope_last (j : Fin 32) : normAt x kr g w gk b l h (160 + j.val) = ropeAt kr b l (32 + j.val) * rootAt x kr g w b l h * gainAt gk (160 + j.val) := by
  have e : 160 + j.val = 128 + (32 + j.val) := by omega
  rw [normAt, e, keyAt_rope]

variable (hp : CountsUp pos) (j : Fin 32)
include hp

theorem taken_low : columns (grid x kr pos g w gk) (ix4 b l h ⟨128 + j.val, by omega⟩)
    = normAt x kr g w gk b l h (128 + j.val) * Ideal.cos (angle pos b l j) - normAt x kr g w gk b l h (160 + j.val) * Ideal.sin (angle pos b l j) := by
  have hj := j.isLt
  have e : (⟨(128 + j.val - 128) % 128, Nat.mod_lt _ (by decide)⟩ : Fin 128) = ⟨j.val, by omega⟩ := Fin.ext (by show (128 + j.val - 128) % 128 = j.val; omega)
  have e' : (j.val + 128 - 64) % 128 = 64 + j.val := by omega
  rw [columns_low, grid_lane]
  show lanesAt x kr pos g w gk (row b l) h (128 + j.val) = _
  rw [lanesAt, dif_neg (by omega), e, added_zero _ (by show j.val ≠ 32; omega), add_zero, turnAt]
  show (gainedAt kr gk (row b l) j.val * _ + gainedAt kr gk (row b l) ((j.val + 128 - 64) % 128) * _) * _ = _
  rw [e', gained_low, gained_high, Rotary.cos_low hp, Rotary.sin_low hp, batch_row, place_row, turn_out _ _ _ _ _ _ (rootAt_real x kr g w b l h), rope_first, rope_last, mul_neg]
  rfl

theorem taken_high : columns (grid x kr pos g w gk) (ix4 b l h ⟨160 + j.val, by omega⟩)
    = normAt x kr g w gk b l h (128 + j.val) * Ideal.sin (angle pos b l j) + normAt x kr g w gk b l h (160 + j.val) * Ideal.cos (angle pos b l j) := by
  have hj := j.isLt
  have e : (⟨(192 + j.val - 128) % 128, Nat.mod_lt _ (by decide)⟩ : Fin 128) = ⟨64 + j.val, by omega⟩ := Fin.ext (by show (192 + j.val - 128) % 128 = 64 + j.val; omega)
  have e' : (64 + j.val + 128 - 64) % 128 = j.val := by omega
  rw [columns_high, grid_lane]
  show lanesAt x kr pos g w gk (row b l) h (192 + j.val) = _
  rw [lanesAt, dif_neg (by omega), e, added_zero _ (by show 64 + j.val ≠ 32; omega), add_zero, turnAt]
  show (gainedAt kr gk (row b l) (64 + j.val) * _ + gainedAt kr gk (row b l) ((64 + j.val + 128 - 64) % 128) * _) * _ = _
  rw [e', gained_low, gained_high, Rotary.cos_high hp, Rotary.sin_high hp, batch_row, place_row, turn_out _ _ _ _ _ _ (rootAt_real x kr g w b l h), rope_first, rope_last, add_comm]

/-- What the host takes out of the keys' array is the plain result, for positions that count up. -/
theorem value_eq : columns (grid x kr pos g w gk) = keys x kr pos g w gk := by
  funext i
  obtain ⟨b, l, h, n, rfl⟩ : ∃ (b : Fin 8) (l : Fin 2048) (h : Fin 16) (n : Fin 192), i = ix4 b l h n := ⟨i 0, i 1, i 2, i 3, eq_ix4 i⟩
  show _ = Qa.turned (Qa.normedHeads gk (joinedKeys kr (projected x g w))) (Qa.angles pos) (ix4 b l h n)
  by_cases h1 : n.val < 128
  · obtain ⟨d, hn⟩ : ∃ d : Fin 128, n = ⟨d.val, by omega⟩ := ⟨⟨n.val, h1⟩, rfl⟩
    rw [hn, taken_plain, turned_plain, normedHeads_apply]
  by_cases h2 : n.val < 160
  · obtain ⟨j, hn⟩ : ∃ j : Fin 32, n = ⟨128 + j.val, by omega⟩ := ⟨⟨n.val - 128, by omega⟩, Fin.ext (by show n.val = 128 + (n.val - 128); omega)⟩
    rw [hn, taken_low x kr g w gk b l h hp, turned_low, normedHeads_apply, normedHeads_apply, angles_apply]
  · obtain ⟨j, hn⟩ : ∃ j : Fin 32, n = ⟨160 + j.val, by omega⟩ := ⟨⟨n.val - 160, by omega⟩, Fin.ext (by show n.val = 160 + (n.val - 160); omega)⟩
    rw [hn, taken_high x kr g w gk b l h hp, turned_high, normedHeads_apply, normedHeads_apply, angles_apply]

end

end Cert.Proof.Kva

end
-- ==== Proof.Kva.lean ====
/-
The claims about branch A's key and value projection.
-/
module

public import proofs.«01_k».proof.Defs
public import proofs.«01_k».proof.Proof.Gen.KvaProj.Frame
public import proofs.«01_k».proof.Proof.KvaEq
public import proofs.«01_k».proof.Proof.RotaryPre

@[expose] public section

set_option maxRecDepth 16384

noncomputable section

open Idealize.ShloMosaic Idealize.ShloMosaic.TcCoe Idealize.SL.Sem

namespace Cert.Proof.Kva

section
open Cert.KvaProjIdeal Cert.KvaProjIdeal.Gen

variable (m : (ℓ : Loc nD τ sig) → Buf (Elt Ideal) ℓ) (ρ : Dev nD → PrngReg)

/-- After the run the first result is what the host takes out of the keys' array. -/
theorem tail_value (c : Dev nD) : Pipeline.afterTail₀ cfgs (dats m) 0 (V0 m) [hostOps1] c main_v78
    = Qa.columns (grid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  unfold Pipeline.afterTail₀
  rw [tail_eq, ← keys_final m c]
  exact congrArg Qa.columns (Pipeline.Dat.withArrays_arrAt (dats m 0 c) sharedIn0 (V0 m c) (A_eq m c) 9)

/-- The run: the two results, and the arguments as they were. -/
theorem run : θ_run defs (onTc (τ := τ) (main (F := Ideal))) ⟨m, fun _ => 0, ρ⟩ (fun r => ∀ c : Dev nD,
      r.2.mem ((c.tc : Thread nD τ).loc main_v78) = Qa.columns (grid (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
      ∧ r.2.mem ((c.tc : Thread nD τ).loc main_v73_1) = values (m ((c : Thread nD τ).loc main_arg0)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v78 (Pipeline.mem_restRefs_of main_v78 (by decide) (by decide))).trans (tail_value m c),
      ((h c).1 10).trans (values_final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end

/-- The key and value projection runs to the end, leaves its arguments unchanged and every counter at zero. -/
theorem frame_kernel : Cert.quiescent_KvaProj := fun m ρ _ => Cert.KvaProj.Gen.frame m ρ

/-- The same of its exact reading, of the reference, and of both under the precondition. -/
theorem frame_ideal : Cert.quiescent_KvaProjIdeal := fun m ρ _ => Cert.KvaProjIdeal.Gen.frame m ρ
theorem frame_ideal_pre : Cert.quiescent_KvaProjIdeal_pre_counts_up_kva := fun m ρ _ => Cert.KvaProjIdeal.Gen.frame m ρ
theorem frame_reference : Cert.quiescent_KvaProjRefIdeal := fun m ρ _ =>
  (θ_run Cert.KvaProjRefIdeal.defs _ _).mono
    (fun r h => ⟨fun c => (h c).2.2, sem_eq_zero_of_no_sems rfl r.2⟩) (Cert.KvaProjRefIdeal.Value.run m ρ)
theorem frame_reference_pre : Cert.quiescent_KvaProjRefIdeal_pre_counts_up_kva := fun m ρ _ =>
  (θ_run Cert.KvaProjRefIdeal.defs _ _).mono
    (fun r h => ⟨fun c => (h c).2.2, sem_eq_zero_of_no_sems rfl r.2⟩) (Cert.KvaProjRefIdeal.Value.run m ρ)

/-- The kernel's literal may be read as the named constant 1/192. -/
theorem preserved : Cert.preserves_KvaProj_KvaProjIdeal := IdealRules.named_const.statement _ _ _ _ _ rfl

/-- Over the extended reals the projection and the reference end with the same two arrays, for positions that count up. -/
theorem equal : Cert.algebraic_KvaProjIdeal_KvaProjRefIdeal_pre_counts_up_kva := by
  intro m ρ m' ρ' hpre hargs
  refine ⟨_, _, run m ρ, ?_⟩
  refine (θ_run Cert.KvaProjRefIdeal.defs _ _).mono (fun r h c => ⟨(h c).1.trans ?_, (h c).2.1.trans ?_, (h c).2.2⟩) (Cert.KvaProjRefIdeal.Value.run m' ρ')
  all_goals obtain ⟨h0, h1, h2, h3, h4, h5⟩ := hargs c
  · rw [keys_eq, h0, h1, h2, h3, h4, h5]
    exact (value_eq _ _ _ _ _ (Rotary.of_counts_up_kva (hpre c))).symm
  · rw [h0, h3, h4]

end Cert.Proof.Kva

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.InProj
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.ReferenceIdeal
public import proofs.«01_k».proof.Proof.Gen.ReferenceIdeal.Run
public import proofs.«01_k».proof.Proof.Gen.OutProjRefIdeal
public import proofs.«01_k».proof.Proof.Gen.OutProjRefIdeal.Run
public import proofs.«01_k».proof.Proof.Gen.MergeRefIdeal
public import proofs.«01_k».proof.Proof.Gen.MergeRefIdeal.Run
public import proofs.«01_k».proof.Proof.Gen.InProjRefIdeal
public import proofs.«01_k».proof.Proof.Gen.InProjRefIdeal.Run
public import proofs.«01_k».proof.Proof.Gen.Pre_in_order
public import proofs.«01_k».proof.Proof.Gen.QaProj
public import proofs.«01_k».proof.Proof.Gen.QaProj.Skeleton
public import proofs.«01_k».proof.Proof.Gen.QaProj.Launch
public import proofs.«01_k».proof.Proof.Gen.QaProj.Points
public import proofs.«01_k».proof.Proof.Gen.QaProj.Frame
public import proofs.«01_k».proof.Proof.Gen.QaProjIdeal
public import proofs.«01_k».proof.Proof.Gen.QaProjIdeal.Skeleton
public import proofs.«01_k».proof.Proof.Gen.QaProjIdeal.Launch
public import proofs.«01_k».proof.Proof.Gen.QaProjIdeal.Points
public import proofs.«01_k».proof.Proof.Gen.QaProjIdeal.Frame
public import proofs.«01_k».proof.Proof.Gen.QaProjRefIdeal
public import proofs.«01_k».proof.Proof.Gen.QaProjRefIdeal.Run
public import proofs.«01_k».proof.Proof.Gen.KvaProj
public import proofs.«01_k».proof.Proof.Gen.KvaProj.Skeleton
public import proofs.«01_k».proof.Proof.Gen.KvaProj.Launch
public import proofs.«01_k».proof.Proof.Gen.KvaProj.Points
public import proofs.«01_k».proof.Proof.Gen.KvaProj.Frame
public import proofs.«01_k».proof.Proof.Gen.KvaProjIdeal
public import proofs.«01_k».proof.Proof.Gen.KvaProjIdeal.Skeleton
public import proofs.«01_k».proof.Proof.Gen.KvaProjIdeal.Launch
public import proofs.«01_k».proof.Proof.Gen.KvaProjIdeal.Points
public import proofs.«01_k».proof.Proof.Gen.KvaProjIdeal.Frame
public import proofs.«01_k».proof.Proof.Gen.KvaProjRefIdeal
public import proofs.«01_k».proof.Proof.Gen.KvaProjRefIdeal.Run
public import proofs.«01_k».proof.Proof.Gen.Pre_counts_up_qa
public import proofs.«01_k».proof.Proof.Gen.Pre_counts_up_kva
public import proofs.«01_k».proof.Proof.AttnA
public import proofs.«01_k».proof.Proof.OutProj
public import proofs.«01_k».proof.Proof.Merge
public import proofs.«01_k».proof.Proof.InProj
public import proofs.«01_k».proof.Proof.Qa
public import proofs.«01_k».proof.Proof.Kva

@[expose] public section

noncomputable section

namespace Cert.Proof

theorem claim : Cert.Claim :=
  ⟨Cert.Kernel.Gen.facts, Cert.KernelIdeal.Gen.facts, Cert.ReferenceIdeal.Gen.facts,
    Cert.OutProj.Gen.facts, Cert.OutProjIdeal.Gen.facts, Cert.OutProjRefIdeal.Gen.facts,
    Cert.Merge.Gen.facts, Cert.MergeIdeal.Gen.facts, Cert.MergeRefIdeal.Gen.facts,
    Cert.InProj.Gen.facts, Cert.InProjIdeal.Gen.facts, Cert.InProjRefIdeal.Gen.facts,
    Cert.QaProj.Gen.facts, Cert.QaProjIdeal.Gen.facts, Cert.QaProjRefIdeal.Gen.facts,
    Cert.KvaProj.Gen.facts, Cert.KvaProjIdeal.Gen.facts, Cert.KvaProjRefIdeal.Gen.facts,
    Cert.Pre_in_order.Gen.facts, Cert.Pre_counts_up_qa.Gen.facts, Cert.Pre_counts_up_kva.Gen.facts,
    AttnA.frame_kernel, AttnA.frame_ideal, AttnA.frame_ideal_pre, AttnA.frame_reference, AttnA.frame_reference_pre,
    OutProj.frame_kernel, OutProj.frame_ideal, OutProj.frame_reference,
    Merge.frame_kernel, Merge.frame_ideal, Merge.frame_reference,
    InProj.frame_kernel, InProj.frame_ideal, InProj.frame_reference,
    Qa.frame_kernel, Qa.frame_ideal, Qa.frame_ideal_pre, Qa.frame_reference, Qa.frame_reference_pre,
    Kva.frame_kernel, Kva.frame_ideal, Kva.frame_ideal_pre, Kva.frame_reference, Kva.frame_reference_pre,
    trivial, AttnA.equal, trivial, OutProj.equal, trivial, Merge.equal, trivial, InProj.equal,
    Qa.preserved, Qa.equal, Kva.preserved, Kva.equal⟩

end Cert.Proof

end
